-- ==== Defs.lean ====
def Pre_RetKernel (m : (ℓ : Loc Cert.RetKernel.nD Cert.RetKernel.τ Cert.RetKernel.sig) → Buf (Elt Bits) ℓ) : Prop :=
  True

def Pre_RetKernelIdeal (m : (ℓ : Loc Cert.RetKernelIdeal.nD Cert.RetKernelIdeal.τ Cert.RetKernelIdeal.sig) → Buf (Elt Ideal) ℓ) : Prop :=
  True

def Pre_RetReferenceIdeal (m : (ℓ : Loc Cert.RetReferenceIdeal.nD Cert.RetReferenceIdeal.τ Cert.RetReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_ResidKernel (m : (ℓ : Loc Cert.ResidKernel.nD Cert.ResidKernel.τ Cert.ResidKernel.sig) → Buf (Elt Bits) ℓ) : Prop :=
  True

def Pre_ResidKernelIdeal (m : (ℓ : Loc Cert.ResidKernelIdeal.nD Cert.ResidKernelIdeal.τ Cert.ResidKernelIdeal.sig) → Buf (Elt Ideal) ℓ) : Prop :=
  True

def Pre_ResidReferenceIdeal (m : (ℓ : Loc Cert.ResidReferenceIdeal.nD Cert.ResidReferenceIdeal.τ Cert.ResidReferenceIdeal.sig) → Buf (Elt Ideal) ℓ) : Prop :=
  True

def Pre_AdaKernel (m : (ℓ : Loc Cert.AdaKernel.nD Cert.AdaKernel.τ Cert.AdaKernel.sig) → Buf (Elt Bits) ℓ) : Prop :=
  True

def Pre_AdaKernelIdeal (m : (ℓ : Loc Cert.AdaKernelIdeal.nD Cert.AdaKernelIdeal.τ Cert.AdaKernelIdeal.sig) → Buf (Elt Ideal) ℓ) : Prop :=
  True

def Pre_AdaReferenceIdeal (m : (ℓ : Loc Cert.AdaReferenceIdeal.nD Cert.AdaReferenceIdeal.τ Cert.AdaReferenceIdeal.sig) → Buf (Elt Ideal) ℓ) : Prop :=
  True

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_AttKernel (m : (ℓ : Loc Cert.AttKernel.nD Cert.AttKernel.τ Cert.AttKernel.sig) → Buf (Elt Bits) ℓ) : Prop :=
  True

def Pre_AttKernelIdeal (m : (ℓ : Loc Cert.AttKernelIdeal.nD Cert.AttKernelIdeal.τ Cert.AttKernelIdeal.sig) → Buf (Elt Ideal) ℓ) : Prop :=
  True

def Pre_AttKernelIdeal_finite [hPre_finite : Cert.Pre_finite.Facts] (m : (ℓ : Loc Cert.AttKernelIdeal.nD Cert.AttKernelIdeal.τ Cert.AttKernelIdeal.sig) → Buf (Elt Ideal) ℓ) : Prop :=
  ∀ c : Dev Cert.AttKernelIdeal.nD,
    (Cert.Pre_finite.fn (F := Ideal) (m ((c.tc : Thread Cert.AttKernelIdeal.nD Cert.AttKernelIdeal.τ).loc Cert.AttKernelIdeal.main_arg0)) (m ((c.tc : Thread Cert.AttKernelIdeal.nD Cert.AttKernelIdeal.τ).loc Cert.AttKernelIdeal.main_arg1))).1 = (fun _ => 1#1)
    ∧ (Cert.Pre_finite.fn (F := Ideal) (m ((c.tc : Thread Cert.AttKernelIdeal.nD Cert.AttKernelIdeal.τ).loc Cert.AttKernelIdeal.main_arg0)) (m ((c.tc : Thread Cert.AttKernelIdeal.nD Cert.AttKernelIdeal.τ).loc Cert.AttKernelIdeal.main_arg1))).2 = (fun _ => 1#1)

def Pre_AttReferenceIdeal (m : (ℓ : Loc Cert.AttReferenceIdeal.nD Cert.AttReferenceIdeal.τ Cert.AttReferenceIdeal.sig) → Buf (Elt Ideal) ℓ) : Prop :=
  True

def Pre_AttReferenceIdeal_finite [hPre_finite : Cert.Pre_finite.Facts] (m : (ℓ : Loc Cert.AttReferenceIdeal.nD Cert.AttReferenceIdeal.τ Cert.AttReferenceIdeal.sig) → Buf (Elt Ideal) ℓ) : Prop :=
  ∀ c : Dev Cert.AttReferenceIdeal.nD,
    (Cert.Pre_finite.fn (F := Ideal) (m ((c.tc : Thread Cert.AttReferenceIdeal.nD Cert.AttReferenceIdeal.τ).loc Cert.AttReferenceIdeal.main_arg0)) (m ((c.tc : Thread Cert.AttReferenceIdeal.nD Cert.AttReferenceIdeal.τ).loc Cert.AttReferenceIdeal.main_arg1))).1 = (fun _ => 1#1)
    ∧ (Cert.Pre_finite.fn (F := Ideal) (m ((c.tc : Thread Cert.AttReferenceIdeal.nD Cert.AttReferenceIdeal.τ).loc Cert.AttReferenceIdeal.main_arg0)) (m ((c.tc : Thread Cert.AttReferenceIdeal.nD Cert.AttReferenceIdeal.τ).loc Cert.AttReferenceIdeal.main_arg1))).2 = (fun _ => 1#1)

def quiescent_RetKernel [hRetKernel : Cert.RetKernel.Facts] : Prop :=
  ∀ (m : (ℓ : Loc Cert.RetKernel.nD Cert.RetKernel.τ Cert.RetKernel.sig) → Buf (Elt Bits) ℓ) (g : Dev Cert.RetKernel.nD → PrngReg), Pre_RetKernel m →
    θ_run (Cert.RetKernel.defs (F := Bits)) (onTc (τ := Cert.RetKernel.τ) (Cert.RetKernel.main (F := Bits))) ⟨m, fun _ => 0, g⟩ (fun r => (∀ c : Dev Cert.RetKernel.nD,
      r.2.mem ((c.tc : Thread Cert.RetKernel.nD Cert.RetKernel.τ).loc Cert.RetKernel.main_arg0) = m ((c.tc : Thread Cert.RetKernel.nD Cert.RetKernel.τ).loc Cert.RetKernel.main_arg0))
      ∧ r.2.sem = fun _ => 0)

def quiescent_RetKernelIdeal [hRetKernelIdeal : Cert.RetKernelIdeal.Facts] : Prop :=
  ∀ (m : (ℓ : Loc Cert.RetKernelIdeal.nD Cert.RetKernelIdeal.τ Cert.RetKernelIdeal.sig) → Buf (Elt Ideal) ℓ) (g : Dev Cert.RetKernelIdeal.nD → PrngReg), Pre_RetKernelIdeal m →
    θ_run (Cert.RetKernelIdeal.defs (F := Ideal)) (onTc (τ := Cert.RetKernelIdeal.τ) (Cert.RetKernelIdeal.main (F := Ideal))) ⟨m, fun _ => 0, g⟩ (fun r => (∀ c : Dev Cert.RetKernelIdeal.nD,
      r.2.mem ((c.tc : Thread Cert.RetKernelIdeal.nD Cert.RetKernelIdeal.τ).loc Cert.RetKernelIdeal.main_arg0) = m ((c.tc : Thread Cert.RetKernelIdeal.nD Cert.RetKernelIdeal.τ).loc Cert.RetKernelIdeal.main_arg0))
      ∧ r.2.sem = fun _ => 0)

def quiescent_RetReferenceIdeal [hRetReferenceIdeal : Cert.RetReferenceIdeal.Facts] : Prop :=
  ∀ (m : (ℓ : Loc Cert.RetReferenceIdeal.nD Cert.RetReferenceIdeal.τ Cert.RetReferenceIdeal.sig) → Buf (Elt Ideal) ℓ) (g : Dev Cert.RetReferenceIdeal.nD → PrngReg), Pre_RetReferenceIdeal m →
    θ_run (Cert.RetReferenceIdeal.defs (F := Ideal)) (onTc (τ := Cert.RetReferenceIdeal.τ) (Cert.RetReferenceIdeal.main (F := Ideal))) ⟨m, fun _ => 0, g⟩ (fun r => (∀ c : Dev Cert.RetReferenceIdeal.nD,
      r.2.mem ((c.tc : Thread Cert.RetReferenceIdeal.nD Cert.RetReferenceIdeal.τ).loc Cert.RetReferenceIdeal.main_arg0) = m ((c.tc : Thread Cert.RetReferenceIdeal.nD Cert.RetReferenceIdeal.τ).loc Cert.RetReferenceIdeal.main_arg0))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3)
      ∧ r.2.mem ((c.tc : Thread Cert.InKernel.nD Cert.InKernel.τ).loc Cert.InKernel.main_arg4) = m ((c.tc : Thread Cert.InKernel.nD Cert.InKernel.τ).loc Cert.InKernel.main_arg4))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4))
      ∧ r.2.sem = fun _ => 0)

def quiescent_ResidKernel [hResidKernel : Cert.ResidKernel.Facts] : Prop :=
  ∀ (m : (ℓ : Loc Cert.ResidKernel.nD Cert.ResidKernel.τ Cert.ResidKernel.sig) → Buf (Elt Bits) ℓ) (g : Dev Cert.ResidKernel.nD → PrngReg), Pre_ResidKernel m →
    θ_run (Cert.ResidKernel.defs (F := Bits)) (onTc (τ := Cert.ResidKernel.τ) (Cert.ResidKernel.main (F := Bits))) ⟨m, fun _ => 0, g⟩ (fun r => (∀ c : Dev Cert.ResidKernel.nD,
      r.2.mem ((c.tc : Thread Cert.ResidKernel.nD Cert.ResidKernel.τ).loc Cert.ResidKernel.main_arg0) = m ((c.tc : Thread Cert.ResidKernel.nD Cert.ResidKernel.τ).loc Cert.ResidKernel.main_arg0)
      ∧ r.2.mem ((c.tc : Thread Cert.ResidKernel.nD Cert.ResidKernel.τ).loc Cert.ResidKernel.main_arg1) = m ((c.tc : Thread Cert.ResidKernel.nD Cert.ResidKernel.τ).loc Cert.ResidKernel.main_arg1)
      ∧ r.2.mem ((c.tc : Thread Cert.ResidKernel.nD Cert.ResidKernel.τ).loc Cert.ResidKernel.main_arg2) = m ((c.tc : Thread Cert.ResidKernel.nD Cert.ResidKernel.τ).loc Cert.ResidKernel.main_arg2)
      ∧ r.2.mem ((c.tc : Thread Cert.ResidKernel.nD Cert.ResidKernel.τ).loc Cert.ResidKernel.main_arg3) = m ((c.tc : Thread Cert.ResidKernel.nD Cert.ResidKernel.τ).loc Cert.ResidKernel.main_arg3))
      ∧ r.2.sem = fun _ => 0)

def quiescent_ResidKernelIdeal [hResidKernelIdeal : Cert.ResidKernelIdeal.Facts] : Prop :=
  ∀ (m : (ℓ : Loc Cert.ResidKernelIdeal.nD Cert.ResidKernelIdeal.τ Cert.ResidKernelIdeal.sig) → Buf (Elt Ideal) ℓ) (g : Dev Cert.ResidKernelIdeal.nD → PrngReg), Pre_ResidKernelIdeal m →
    θ_run (Cert.ResidKernelIdeal.defs (F := Ideal)) (onTc (τ := Cert.ResidKernelIdeal.τ) (Cert.ResidKernelIdeal.main (F := Ideal))) ⟨m, fun _ => 0, g⟩ (fun r => (∀ c : Dev Cert.ResidKernelIdeal.nD,
      r.2.mem ((c.tc : Thread Cert.ResidKernelIdeal.nD Cert.ResidKernelIdeal.τ).loc Cert.ResidKernelIdeal.main_arg0) = m ((c.tc : Thread Cert.ResidKernelIdeal.nD Cert.ResidKernelIdeal.τ).loc Cert.ResidKernelIdeal.main_arg0)
      ∧ r.2.mem ((c.tc : Thread Cert.ResidKernelIdeal.nD Cert.ResidKernelIdeal.τ).loc Cert.ResidKernelIdeal.main_arg1) = m ((c.tc : Thread Cert.ResidKernelIdeal.nD Cert.ResidKernelIdeal.τ).loc Cert.ResidKernelIdeal.main_arg1)
      ∧ r.2.mem ((c.tc : Thread Cert.ResidKernelIdeal.nD Cert.ResidKernelIdeal.τ).loc Cert.ResidKernelIdeal.main_arg2) = m ((c.tc : Thread Cert.ResidKernelIdeal.nD Cert.ResidKernelIdeal.τ).loc Cert.ResidKernelIdeal.main_arg2)
      ∧ r.2.mem ((c.tc : Thread Cert.ResidKernelIdeal.nD Cert.ResidKernelIdeal.τ).loc Cert.ResidKernelIdeal.main_arg3) = m ((c.tc : Thread Cert.ResidKernelIdeal.nD Cert.ResidKernelIdeal.τ).loc Cert.ResidKernelIdeal.main_arg3))
      ∧ r.2.sem = fun _ => 0)

def quiescent_ResidReferenceIdeal [hResidReferenceIdeal : Cert.ResidReferenceIdeal.Facts] : Prop :=
  ∀ (m : (ℓ : Loc Cert.ResidReferenceIdeal.nD Cert.ResidReferenceIdeal.τ Cert.ResidReferenceIdeal.sig) → Buf (Elt Ideal) ℓ) (g : Dev Cert.ResidReferenceIdeal.nD → PrngReg), Pre_ResidReferenceIdeal m →
    θ_run (Cert.ResidReferenceIdeal.defs (F := Ideal)) (onTc (τ := Cert.ResidReferenceIdeal.τ) (Cert.ResidReferenceIdeal.main (F := Ideal))) ⟨m, fun _ => 0, g⟩ (fun r => (∀ c : Dev Cert.ResidReferenceIdeal.nD,
      r.2.mem ((c.tc : Thread Cert.ResidReferenceIdeal.nD Cert.ResidReferenceIdeal.τ).loc Cert.ResidReferenceIdeal.main_arg0) = m ((c.tc : Thread Cert.ResidReferenceIdeal.nD Cert.ResidReferenceIdeal.τ).loc Cert.ResidReferenceIdeal.main_arg0)
      ∧ r.2.mem ((c.tc : Thread Cert.ResidReferenceIdeal.nD Cert.ResidReferenceIdeal.τ).loc Cert.ResidReferenceIdeal.main_arg1) = m ((c.tc : Thread Cert.ResidReferenceIdeal.nD Cert.ResidReferenceIdeal.τ).loc Cert.ResidReferenceIdeal.main_arg1)
      ∧ r.2.mem ((c.tc : Thread Cert.ResidReferenceIdeal.nD Cert.ResidReferenceIdeal.τ).loc Cert.ResidReferenceIdeal.main_arg2) = m ((c.tc : Thread Cert.ResidReferenceIdeal.nD Cert.ResidReferenceIdeal.τ).loc Cert.ResidReferenceIdeal.main_arg2)
      ∧ r.2.mem ((c.tc : Thread Cert.ResidReferenceIdeal.nD Cert.ResidReferenceIdeal.τ).loc Cert.ResidReferenceIdeal.main_arg3) = m ((c.tc : Thread Cert.ResidReferenceIdeal.nD Cert.ResidReferenceIdeal.τ).loc Cert.ResidReferenceIdeal.main_arg3))
      ∧ r.2.sem = fun _ => 0)

def quiescent_AdaKernel [hAdaKernel : Cert.AdaKernel.Facts] : Prop :=
  ∀ (m : (ℓ : Loc Cert.AdaKernel.nD Cert.AdaKernel.τ Cert.AdaKernel.sig) → Buf (Elt Bits) ℓ) (g : Dev Cert.AdaKernel.nD → PrngReg), Pre_AdaKernel m →
    θ_run (Cert.AdaKernel.defs (F := Bits)) (onTc (τ := Cert.AdaKernel.τ) (Cert.AdaKernel.main (F := Bits))) ⟨m, fun _ => 0, g⟩ (fun r => (∀ c : Dev Cert.AdaKernel.nD,
      r.2.mem ((c.tc : Thread Cert.AdaKernel.nD Cert.AdaKernel.τ).loc Cert.AdaKernel.main_arg0) = m ((c.tc : Thread Cert.AdaKernel.nD Cert.AdaKernel.τ).loc Cert.AdaKernel.main_arg0)
      ∧ r.2.mem ((c.tc : Thread Cert.AdaKernel.nD Cert.AdaKernel.τ).loc Cert.AdaKernel.main_arg1) = m ((c.tc : Thread Cert.AdaKernel.nD Cert.AdaKernel.τ).loc Cert.AdaKernel.main_arg1)
      ∧ r.2.mem ((c.tc : Thread Cert.AdaKernel.nD Cert.AdaKernel.τ).loc Cert.AdaKernel.main_arg2) = m ((c.tc : Thread Cert.AdaKernel.nD Cert.AdaKernel.τ).loc Cert.AdaKernel.main_arg2))
      ∧ r.2.sem = fun _ => 0)

def quiescent_AdaKernelIdeal [hAdaKernelIdeal : Cert.AdaKernelIdeal.Facts] : Prop :=
  ∀ (m : (ℓ : Loc Cert.AdaKernelIdeal.nD Cert.AdaKernelIdeal.τ Cert.AdaKernelIdeal.sig) → Buf (Elt Ideal) ℓ) (g : Dev Cert.AdaKernelIdeal.nD → PrngReg), Pre_AdaKernelIdeal m →
    θ_run (Cert.AdaKernelIdeal.defs (F := Ideal)) (onTc (τ := Cert.AdaKernelIdeal.τ) (Cert.AdaKernelIdeal.main (F := Ideal))) ⟨m, fun _ => 0, g⟩ (fun r => (∀ c : Dev Cert.AdaKernelIdeal.nD,
      r.2.mem ((c.tc : Thread Cert.AdaKernelIdeal.nD Cert.AdaKernelIdeal.τ).loc Cert.AdaKernelIdeal.main_arg0) = m ((c.tc : Thread Cert.AdaKernelIdeal.nD Cert.AdaKernelIdeal.τ).loc Cert.AdaKernelIdeal.main_arg0)
      ∧ r.2.mem ((c.tc : Thread Cert.AdaKernelIdeal.nD Cert.AdaKernelIdeal.τ).loc Cert.AdaKernelIdeal.main_arg1) = m ((c.tc : Thread Cert.AdaKernelIdeal.nD Cert.AdaKernelIdeal.τ).loc Cert.AdaKernelIdeal.main_arg1)
      ∧ r.2.mem ((c.tc : Thread Cert.AdaKernelIdeal.nD Cert.AdaKernelIdeal.τ).loc Cert.AdaKernelIdeal.main_arg2) = m ((c.tc : Thread Cert.AdaKernelIdeal.nD Cert.AdaKernelIdeal.τ).loc Cert.AdaKernelIdeal.main_arg2))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1)
      ∧ r.2.mem ((c.tc : Thread Cert.NormKernel.nD Cert.NormKernel.τ).loc Cert.NormKernel.main_arg2) = m ((c.tc : Thread Cert.NormKernel.nD Cert.NormKernel.τ).loc Cert.NormKernel.main_arg2))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2))
      ∧ r.2.sem = fun _ => 0)

def quiescent_AttKernel [hAttKernel : Cert.AttKernel.Facts] : Prop :=
  ∀ (m : (ℓ : Loc Cert.AttKernel.nD Cert.AttKernel.τ Cert.AttKernel.sig) → Buf (Elt Bits) ℓ) (g : Dev Cert.AttKernel.nD → PrngReg), Pre_AttKernel m →
    θ_run (Cert.AttKernel.defs (F := Bits)) (onTc (τ := Cert.AttKernel.τ) (Cert.AttKernel.main (F := Bits))) ⟨m, fun _ => 0, g⟩ (fun r => (∀ c : Dev Cert.AttKernel.nD,
      r.2.mem ((c.tc : Thread Cert.AttKernel.nD Cert.AttKernel.τ).loc Cert.AttKernel.main_arg0) = m ((c.tc : Thread Cert.AttKernel.nD Cert.AttKernel.τ).loc Cert.AttKernel.main_arg0)
      ∧ r.2.mem ((c.tc : Thread Cert.AttKernel.nD Cert.AttKernel.τ).loc Cert.AttKernel.main_arg1) = m ((c.tc : Thread Cert.AttKernel.nD Cert.AttKernel.τ).loc Cert.AttKernel.main_arg1))
      ∧ r.2.sem = fun _ => 0)

def quiescent_AttKernelIdeal [hAttKernelIdeal : Cert.AttKernelIdeal.Facts] : Prop :=
  ∀ (m : (ℓ : Loc Cert.AttKernelIdeal.nD Cert.AttKernelIdeal.τ Cert.AttKernelIdeal.sig) → Buf (Elt Ideal) ℓ) (g : Dev Cert.AttKernelIdeal.nD → PrngReg), Pre_AttKernelIdeal m →
    θ_run (Cert.AttKernelIdeal.defs (F := Ideal)) (onTc (τ := Cert.AttKernelIdeal.τ) (Cert.AttKernelIdeal.main (F := Ideal))) ⟨m, fun _ => 0, g⟩ (fun r => (∀ c : Dev Cert.AttKernelIdeal.nD,
      r.2.mem ((c.tc : Thread Cert.AttKernelIdeal.nD Cert.AttKernelIdeal.τ).loc Cert.AttKernelIdeal.main_arg0) = m ((c.tc : Thread Cert.AttKernelIdeal.nD Cert.AttKernelIdeal.τ).loc Cert.AttKernelIdeal.main_arg0)
      ∧ r.2.mem ((c.tc : Thread Cert.AttKernelIdeal.nD Cert.AttKernelIdeal.τ).loc Cert.AttKernelIdeal.main_arg1) = m ((c.tc : Thread Cert.AttKernelIdeal.nD Cert.AttKernelIdeal.τ).loc Cert.AttKernelIdeal.main_arg1))
      ∧ r.2.sem = fun _ => 0)

def quiescent_AttKernelIdeal_pre_finite [hAttKernelIdeal : Cert.AttKernelIdeal.Facts] [hPre_finite : Cert.Pre_finite.Facts] : Prop :=
  ∀ (m : (ℓ : Loc Cert.AttKernelIdeal.nD Cert.AttKernelIdeal.τ Cert.AttKernelIdeal.sig) → Buf (Elt Ideal) ℓ) (g : Dev Cert.AttKernelIdeal.nD → PrngReg), Pre_AttKernelIdeal_finite m →
    θ_run (Cert.AttKernelIdeal.defs (F := Ideal)) (onTc (τ := Cert.AttKernelIdeal.τ) (Cert.AttKernelIdeal.main (F := Ideal))) ⟨m, fun _ => 0, g⟩ (fun r => (∀ c : Dev Cert.AttKernelIdeal.nD,
      r.2.mem ((c.tc : Thread Cert.AttKernelIdeal.nD Cert.AttKernelIdeal.τ).loc Cert.AttKernelIdeal.main_arg0) = m ((c.tc : Thread Cert.AttKernelIdeal.nD Cert.AttKernelIdeal.τ).loc Cert.AttKernelIdeal.main_arg0)
      ∧ r.2.mem ((c.tc : Thread Cert.AttKernelIdeal.nD Cert.AttKernelIdeal.τ).loc Cert.AttKernelIdeal.main_arg1) = m ((c.tc : Thread Cert.AttKernelIdeal.nD Cert.AttKernelIdeal.τ).loc Cert.AttKernelIdeal.main_arg1))
      ∧ r.2.sem = fun _ => 0)

def quiescent_AttReferenceIdeal [hAttReferenceIdeal : Cert.AttReferenceIdeal.Facts] : Prop :=
  ∀ (m : (ℓ : Loc Cert.AttReferenceIdeal.nD Cert.AttReferenceIdeal.τ Cert.AttReferenceIdeal.sig) → Buf (Elt Ideal) ℓ) (g : Dev Cert.AttReferenceIdeal.nD → PrngReg), Pre_AttReferenceIdeal m →
    θ_run (Cert.AttReferenceIdeal.defs (F := Ideal)) (onTc (τ := Cert.AttReferenceIdeal.τ) (Cert.AttReferenceIdeal.main (F := Ideal))) ⟨m, fun _ => 0, g⟩ (fun r => (∀ c : Dev Cert.AttReferenceIdeal.nD,
      r.2.mem ((c.tc : Thread Cert.AttReferenceIdeal.nD Cert.AttReferenceIdeal.τ).loc Cert.AttReferenceIdeal.main_arg0) = m ((c.tc : Thread Cert.AttReferenceIdeal.nD Cert.AttReferenceIdeal.τ).loc Cert.AttReferenceIdeal.main_arg0)
      ∧ r.2.mem ((c.tc : Thread Cert.AttReferenceIdeal.nD Cert.AttReferenceIdeal.τ).loc Cert.AttReferenceIdeal.main_arg1) = m ((c.tc : Thread Cert.AttReferenceIdeal.nD Cert.AttReferenceIdeal.τ).loc Cert.AttReferenceIdeal.main_arg1))
      ∧ r.2.sem = fun _ => 0)

def quiescent_AttReferenceIdeal_pre_finite [hAttReferenceIdeal : Cert.AttReferenceIdeal.Facts] [hPre_finite : Cert.Pre_finite.Facts] : Prop :=
  ∀ (m : (ℓ : Loc Cert.AttReferenceIdeal.nD Cert.AttReferenceIdeal.τ Cert.AttReferenceIdeal.sig) → Buf (Elt Ideal) ℓ) (g : Dev Cert.AttReferenceIdeal.nD → PrngReg), Pre_AttReferenceIdeal_finite m →
    θ_run (Cert.AttReferenceIdeal.defs (F := Ideal)) (onTc (τ := Cert.AttReferenceIdeal.τ) (Cert.AttReferenceIdeal.main (F := Ideal))) ⟨m, fun _ => 0, g⟩ (fun r => (∀ c : Dev Cert.AttReferenceIdeal.nD,
      r.2.mem ((c.tc : Thread Cert.AttReferenceIdeal.nD Cert.AttReferenceIdeal.τ).loc Cert.AttReferenceIdeal.main_arg0) = m ((c.tc : Thread Cert.AttReferenceIdeal.nD Cert.AttReferenceIdeal.τ).loc Cert.AttReferenceIdeal.main_arg0)
      ∧ r.2.mem ((c.tc : Thread Cert.AttReferenceIdeal.nD Cert.AttReferenceIdeal.τ).loc Cert.AttReferenceIdeal.main_arg1) = m ((c.tc : Thread Cert.AttReferenceIdeal.nD Cert.AttReferenceIdeal.τ).loc Cert.AttReferenceIdeal.main_arg1))
      ∧ r.2.sem = fun _ => 0)

def preserves_RetKernel_RetKernelIdeal : Prop :=
  True

def algebraic_RetKernelIdeal_RetReferenceIdeal [hRetKernelIdeal : Cert.RetKernelIdeal.Facts] [hRetReferenceIdeal : Cert.RetReferenceIdeal.Facts] : Prop :=
  ∀ (m : (ℓ : Loc Cert.RetKernelIdeal.nD Cert.RetKernelIdeal.τ Cert.RetKernelIdeal.sig) → Buf (Elt Ideal) ℓ) (g : Dev Cert.RetKernelIdeal.nD → PrngReg)
    (m' : (ℓ : Loc Cert.RetReferenceIdeal.nD Cert.RetReferenceIdeal.τ Cert.RetReferenceIdeal.sig) → Buf (Elt Ideal) ℓ) (g' : Dev Cert.RetReferenceIdeal.nD → PrngReg), Pre_RetKernelIdeal m →
    (∀ c : Dev Cert.RetKernelIdeal.nD,
      m' ((c.tc : Thread Cert.RetReferenceIdeal.nD Cert.RetReferenceIdeal.τ).loc Cert.RetReferenceIdeal.main_arg0) = m ((c.tc : Thread Cert.RetKernelIdeal.nD Cert.RetKernelIdeal.τ).loc Cert.RetKernelIdeal.main_arg0)) →
    ∃ (v0 : (c : Dev Cert.RetKernelIdeal.nD) → Buf (Elt Ideal) ((c.tc : Thread Cert.RetKernelIdeal.nD Cert.RetKernelIdeal.τ).loc Cert.RetKernelIdeal.main_v48)),
      θ_run (Cert.RetKernelIdeal.defs (F := Ideal)) (onTc (τ := Cert.RetKernelIdeal.τ) (Cert.RetKernelIdeal.main (F := Ideal))) ⟨m, fun _ => 0, g⟩ (fun r => ∀ c : Dev Cert.RetKernelIdeal.nD,
          r.2.mem ((c.tc : Thread Cert.RetKernelIdeal.nD Cert.RetKernelIdeal.τ).loc Cert.RetKernelIdeal.main_v48) = v0 c
          ∧ r.2.mem ((c.tc : Thread Cert.RetKernelIdeal.nD Cert.RetKernelIdeal.τ).loc Cert.RetKernelIdeal.main_arg0) = m ((c.tc : Thread Cert.RetKernelIdeal.nD Cert.RetKernelIdeal.τ).loc Cert.RetKernelIdeal.main_arg0))
      ∧ θ_run (Cert.RetReferenceIdeal.defs (F := Ideal)) (onTc (τ := Cert.RetReferenceIdeal.τ) (Cert.RetReferenceIdeal.main (F := Ideal))) ⟨m', fun _ => 0, g'⟩ (fun r => ∀ c : Dev Cert.RetReferenceIdeal.nD,
          r.2.mem ((c.tc : Thread Cert.RetReferenceIdeal.nD Cert.RetReferenceIdeal.τ).loc Cert.RetReferenceIdeal.main_v86) = v0 c
          ∧ r.2.mem ((c.tc : Thread Cert.RetReferenceIdeal.nD Cert.RetReferenceIdeal.τ).loc Cert.RetReferenceIdeal.main_arg0) = m' ((c.tc : Thread Cert.RetReferenceIdeal.nD Cert.RetReferenceIdeal.τ).loc Cert.RetReferenceIdeal.main_arg0))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)
      ∧ m' ((c.tc : Thread Cert.InReferenceIdeal.nD Cert.InReferenceIdeal.τ).loc Cert.InReferenceIdeal.main_arg4) = m ((c.tc : Thread Cert.InKernelIdeal.nD Cert.InKernelIdeal.τ).loc Cert.InKernelIdeal.main_arg4)) →
    ∃ (v0 : (c : Dev Cert.InKernelIdeal.nD) → Buf (Elt Ideal) ((c.tc : Thread Cert.InKernelIdeal.nD Cert.InKernelIdeal.τ).loc Cert.InKernelIdeal.main_v8_0)) (v1 : (c : Dev Cert.InKernelIdeal.nD) → Buf (Elt Ideal) ((c.tc : Thread Cert.InKernelIdeal.nD Cert.InKernelIdeal.τ).loc Cert.InKernelIdeal.main_v8_1)) (v2 : (c : Dev Cert.InKernelIdeal.nD) → Buf (Elt Ideal) ((c.tc : Thread Cert.InKernelIdeal.nD Cert.InKernelIdeal.τ).loc Cert.InKernelIdeal.main_v8_2)) (v3 : (c : Dev Cert.InKernelIdeal.nD) → Buf (Elt Ideal) ((c.tc : Thread Cert.InKernelIdeal.nD Cert.InKernelIdeal.τ).loc Cert.InKernelIdeal.main_v8_3)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v8_0) = v0 c
          ∧ r.2.mem ((c.tc : Thread Cert.InKernelIdeal.nD Cert.InKernelIdeal.τ).loc Cert.InKernelIdeal.main_v8_1) = v1 c
          ∧ r.2.mem ((c.tc : Thread Cert.InKernelIdeal.nD Cert.InKernelIdeal.τ).loc Cert.InKernelIdeal.main_v8_2) = v2 c
          ∧ r.2.mem ((c.tc : Thread Cert.InKernelIdeal.nD Cert.InKernelIdeal.τ).loc Cert.InKernelIdeal.main_v8_3) = v3 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
          ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v3) = v0 c
          ∧ r.2.mem ((c.tc : Thread Cert.InReferenceIdeal.nD Cert.InReferenceIdeal.τ).loc Cert.InReferenceIdeal.main_v5) = v1 c
          ∧ r.2.mem ((c.tc : Thread Cert.InReferenceIdeal.nD Cert.InReferenceIdeal.τ).loc Cert.InReferenceIdeal.main_v7) = v2 c
          ∧ r.2.mem ((c.tc : Thread Cert.InReferenceIdeal.nD Cert.InReferenceIdeal.τ).loc Cert.InReferenceIdeal.main_v9) = v3 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4))

def preserves_MixKernel_MixKernelIdeal : Prop :=
  True

def algebraic_MixKernelIdeal_MixReferenceIdeal [hMixKernelIdeal : Cert.MixKernelIdeal.Facts] [hMixReferenceIdeal : Cert.MixReferenceIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)) →
    ∃ (v0 : (c : Dev Cert.MixKernelIdeal.nD) → Buf (Elt Ideal) ((c.tc : Thread Cert.MixKernelIdeal.nD Cert.MixKernelIdeal.τ).loc Cert.MixKernelIdeal.main_v4)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v4) = v0 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v24) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4))

def preserves_ResidKernel_ResidKernelIdeal : Prop :=
  True

def algebraic_ResidKernelIdeal_ResidReferenceIdeal [hResidKernelIdeal : Cert.ResidKernelIdeal.Facts] [hResidReferenceIdeal : Cert.ResidReferenceIdeal.Facts] : Prop :=
  ∀ (m : (ℓ : Loc Cert.ResidKernelIdeal.nD Cert.ResidKernelIdeal.τ Cert.ResidKernelIdeal.sig) → Buf (Elt Ideal) ℓ) (g : Dev Cert.ResidKernelIdeal.nD → PrngReg)
    (m' : (ℓ : Loc Cert.ResidReferenceIdeal.nD Cert.ResidReferenceIdeal.τ Cert.ResidReferenceIdeal.sig) → Buf (Elt Ideal) ℓ) (g' : Dev Cert.ResidReferenceIdeal.nD → PrngReg), Pre_ResidKernelIdeal m →
    (∀ c : Dev Cert.ResidKernelIdeal.nD,
      m' ((c.tc : Thread Cert.ResidReferenceIdeal.nD Cert.ResidReferenceIdeal.τ).loc Cert.ResidReferenceIdeal.main_arg0) = m ((c.tc : Thread Cert.ResidKernelIdeal.nD Cert.ResidKernelIdeal.τ).loc Cert.ResidKernelIdeal.main_arg0)
      ∧ m' ((c.tc : Thread Cert.ResidReferenceIdeal.nD Cert.ResidReferenceIdeal.τ).loc Cert.ResidReferenceIdeal.main_arg1) = m ((c.tc : Thread Cert.ResidKernelIdeal.nD Cert.ResidKernelIdeal.τ).loc Cert.ResidKernelIdeal.main_arg1)
      ∧ m' ((c.tc : Thread Cert.ResidReferenceIdeal.nD Cert.ResidReferenceIdeal.τ).loc Cert.ResidReferenceIdeal.main_arg2) = m ((c.tc : Thread Cert.ResidKernelIdeal.nD Cert.ResidKernelIdeal.τ).loc Cert.ResidKernelIdeal.main_arg2)
      ∧ m' ((c.tc : Thread Cert.ResidReferenceIdeal.nD Cert.ResidReferenceIdeal.τ).loc Cert.ResidReferenceIdeal.main_arg3) = m ((c.tc : Thread Cert.ResidKernelIdeal.nD Cert.ResidKernelIdeal.τ).loc Cert.ResidKernelIdeal.main_arg3)) →
    ∃ (v0 : (c : Dev Cert.ResidKernelIdeal.nD) → Buf (Elt Ideal) ((c.tc : Thread Cert.ResidKernelIdeal.nD Cert.ResidKernelIdeal.τ).loc Cert.ResidKernelIdeal.main_v3)),
      θ_run (Cert.ResidKernelIdeal.defs (F := Ideal)) (onTc (τ := Cert.ResidKernelIdeal.τ) (Cert.ResidKernelIdeal.main (F := Ideal))) ⟨m, fun _ => 0, g⟩ (fun r => ∀ c : Dev Cert.ResidKernelIdeal.nD,
          r.2.mem ((c.tc : Thread Cert.ResidKernelIdeal.nD Cert.ResidKernelIdeal.τ).loc Cert.ResidKernelIdeal.main_v3) = v0 c
          ∧ r.2.mem ((c.tc : Thread Cert.ResidKernelIdeal.nD Cert.ResidKernelIdeal.τ).loc Cert.ResidKernelIdeal.main_arg0) = m ((c.tc : Thread Cert.ResidKernelIdeal.nD Cert.ResidKernelIdeal.τ).loc Cert.ResidKernelIdeal.main_arg0)
          ∧ r.2.mem ((c.tc : Thread Cert.ResidKernelIdeal.nD Cert.ResidKernelIdeal.τ).loc Cert.ResidKernelIdeal.main_arg1) = m ((c.tc : Thread Cert.ResidKernelIdeal.nD Cert.ResidKernelIdeal.τ).loc Cert.ResidKernelIdeal.main_arg1)
          ∧ r.2.mem ((c.tc : Thread Cert.ResidKernelIdeal.nD Cert.ResidKernelIdeal.τ).loc Cert.ResidKernelIdeal.main_arg2) = m ((c.tc : Thread Cert.ResidKernelIdeal.nD Cert.ResidKernelIdeal.τ).loc Cert.ResidKernelIdeal.main_arg2)
          ∧ r.2.mem ((c.tc : Thread Cert.ResidKernelIdeal.nD Cert.ResidKernelIdeal.τ).loc Cert.ResidKernelIdeal.main_arg3) = m ((c.tc : Thread Cert.ResidKernelIdeal.nD Cert.ResidKernelIdeal.τ).loc Cert.ResidKernelIdeal.main_arg3))
      ∧ θ_run (Cert.ResidReferenceIdeal.defs (F := Ideal)) (onTc (τ := Cert.ResidReferenceIdeal.τ) (Cert.ResidReferenceIdeal.main (F := Ideal))) ⟨m', fun _ => 0, g'⟩ (fun r => ∀ c : Dev Cert.ResidReferenceIdeal.nD,
          r.2.mem ((c.tc : Thread Cert.ResidReferenceIdeal.nD Cert.ResidReferenceIdeal.τ).loc Cert.ResidReferenceIdeal.main_v10) = v0 c
          ∧ r.2.mem ((c.tc : Thread Cert.ResidReferenceIdeal.nD Cert.ResidReferenceIdeal.τ).loc Cert.ResidReferenceIdeal.main_arg0) = m' ((c.tc : Thread Cert.ResidReferenceIdeal.nD Cert.ResidReferenceIdeal.τ).loc Cert.ResidReferenceIdeal.main_arg0)
          ∧ r.2.mem ((c.tc : Thread Cert.ResidReferenceIdeal.nD Cert.ResidReferenceIdeal.τ).loc Cert.ResidReferenceIdeal.main_arg1) = m' ((c.tc : Thread Cert.ResidReferenceIdeal.nD Cert.ResidReferenceIdeal.τ).loc Cert.ResidReferenceIdeal.main_arg1)
          ∧ r.2.mem ((c.tc : Thread Cert.ResidReferenceIdeal.nD Cert.ResidReferenceIdeal.τ).loc Cert.ResidReferenceIdeal.main_arg2) = m' ((c.tc : Thread Cert.ResidReferenceIdeal.nD Cert.ResidReferenceIdeal.τ).loc Cert.ResidReferenceIdeal.main_arg2)
          ∧ r.2.mem ((c.tc : Thread Cert.ResidReferenceIdeal.nD Cert.ResidReferenceIdeal.τ).loc Cert.ResidReferenceIdeal.main_arg3) = m' ((c.tc : Thread Cert.ResidReferenceIdeal.nD Cert.ResidReferenceIdeal.τ).loc Cert.ResidReferenceIdeal.main_arg3))

def preserves_AdaKernel_AdaKernelIdeal : Prop :=
  True

def algebraic_AdaKernelIdeal_AdaReferenceIdeal [hAdaKernelIdeal : Cert.AdaKernelIdeal.Facts] [hAdaReferenceIdeal : Cert.AdaReferenceIdeal.Facts] : Prop :=
  ∀ (m : (ℓ : Loc Cert.AdaKernelIdeal.nD Cert.AdaKernelIdeal.τ Cert.AdaKernelIdeal.sig) → Buf (Elt Ideal) ℓ) (g : Dev Cert.AdaKernelIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaKernelIdeal m →
    (∀ c : Dev Cert.AdaKernelIdeal.nD,
      m' ((c.tc : Thread Cert.AdaReferenceIdeal.nD Cert.AdaReferenceIdeal.τ).loc Cert.AdaReferenceIdeal.main_arg0) = m ((c.tc : Thread Cert.AdaKernelIdeal.nD Cert.AdaKernelIdeal.τ).loc Cert.AdaKernelIdeal.main_arg0)
      ∧ m' ((c.tc : Thread Cert.AdaReferenceIdeal.nD Cert.AdaReferenceIdeal.τ).loc Cert.AdaReferenceIdeal.main_arg1) = m ((c.tc : Thread Cert.AdaKernelIdeal.nD Cert.AdaKernelIdeal.τ).loc Cert.AdaKernelIdeal.main_arg1)
      ∧ m' ((c.tc : Thread Cert.AdaReferenceIdeal.nD Cert.AdaReferenceIdeal.τ).loc Cert.AdaReferenceIdeal.main_arg2) = m ((c.tc : Thread Cert.AdaKernelIdeal.nD Cert.AdaKernelIdeal.τ).loc Cert.AdaKernelIdeal.main_arg2)) →
    ∃ (v0 : (c : Dev Cert.AdaKernelIdeal.nD) → Buf (Elt Ideal) ((c.tc : Thread Cert.AdaKernelIdeal.nD Cert.AdaKernelIdeal.τ).loc Cert.AdaKernelIdeal.main_v3)),
      θ_run (Cert.AdaKernelIdeal.defs (F := Ideal)) (onTc (τ := Cert.AdaKernelIdeal.τ) (Cert.AdaKernelIdeal.main (F := Ideal))) ⟨m, fun _ => 0, g⟩ (fun r => ∀ c : Dev Cert.AdaKernelIdeal.nD,
          r.2.mem ((c.tc : Thread Cert.AdaKernelIdeal.nD Cert.AdaKernelIdeal.τ).loc Cert.AdaKernelIdeal.main_v3) = v0 c
          ∧ r.2.mem ((c.tc : Thread Cert.AdaKernelIdeal.nD Cert.AdaKernelIdeal.τ).loc Cert.AdaKernelIdeal.main_arg0) = m ((c.tc : Thread Cert.AdaKernelIdeal.nD Cert.AdaKernelIdeal.τ).loc Cert.AdaKernelIdeal.main_arg0)
          ∧ r.2.mem ((c.tc : Thread Cert.AdaKernelIdeal.nD Cert.AdaKernelIdeal.τ).loc Cert.AdaKernelIdeal.main_arg1) = m ((c.tc : Thread Cert.AdaKernelIdeal.nD Cert.AdaKernelIdeal.τ).loc Cert.AdaKernelIdeal.main_arg1)
          ∧ r.2.mem ((c.tc : Thread Cert.AdaKernelIdeal.nD Cert.AdaKernelIdeal.τ).loc Cert.AdaKernelIdeal.main_arg2) = m ((c.tc : Thread Cert.AdaKernelIdeal.nD Cert.AdaKernelIdeal.τ).loc Cert.AdaKernelIdeal.main_arg2))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v6) = v0 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2))

def preserves_NormKernel_NormKernelIdeal : Prop :=
  True

def algebraic_NormKernelIdeal_NormReferenceIdeal [hNormKernelIdeal : Cert.NormKernelIdeal.Facts] [hNormReferenceIdeal : Cert.NormReferenceIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)
      ∧ m' ((c.tc : Thread Cert.NormReferenceIdeal.nD Cert.NormReferenceIdeal.τ).loc Cert.NormReferenceIdeal.main_arg2) = m ((c.tc : Thread Cert.NormKernelIdeal.nD Cert.NormKernelIdeal.τ).loc Cert.NormKernelIdeal.main_arg2)) →
    ∃ (v0 : (c : Dev Cert.NormKernelIdeal.nD) → Buf (Elt Ideal) ((c.tc : Thread Cert.NormKernelIdeal.nD Cert.NormKernelIdeal.τ).loc Cert.NormKernelIdeal.main_v3)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v3) = v0 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
          ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v24) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2))

def preserves_AttKernel_AttKernelIdeal : Prop :=
  IdealRules.named_const.Statement Cert.AttKernelIdeal.κ "mask" .f32 0xF149F2CA#32 ⊥

def algebraic_AttKernelIdeal_AttReferenceIdeal_pre_finite [hAttKernelIdeal : Cert.AttKernelIdeal.Facts] [hAttReferenceIdeal : Cert.AttReferenceIdeal.Facts] [hPre_finite : Cert.Pre_finite.Facts] : Prop :=
  ∀ (m : (ℓ : Loc Cert.AttKernelIdeal.nD Cert.AttKernelIdeal.τ Cert.AttKernelIdeal.sig) → Buf (Elt Ideal) ℓ) (g : Dev Cert.AttKernelIdeal.nD → PrngReg)
    (m' : (ℓ : Loc Cert.AttReferenceIdeal.nD Cert.AttReferenceIdeal.τ Cert.AttReferenceIdeal.sig) → Buf (Elt Ideal) ℓ) (g' : Dev Cert.AttReferenceIdeal.nD → PrngReg), Pre_AttKernelIdeal_finite m →
    (∀ c : Dev Cert.AttKernelIdeal.nD,
      m' ((c.tc : Thread Cert.AttReferenceIdeal.nD Cert.AttReferenceIdeal.τ).loc Cert.AttReferenceIdeal.main_arg0) = m ((c.tc : Thread Cert.AttKernelIdeal.nD Cert.AttKernelIdeal.τ).loc Cert.AttKernelIdeal.main_arg0)
      ∧ m' ((c.tc : Thread Cert.AttReferenceIdeal.nD Cert.AttReferenceIdeal.τ).loc Cert.AttReferenceIdeal.main_arg1) = m ((c.tc : Thread Cert.AttKernelIdeal.nD Cert.AttKernelIdeal.τ).loc Cert.AttKernelIdeal.main_arg1)) →
    ∃ (v0 : (c : Dev Cert.AttKernelIdeal.nD) → Buf (Elt Ideal) ((c.tc : Thread Cert.AttKernelIdeal.nD Cert.AttKernelIdeal.τ).loc Cert.AttKernelIdeal.main_v36)),
      θ_run (Cert.AttKernelIdeal.defs (F := Ideal)) (onTc (τ := Cert.AttKernelIdeal.τ) (Cert.AttKernelIdeal.main (F := Ideal))) ⟨m, fun _ => 0, g⟩ (fun r => ∀ c : Dev Cert.AttKernelIdeal.nD,
          r.2.mem ((c.tc : Thread Cert.AttKernelIdeal.nD Cert.AttKernelIdeal.τ).loc Cert.AttKernelIdeal.main_v36) = v0 c
          ∧ r.2.mem ((c.tc : Thread Cert.AttKernelIdeal.nD Cert.AttKernelIdeal.τ).loc Cert.AttKernelIdeal.main_arg0) = m ((c.tc : Thread Cert.AttKernelIdeal.nD Cert.AttKernelIdeal.τ).loc Cert.AttKernelIdeal.main_arg0)
          ∧ r.2.mem ((c.tc : Thread Cert.AttKernelIdeal.nD Cert.AttKernelIdeal.τ).loc Cert.AttKernelIdeal.main_arg1) = m ((c.tc : Thread Cert.AttKernelIdeal.nD Cert.AttKernelIdeal.τ).loc Cert.AttKernelIdeal.main_arg1))
      ∧ θ_run (Cert.AttReferenceIdeal.defs (F := Ideal)) (onTc (τ := Cert.AttReferenceIdeal.τ) (Cert.AttReferenceIdeal.main (F := Ideal))) ⟨m', fun _ => 0, g'⟩ (fun r => ∀ c : Dev Cert.AttReferenceIdeal.nD,
          r.2.mem ((c.tc : Thread Cert.AttReferenceIdeal.nD Cert.AttReferenceIdeal.τ).loc Cert.AttReferenceIdeal.main_v92) = v0 c
          ∧ r.2.mem ((c.tc : Thread Cert.AttReferenceIdeal.nD Cert.AttReferenceIdeal.τ).loc Cert.AttReferenceIdeal.main_arg0) = m' ((c.tc : Thread Cert.AttReferenceIdeal.nD Cert.AttReferenceIdeal.τ).loc Cert.AttReferenceIdeal.main_arg0)
          ∧ r.2.mem ((c.tc : Thread Cert.AttReferenceIdeal.nD Cert.AttReferenceIdeal.τ).loc Cert.AttReferenceIdeal.main_arg1) = m' ((c.tc : Thread Cert.AttReferenceIdeal.nD Cert.AttReferenceIdeal.τ).loc Cert.AttReferenceIdeal.main_arg1))

def Claim : Prop :=
  ∃ (hRetKernel : Cert.RetKernel.Facts) (hRetKernelIdeal : Cert.RetKernelIdeal.Facts) (hRetReferenceIdeal : Cert.RetReferenceIdeal.Facts) (hInKernel : Cert.InKernel.Facts) (hInKernelIdeal : Cert.InKernelIdeal.Facts) (hInReferenceIdeal : Cert.InReferenceIdeal.Facts) (hMixKernel : Cert.MixKernel.Facts) (hMixKernelIdeal : Cert.MixKernelIdeal.Facts) (hMixReferenceIdeal : Cert.MixReferenceIdeal.Facts) (hResidKernel : Cert.ResidKernel.Facts) (hResidKernelIdeal : Cert.ResidKernelIdeal.Facts) (hResidReferenceIdeal : Cert.ResidReferenceIdeal.Facts) (hAdaKernel : Cert.AdaKernel.Facts) (hAdaKernelIdeal : Cert.AdaKernelIdeal.Facts) (hAdaReferenceIdeal : Cert.AdaReferenceIdeal.Facts) (hNormKernel : Cert.NormKernel.Facts) (hNormKernelIdeal : Cert.NormKernelIdeal.Facts) (hNormReferenceIdeal : Cert.NormReferenceIdeal.Facts) (hAttKernel : Cert.AttKernel.Facts) (hAttKernelIdeal : Cert.AttKernelIdeal.Facts) (hAttReferenceIdeal : Cert.AttReferenceIdeal.Facts) (hPre_finite : Cert.Pre_finite.Facts),
    quiescent_RetKernel (hRetKernel := hRetKernel)
    ∧ quiescent_RetKernelIdeal (hRetKernelIdeal := hRetKernelIdeal)
    ∧ quiescent_RetReferenceIdeal (hRetReferenceIdeal := hRetReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ quiescent_MixKernel (hMixKernel := hMixKernel)
    ∧ quiescent_MixKernelIdeal (hMixKernelIdeal := hMixKernelIdeal)
    ∧ quiescent_MixReferenceIdeal (hMixReferenceIdeal := hMixReferenceIdeal)
    ∧ quiescent_ResidKernel (hResidKernel := hResidKernel)
    ∧ quiescent_ResidKernelIdeal (hResidKernelIdeal := hResidKernelIdeal)
    ∧ quiescent_ResidReferenceIdeal (hResidReferenceIdeal := hResidReferenceIdeal)
    ∧ quiescent_AdaKernel (hAdaKernel := hAdaKernel)
    ∧ quiescent_AdaKernelIdeal (hAdaKernelIdeal := hAdaKernelIdeal)
    ∧ quiescent_AdaReferenceIdeal (hAdaReferenceIdeal := hAdaReferenceIdeal)
    ∧ quiescent_NormKernel (hNormKernel := hNormKernel)
    ∧ quiescent_NormKernelIdeal (hNormKernelIdeal := hNormKernelIdeal)
    ∧ quiescent_NormReferenceIdeal (hNormReferenceIdeal := hNormReferenceIdeal)
    ∧ quiescent_AttKernel (hAttKernel := hAttKernel)
    ∧ quiescent_AttKernelIdeal (hAttKernelIdeal := hAttKernelIdeal)
    ∧ quiescent_AttKernelIdeal_pre_finite (hAttKernelIdeal := hAttKernelIdeal) (hPre_finite := hPre_finite)
    ∧ quiescent_AttReferenceIdeal (hAttReferenceIdeal := hAttReferenceIdeal)
    ∧ quiescent_AttReferenceIdeal_pre_finite (hAttReferenceIdeal := hAttReferenceIdeal) (hPre_finite := hPre_finite)
    ∧ preserves_RetKernel_RetKernelIdeal
    ∧ algebraic_RetKernelIdeal_RetReferenceIdeal (hRetKernelIdeal := hRetKernelIdeal) (hRetReferenceIdeal := hRetReferenceIdeal)
    ∧ preserves_InKernel_InKernelIdeal
    ∧ algebraic_InKernelIdeal_InReferenceIdeal (hInKernelIdeal := hInKernelIdeal) (hInReferenceIdeal := hInReferenceIdeal)
    ∧ preserves_MixKernel_MixKernelIdeal
    ∧ algebraic_MixKernelIdeal_MixReferenceIdeal (hMixKernelIdeal := hMixKernelIdeal) (hMixReferenceIdeal := hMixReferenceIdeal)
    ∧ preserves_ResidKernel_ResidKernelIdeal
    ∧ algebraic_ResidKernelIdeal_ResidReferenceIdeal (hResidKernelIdeal := hResidKernelIdeal) (hResidReferenceIdeal := hResidReferenceIdeal)
    ∧ preserves_AdaKernel_AdaKernelIdeal
    ∧ algebraic_AdaKernelIdeal_AdaReferenceIdeal (hAdaKernelIdeal := hAdaKernelIdeal) (hAdaReferenceIdeal := hAdaReferenceIdeal)
    ∧ preserves_NormKernel_NormKernelIdeal
    ∧ algebraic_NormKernelIdeal_NormReferenceIdeal (hNormKernelIdeal := hNormKernelIdeal) (hNormReferenceIdeal := hNormReferenceIdeal)
    ∧ preserves_AttKernel_AttKernelIdeal
    ∧ algebraic_AttKernelIdeal_AttReferenceIdeal_pre_finite (hAttKernelIdeal := hAttKernelIdeal) (hAttReferenceIdeal := hAttReferenceIdeal) (hPre_finite := hPre_finite)
-- ==== Pre_finite.lean ====
abbrev S4x4096x23040 : Shape := ⟨3, ![4, 4096, 23040]⟩
abbrev S1x32 : Shape := ⟨2, ![1, 32]⟩
abbrev S_ : Shape := ⟨0, ![]⟩

class Facts : Prop where
  bcast_S_S4x4096x23040 : S_.BroadcastsInDim S4x4096x23040 (![] : Fin 0 → Fin S4x4096x23040.rank)
  bcast_S_S1x32 : S_.BroadcastsInDim S1x32 (![] : Fin 0 → Fin S1x32.rank)

variable [Facts]

def fn {F : FTy → Type} [FloatOps F] (main_arg0 : FVec F S4x4096x23040 .bf16) (main_arg1 : FVec F S1x32 .f32) : IVec S4x4096x23040 1 × IVec S1x32 1 :=
  let main_cst : FVec F S_ .bf16 := constant S_ .bf16 0xFF80#16
  let main_v0 : FVec F S4x4096x23040 .bf16 := broadcastInDim S4x4096x23040 ![] bcast_S_S4x4096x23040 main_cst
  let main_v1 : IVec S4x4096x23040 1 := cmpf .ogt main_arg0 main_v0
  let main_cst_0 : FVec F S_ .bf16 := constant S_ .bf16 0x7F80#16
  let main_v2 : FVec F S4x4096x23040 .bf16 := broadcastInDim S4x4096x23040 ![] bcast_S_S4x4096x23040 main_cst_0
  let main_v3 : IVec S4x4096x23040 1 := cmpf .olt main_arg0 main_v2
  let main_v4 : IVec S4x4096x23040 1 := andi main_v1 main_v3
  let main_cst_1 : FVec F S_ .f32 := constant S_ .f32 0xFF800000#32
  let main_v5 : FVec F S1x32 .f32 := broadcastInDim S1x32 ![] bcast_S_S1x32 main_cst_1
  let main_v6 : IVec S1x32 1 := cmpf .ogt main_arg1 main_v5
  let main_cst_2 : FVec F S_ .f32 := constant S_ .f32 0x7F800000#32
  let main_v7 : FVec F S1x32 .f32 := broadcastInDim S1x32 ![] bcast_S_S1x32 main_cst_2
  let main_v8 : IVec S1x32 1 := cmpf .olt main_arg1 main_v7
  let main_v9 : IVec S1x32 1 := andi main_v6 main_v8
  (main_v4, main_v9)
-- ==== RetKernel.lean ====
abbrev S4x4096x23040 : Shape := ⟨3, ![4, 4096, 23040]⟩
abbrev S8 : Shape := ⟨1, ![8]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S1x128x1 : Shape := ⟨3, ![1, 128, 1]⟩
abbrev S8x128x1 : Shape := ⟨3, ![8, 128, 1]⟩
abbrev S4x4096x4096 : Shape := ⟨3, ![4, 4096, 4096]⟩
abbrev S4x128x256 : Shape := ⟨3, ![4, 128, 256]⟩
abbrev S4x128x512 : Shape := ⟨3, ![4, 128, 512]⟩
abbrev S1x1x1 : Shape := ⟨3, ![1, 1, 1]⟩
abbrev S4x256x512 : Shape := ⟨3, ![4, 256, 512]⟩
abbrev S1x128x256 : Shape := ⟨3, ![1, 128, 256]⟩
abbrev S128x256 : Shape := ⟨2, ![128, 256]⟩
abbrev S1x128x512 : Shape := ⟨3, ![1, 128, 512]⟩
abbrev S128x512 : Shape := ⟨2, ![128, 512]⟩
abbrev S1x256x512 : Shape := ⟨3, ![1, 256, 512]⟩
abbrev S256x512 : Shape := ⟨2, ![256, 512]⟩
abbrev S1x1 : Shape := ⟨2, ![1, 1]⟩

abbrev nBuf : Space → Nat
  | .hbm => 62
  | .vmem => 19
  | .smem => 0
  | _ => 0

abbrev bufTy : (tb : Table) → Fin (tcTables nBuf tb) → BufTy
  | .hbm, ⟨0, _⟩ => ⟨S4x4096x23040, .bf16⟩
  | .hbm, ⟨1, _⟩ => ⟨S8, .f32⟩
  | .hbm, ⟨2, _⟩ => ⟨S_, .f32⟩
  | .hbm, ⟨3, _⟩ => ⟨S8, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S128, .f32⟩
  | .hbm, ⟨12, _⟩ => ⟨S128x1, .f32⟩
  | .hbm, ⟨13, _⟩ => ⟨S1x128, .f32⟩
  | .hbm, ⟨14, _⟩ => ⟨S128x128, .f32⟩
  | .hbm, ⟨15, _⟩ => ⟨S128x128, .f32⟩
  | .hbm, ⟨16, _⟩ => ⟨S128x128, .f32⟩
  | .hbm, ⟨17, _⟩ => ⟨S1x128x128, .f32⟩
  | .hbm, ⟨18, _⟩ => ⟨S_, .f32⟩
  | .hbm, ⟨19, _⟩ => ⟨S1x128x128, .f32⟩
  | .hbm, ⟨20, _⟩ => ⟨S1x128x128, .i1⟩
  | .hbm, ⟨21, _⟩ => ⟨S1x128x128, .f32⟩
  | .hbm, ⟨22, _⟩ => ⟨S8x1x1, .f32⟩
  | .hbm, ⟨23, _⟩ => ⟨S8x128x128, .f32⟩
  | .hbm, ⟨24, _⟩ => ⟨S8x128x128, .f32⟩
  | .hbm, ⟨25, _⟩ => ⟨S8x128x128, .f32⟩
  | .hbm, ⟨26, _⟩ => ⟨S8x128x128, .f32⟩
  | .hbm, ⟨27, _⟩ => ⟨S_, .f32⟩
  | .hbm, ⟨28, _⟩ => ⟨S_, .f32⟩
  | .hbm, ⟨29, _⟩ => ⟨S8x128x128, .i1⟩
  | .hbm, ⟨30, _⟩ => ⟨S8x128x128, .f32⟩
  | .hbm, ⟨31, _⟩ => ⟨S8x128x128, .f32⟩
  | .hbm, ⟨32, _⟩ => ⟨S_, .f32⟩
  | .hbm, ⟨33, _⟩ => ⟨S8x128x128, .f32⟩
  | .hbm, ⟨34, _⟩ => ⟨S8x128x128, .f32⟩
  | .hbm, ⟨35, _⟩ => ⟨S1x128x1, .f32⟩
  | .hbm, ⟨36, _⟩ => ⟨S_, .f32⟩
  | .hbm, ⟨37, _⟩ => ⟨S1x128x1, .f32⟩
  | .hbm, ⟨38, _⟩ => ⟨S1x128x1, .f32⟩
  | .hbm, ⟨39, _⟩ => ⟨S8x1x1, .f32⟩
  | .hbm, ⟨40, _⟩ => ⟨S8x128x1, .f32⟩
  | .hbm, ⟨41, _⟩ => ⟨S8x128x1, .f32⟩
  | .hbm, ⟨42, _⟩ => ⟨S8x128x1, .f32⟩
  | .hbm, ⟨43, _⟩ => ⟨S8x128x1, .f32⟩
  | .hbm, ⟨44, _⟩ => ⟨S1x128x1, .f32⟩
  | .hbm, ⟨45, _⟩ => ⟨S_, .f32⟩
  | .hbm, ⟨46, _⟩ => ⟨S1x128x1, .f32⟩
  | .hbm, ⟨47, _⟩ => ⟨S1x128x1, .f32⟩
  | .hbm, ⟨48, _⟩ => ⟨S8x1x1, .f32⟩
  | .hbm, ⟨49, _⟩ => ⟨S8x128x1, .f32⟩
  | .hbm, ⟨50, _⟩ => ⟨S8x128x1, .f32⟩
  | .hbm, ⟨51, _⟩ => ⟨S8x128x1, .f32⟩
  | .hbm, ⟨52, _⟩ => ⟨S8x128x1, .f32⟩
  | .hbm, ⟨53, _⟩ => ⟨S_, .f32⟩
  | .hbm, ⟨54, _⟩ => ⟨S8x128x1, .f32⟩
  | .hbm, ⟨55, _⟩ => ⟨S8x128x1, .f32⟩
  | .hbm, ⟨56, _⟩ => ⟨S_, .f32⟩
  | .hbm, ⟨57, _⟩ => ⟨S8, .f32⟩
  | .hbm, ⟨58, _⟩ => ⟨S8, .f32⟩
  | .hbm, ⟨59, _⟩ => ⟨S8, .f32⟩
  | .hbm, ⟨60, _⟩ => ⟨S8x1x1, .f32⟩
  | .hbm, ⟨61, _⟩ => ⟨S4x4096x4096, .bf16⟩
  | .local _ .vmem, ⟨0, _⟩ => ⟨S4x128x256, .bf16⟩
  | .local _ .vmem, ⟨1, _⟩ => ⟨S4x128x256, .bf16⟩
  | .local _ .vmem, ⟨2, _⟩ => ⟨S4x128x256, .bf16⟩
  | .local _ .vmem, ⟨3, _⟩ => ⟨S4x128x256, .bf16⟩
  | .local _ .vmem, ⟨4, _⟩ => ⟨S4x128x512, .bf16⟩
  | .local _ .vmem, ⟨5, _⟩ => ⟨S4x128x512, .bf16⟩
  | .local _ .vmem, ⟨6, _⟩ => ⟨S4x128x512, .bf16⟩
  | .local _ .vmem, ⟨7, _⟩ => ⟨S4x128x512, .bf16⟩
  | .local _ .vmem, ⟨8, _⟩ => ⟨S1x128x128, .f32⟩
  | .local _ .vmem, ⟨9, _⟩ => ⟨S1x128x128, .f32⟩
  | .local _ .vmem, ⟨10, _⟩ => ⟨S1x128x1, .f32⟩
  | .local _ .vmem, ⟨11, _⟩ => ⟨S1x128x1, .f32⟩
  | .local _ .vmem, ⟨12, _⟩ => ⟨S1x128x1, .f32⟩
  | .local _ .vmem, ⟨13, _⟩ => ⟨S1x128x1, .f32⟩
  | .local _ .vmem, ⟨14, _⟩ => ⟨S1x1x1, .f32⟩
  | .local _ .vmem, ⟨15, _⟩ => ⟨S1x1x1, .f32⟩
  | .local _ .vmem, ⟨16, _⟩ => ⟨S4x128x512, .bf16⟩
  | .local _ .vmem, ⟨17, _⟩ => ⟨S4x128x512, .bf16⟩
  | .local _ .vmem, ⟨18, _⟩ => ⟨S4x256x512, .f32⟩
  | _, _ => ⟨S4x4096x23040, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_1 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_6 : Ref sig .tc := ⟨.hbm, 53, rfl⟩
abbrev main_v42 : Ref sig .tc := ⟨.hbm, 54, rfl⟩
abbrev main_v43 : Ref sig .tc := ⟨.hbm, 55, rfl⟩
abbrev main_cst_7 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  let c0_i32_0 : BitVec 32 := 0#32
  ![c0_i32.toNat, arg1.toNat, v0.toNat]

def cc0_transform_1 (i : grid0.Coords) : Fin 3 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg0
  let c0_i32 : BitVec 32 := 0#32
  let c0_i32_0 : BitVec 32 := 0#32
  ![c0_i32.toNat, arg1.toNat, v0.toNat]

def cc0_transform_2 (i : grid0.Coords) : Fin 3 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg0
  let c0_i32 : BitVec 32 := 0#32
  let c0_i32_0 : BitVec 32 := 0#32
  ![c0_i32.toNat, arg1.toNat, v0.toNat]

def cc0_transform_3 (i : grid0.Coords) : Fin 3 → Nat :=
  let arg0 : BitVec 32 := BitVec.ofNat 32 (i 0).val
  let arg1 : BitVec 32 := BitVec.ofNat 32 (i 1).val
  let c21_i32 : BitVec 32 := 21#32
  let v0 : BitVec 32 := Scalar.addi c21_i32 arg0
  let c0_i32 : BitVec 32 := 0#32
  let c0_i32_0 : BitVec 32 := 0#32
  ![c0_i32.toNat, arg1.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S4x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RetReferenceIdeal.lean ====
abbrev S4x4096x23040 : Shape := ⟨3, ![4, 4096, 23040]⟩
abbrev S4x4096x2048 : Shape := ⟨3, ![4, 4096, 2048]⟩
abbrev S4x4096x4096 : Shape := ⟨3, ![4, 4096, 4096]⟩
abbrev S4x4096x8x256 : Shape := ⟨4, ![4, 4096, 8, 256]⟩
abbrev S4x4096x8x512 : Shape := ⟨4, ![4, 4096, 8, 512]⟩
abbrev S8 : Shape := ⟨1, ![8]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S1x8 : Shape := ⟨2, ![1, 8]⟩
abbrev S128x8 : Shape := ⟨2, ![128, 8]⟩
abbrev S4x32x128x8x256 : Shape := ⟨5, ![4, 32, 128, 8, 256]⟩
abbrev S32x4x128x8x256 : Shape := ⟨5, ![32, 4, 128, 8, 256]⟩
abbrev S4x32x128x8x512 : Shape := ⟨5, ![4, 32, 128, 8, 512]⟩
abbrev S32x4x128x8x512 : Shape := ⟨5, ![32, 4, 128, 8, 512]⟩
abbrev S4x8x256x512 : Shape := ⟨4, ![4, 8, 256, 512]⟩
abbrev S1x4x128x8x256 : Shape := ⟨5, ![1, 4, 128, 8, 256]⟩
abbrev S4x128x8x256 : Shape := ⟨4, ![4, 128, 8, 256]⟩
abbrev S1x4x128x8x512 : Shape := ⟨5, ![1, 4, 128, 8, 512]⟩
abbrev S4x128x8x512 : Shape := ⟨4, ![4, 128, 8, 512]⟩
abbrev S4x8x128x128 : Shape := ⟨4, ![4, 8, 128, 128]⟩
abbrev S1x8x128x128 : Shape := ⟨4, ![1, 8, 128, 128]⟩
abbrev S4x8x512x128 : Shape := ⟨4, ![4, 8, 512, 128]⟩
abbrev S1x128x8x1 : Shape := ⟨4, ![1, 128, 8, 1]⟩
abbrev S1x8x1x1 : Shape := ⟨4, ![1, 8, 1, 1]⟩
abbrev S4x4096x8 : Shape := ⟨3, ![4, 4096, 8]⟩
abbrev S4x4096x8x1 : Shape := ⟨4, ![4, 4096, 8, 1]⟩

abbrev nBuf : Space → Nat
  | .hbm => 172
  | .vmem => 0
  | .smem => 0
  | _ => 0

abbrev hbmTy0_0 (i : Nat) : BufTy := match i % 128 with
  | 0 => ⟨S4x4096x23040, .bf16⟩
  | 1 => ⟨S4x4096x23040, .f32⟩
  | 2 => ⟨S4x4096x2048, .f32⟩
  | 3 => ⟨S4x4096x2048, .f32⟩
  | 4 => ⟨S4x4096x4096, .f32⟩
  | 5 => ⟨S4x4096x8x256, .f32⟩
  | 6 => ⟨S4x4096x8x256, .f32⟩
  | 7 => ⟨S4x4096x8x512, .f32⟩
  | 8 => ⟨S8, .f32⟩
  | 9 => ⟨S_, .f32⟩
  | 10 => ⟨S8, .f32⟩
  | 11 => ⟨S8, .f32⟩
  | 12 => ⟨S_, .f32⟩
  | 13 => ⟨S8, .f32⟩
  | 14 => ⟨S8, .f32⟩
  | 15 => ⟨S8, .f32⟩
  | 16 => ⟨S8, .f32⟩
  | 17 => ⟨S8, .f32⟩
  | 18 => ⟨S128, .f32⟩
  | 19 => ⟨S128x1, .f32⟩
  | 20 => ⟨S1x128, .f32⟩
  | 21 => ⟨S128x128, .f32⟩
  | 22 => ⟨S128x128, .f32⟩
  | 23 => ⟨S128x128, .f32⟩
  | 24 => ⟨S1x128x128, .f32⟩
  | 25 => ⟨S_, .f32⟩
  | 26 => ⟨S1x128x128, .f32⟩
  | 27 => ⟨S1x128x128, .i1⟩
  | 28 => ⟨S1x128x128, .f32⟩
  | 29 => ⟨S8x1x1, .f32⟩
  | 30 => ⟨S8x128x128, .f32⟩
  | 31 => ⟨S8x128x128, .f32⟩
  | 32 => ⟨S8x128x128, .f32⟩
  | 33 => ⟨S8x128x128, .f32⟩
  | 34 => ⟨S_, .f32⟩
  | 35 => ⟨S_, .f32⟩
  | 36 => ⟨S8x128x128, .i1⟩
  | 37 => ⟨S8x128x128, .f32⟩
  | 38 => ⟨S8x128x128, .f32⟩
  | 39 => ⟨S128x1, .f32⟩
  | 40 => ⟨S_, .f32⟩
  | 41 => ⟨S128x1, .f32⟩
  | 42 => ⟨S128x1, .f32⟩
  | 43 => ⟨S1x8, .f32⟩
  | 44 => ⟨S128x8, .f32⟩
  | 45 => ⟨S128x8, .f32⟩
  | 46 => ⟨S128x8, .f32⟩
  | 47 => ⟨S128x8, .f32⟩
  | 48 => ⟨S128x1, .f32⟩
  | 49 => ⟨S_, .f32⟩
  | 50 => ⟨S128x1, .f32⟩
  | 51 => ⟨S128x1, .f32⟩
  | 52 => ⟨S1x8, .f32⟩
  | 53 => ⟨S128x8, .f32⟩
  | 54 => ⟨S128x8, .f32⟩
  | 55 => ⟨S128x8, .f32⟩
  | 56 => ⟨S128x8, .f32⟩
  | 57 => ⟨S_, .f32⟩
  | 58 => ⟨S8, .f32⟩
  | 59 => ⟨S8, .f32⟩
  | 60 => ⟨S8, .f32⟩
  | 61 => ⟨S4x32x128x8x256, .f32⟩
  | 62 => ⟨S32x4x128x8x256, .f32⟩
  | 63 => ⟨S_, .f32⟩
  | 64 => ⟨S4x4096x8x256, .f32⟩
  | 65 => ⟨S4x4096x8x256, .f32⟩
  | 66 => ⟨S4x32x128x8x256, .f32⟩
  | 67 => ⟨S32x4x128x8x256, .f32⟩
  | 68 => ⟨S4x32x128x8x512, .f32⟩
  | 69 => ⟨S32x4x128x8x512, .f32⟩
  | 70 => ⟨S_, .f32⟩
  | 71 => ⟨S4x8x256x512, .f32⟩
  | 72 => ⟨S_, .f32⟩
  | 73 => ⟨S32x4x128x8x512, .f32⟩
  | 74 => ⟨S_, .i32⟩
  | 75 => ⟨S32x4x128x8x256, .f32⟩
  | 76 => ⟨S32x4x128x8x256, .f32⟩
  | 77 => ⟨S32x4x128x8x512, .f32⟩
  | 78 => ⟨S8x128x128, .f32⟩
  | 79 => ⟨S128x8, .f32⟩
  | 80 => ⟨S8, .f32⟩
  | 81 => ⟨S128x8, .f32⟩
  | 82 => ⟨S_, .i32⟩
  | 83 => ⟨S4x8x256x512, .f32⟩
  | 84 => ⟨S32x4x128x8x512, .f32⟩
  | 85 => ⟨S_, .i32⟩
  | 86 => ⟨S_, .i1⟩
  | 87 => ⟨S_, .i32⟩
  | 88 => ⟨S_, .i32⟩
  | 89 => ⟨S_, .i32⟩
  | 90 => ⟨S_, .i32⟩
  | 91 => ⟨S1x4x128x8x256, .f32⟩
  | 92 => ⟨S4x128x8x256, .f32⟩
  | 93 => ⟨S_, .i32⟩
  | 94 => ⟨S_, .i32⟩
  | 95 => ⟨S_, .i32⟩
  | 96 => ⟨S_, .i32⟩
  | 97 => ⟨S1x4x128x8x256, .f32⟩
  | 98 => ⟨S4x128x8x256, .f32⟩
  | 99 => ⟨S_, .i32⟩
  | 100 => ⟨S_, .i32⟩
  | 101 => ⟨S_, .i32⟩
  | 102 => ⟨S_, .i32⟩
  | 103 => ⟨S1x4x128x8x512, .f32⟩
  | 104 => ⟨S4x128x8x512, .f32⟩
  | 105 => ⟨S4x8x128x128, .f32⟩
  | 106 => ⟨S1x8x128x128, .f32⟩
  | 107 => ⟨S4x8x128x128, .f32⟩
  | 108 => ⟨S4x8x128x128, .f32⟩
  | 109 => ⟨S4x8x512x128, .f32⟩
  | 110 => ⟨S4x128x8x512, .f32⟩
  | 111 => ⟨S4x8x512x128, .f32⟩
  | 112 => ⟨S4x128x8x512, .f32⟩
  | 113 => ⟨S1x128x8x1, .f32⟩
  | 114 => ⟨S4x128x8x512, .f32⟩
  | 115 => ⟨S4x128x8x512, .f32⟩
  | 116 => ⟨S1x8x1x1, .f32⟩
  | 117 => ⟨S4x8x256x512, .f32⟩
  | 118 => ⟨S4x8x256x512, .f32⟩
  | 119 => ⟨S1x128x8x1, .f32⟩
  | 120 => ⟨S4x128x8x256, .f32⟩
  | 121 => ⟨S4x128x8x256, .f32⟩
  | 122 => ⟨S4x8x256x512, .f32⟩
  | 123 => ⟨S4x8x256x512, .f32⟩
  | 124 => ⟨S4x128x8x512, .f32⟩
  | 125 => ⟨S1x4x128x8x512, .f32⟩
  | 126 => ⟨S_, .i32⟩
  | 127 => ⟨S_, .i32⟩
  | _ => ⟨S4x4096x23040, .bf16⟩

abbrev hbmTy0_1 (i : Nat) : BufTy := match i % 128 with
  | 0 => ⟨S_, .i32⟩
  | 1 => ⟨S_, .i32⟩
  | 2 => ⟨S32x4x128x8x512, .f32⟩
  | 3 => ⟨S_, .i32⟩
  | 4 => ⟨S_, .i32⟩
  | 5 => ⟨S4x4096x23040, .f32⟩
  | 6 => ⟨S4x4096x4096, .f32⟩
  | 7 => ⟨S4x32x128x8x512, .f32⟩
  | 8 => ⟨S4x4096x8x512, .f32⟩
  | 9 => ⟨S_, .f32⟩
  | 10 => ⟨S4x4096x8, .f32⟩
  | 11 => ⟨S4x4096x8x1, .f32⟩
  | 12 => ⟨S_, .f32⟩
  | 13 => ⟨S4x4096x8x1, .f32⟩
  | 14 => ⟨S4x4096x8x1, .f32⟩
  | 15 => ⟨S4x4096x8x512, .f32⟩
  | 16 => ⟨S4x4096x8x512, .f32⟩
  | 17 => ⟨S4x4096x8x512, .f32⟩
  | 18 => ⟨S_, .f32⟩
  | 19 => ⟨S4x4096x8, .f32⟩
  | 20 => ⟨S4x4096x8x1, .f32⟩
  | 21 => ⟨S_, .f32⟩
  | 22 => ⟨S4x4096x8x1, .f32⟩
  | 23 => ⟨S4x4096x8x1, .f32⟩
  | 24 => ⟨S4x4096x8x512, .f32⟩
  | 25 => ⟨S4x4096x8x512, .f32⟩
  | 26 => ⟨S_, .f32⟩
  | 27 => ⟨S4x4096x8x1, .f32⟩
  | 28 => ⟨S4x4096x8x1, .f32⟩
  | 29 => ⟨S4x4096x8x1, .f32⟩
  | 30 => ⟨S4x4096x8x512, .f32⟩
  | 31 => ⟨S4x4096x8x512, .f32⟩
  | 32 => ⟨S4x4096x4096, .f32⟩
  | 33 => ⟨S4x4096x4096, .f32⟩
  | 34 => ⟨S_, .f32⟩
  | 35 => ⟨S4x4096x4096, .f32⟩
  | 36 => ⟨S4x4096x4096, .f32⟩
  | 37 => ⟨S_, .f32⟩
  | 38 => ⟨S4x4096x4096, .f32⟩
  | 39 => ⟨S4x4096x4096, .f32⟩
  | 40 => ⟨S4x4096x4096, .f32⟩
  | 41 => ⟨S4x4096x4096, .f32⟩
  | 42 => ⟨S4x4096x4096, .f32⟩
  | 43 => ⟨S4x4096x4096, .bf16⟩
  | _ => ⟨S4x4096x23040, .bf16⟩

abbrev hbmTy (i : Nat) : BufTy := match i / 128 with
  | 0 => hbmTy0_0 i
  | 1 => hbmTy0_1 i
  | _ => ⟨S4x4096x23040, .bf16⟩

abbrev bufTy : (tb : Table) → Fin (tcTables nBuf tb) → BufTy
  | .hbm, ⟨i, _⟩ => hbmTy i
  | _, _ => ⟨S4x4096x23040, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst_1 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_4 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_5 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_6 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_7 : Ref sig .tc := ⟨.hbm, 70, rfl⟩
abbrev main_v58 : Ref sig .tc := ⟨.hbm, 71, rfl⟩
abbrev main_cst_8 : Ref sig .tc := ⟨.hbm, 72, rfl⟩
abbrev main_v59 : Ref sig .tc := ⟨.hbm, 73, rfl⟩
abbrev main_c : Ref sig .tc := ⟨.hbm, 74, rfl⟩
abbrev main_v60_0 : Ref sig .tc := ⟨.hbm, 75, rfl⟩
abbrev main_v60_1 : Ref sig .tc := ⟨.hbm, 76, rfl⟩
abbrev main_v60_2 : Ref sig .tc := ⟨.hbm, 77, rfl⟩
abbrev main_v60_3 : Ref sig .tc := ⟨.hbm, 78, rfl⟩
abbrev main_v60_4 : Ref sig .tc := ⟨.hbm, 79, rfl⟩
abbrev main_v60_5 : Ref sig .tc := ⟨.hbm, 80, rfl⟩
abbrev main_v60_6 : Ref sig .tc := ⟨.hbm, 81, rfl⟩
abbrev main_v60_7 : Ref sig .tc := ⟨.hbm, 82, rfl⟩
abbrev main_v60_8 : Ref sig .tc := ⟨.hbm, 83, rfl⟩
abbrev main_v60_9 : Ref sig .tc := ⟨.hbm, 84, rfl⟩
abbrev main_while0c_c_23 : Ref sig .tc := ⟨.hbm, 85, rfl⟩
abbrev main_while0c_v87 : Ref sig .tc := ⟨.hbm, 86, rfl⟩
abbrev main_while0b_call1_c : Ref sig .tc := ⟨.hbm, 87, rfl⟩
abbrev main_while0b_call1_c_0 : Ref sig .tc := ⟨.hbm, 88, rfl⟩
abbrev main_while0b_call1_c_1 : Ref sig .tc := ⟨.hbm, 89, rfl⟩
abbrev main_while0b_call1_c_2 : Ref sig .tc := ⟨.hbm, 90, rfl⟩
abbrev main_while0b_call1_v0 : Ref sig .tc := ⟨.hbm, 91, rfl⟩
abbrev main_while0b_v87 : Ref sig .tc := ⟨.hbm, 92, rfl⟩
abbrev main_while0b_call2_c : Ref sig .tc := ⟨.hbm, 93, rfl⟩
abbrev main_while0b_call2_c_0 : Ref sig .tc := ⟨.hbm, 94, rfl⟩
abbrev main_while0b_call2_c_1 : Ref sig .tc := ⟨.hbm, 95, rfl⟩
abbrev main_while0b_call2_c_2 : Ref sig .tc := ⟨.hbm, 96, rfl⟩
abbrev main_while0b_call2_v0 : Ref sig .tc := ⟨.hbm, 97, rfl⟩
abbrev main_while0b_v88 : Ref sig .tc := ⟨.hbm, 98, rfl⟩
abbrev main_while0b_call3_c : Ref sig .tc := ⟨.hbm, 99, rfl⟩
abbrev main_while0b_call3_c_0 : Ref sig .tc := ⟨.hbm, 100, rfl⟩
abbrev main_while0b_call3_c_1 : Ref sig .tc := ⟨.hbm, 101, rfl⟩
abbrev main_while0b_call3_c_2 : Ref sig .tc := ⟨.hbm, 102, rfl⟩
abbrev main_while0b_call3_v0 : Ref sig .tc := ⟨.hbm, 103, rfl⟩
abbrev main_while0b_v89 : Ref sig .tc := ⟨.hbm, 104, rfl⟩
abbrev main_while0b_v90 : Ref sig .tc := ⟨.hbm, 105, rfl⟩
abbrev main_while0b_v91 : Ref sig .tc := ⟨.hbm, 106, rfl⟩
abbrev main_while0b_v92 : Ref sig .tc := ⟨.hbm, 107, rfl⟩
abbrev main_while0b_v93 : Ref sig .tc := ⟨.hbm, 108, rfl⟩
abbrev main_while0b_v94 : Ref sig .tc := ⟨.hbm, 109, rfl⟩
abbrev main_while0b_v95 : Ref sig .tc := ⟨.hbm, 110, rfl⟩
abbrev main_while0b_v96 : Ref sig .tc := ⟨.hbm, 111, rfl⟩
abbrev main_while0b_v97 : Ref sig .tc := ⟨.hbm, 112, rfl⟩
abbrev main_while0b_v98 : Ref sig .tc := ⟨.hbm, 113, rfl⟩
abbrev main_while0b_v99 : Ref sig .tc := ⟨.hbm, 114, rfl⟩
abbrev main_while0b_v100 : Ref sig .tc := ⟨.hbm, 115, rfl⟩
abbrev main_while0b_v101 : Ref sig .tc := ⟨.hbm, 116, rfl⟩
abbrev main_while0b_v102 : Ref sig .tc := ⟨.hbm, 117, rfl⟩
abbrev main_while0b_v103 : Ref sig .tc := ⟨.hbm, 118, rfl⟩
abbrev main_while0b_v104 : Ref sig .tc := ⟨.hbm, 119, rfl⟩
abbrev main_while0b_v105 : Ref sig .tc := ⟨.hbm, 120, rfl⟩
abbrev main_while0b_v106 : Ref sig .tc := ⟨.hbm, 121, rfl⟩
abbrev main_while0b_v107 : Ref sig .tc := ⟨.hbm, 122, rfl⟩
abbrev main_while0b_v108 : Ref sig .tc := ⟨.hbm, 123, rfl⟩
abbrev main_while0b_v109 : Ref sig .tc := ⟨.hbm, 124, rfl⟩
abbrev main_while0b_call4_v0 : Ref sig .tc := ⟨.hbm, 125, rfl⟩
abbrev main_while0b_call4_c : Ref sig .tc := ⟨.hbm, 126, rfl⟩
abbrev main_while0b_call4_c_0 : Ref sig .tc := ⟨.hbm, 127, rfl⟩
abbrev main_while0b_call4_c_1 : Ref sig .tc := ⟨.hbm, 128, rfl⟩
abbrev main_while0b_call4_c_2 : Ref sig .tc := ⟨.hbm, 129, rfl⟩
abbrev main_while0b_v110 : Ref sig .tc := ⟨.hbm, 130, rfl⟩
abbrev main_while0b_c_23 : Ref sig .tc := ⟨.hbm, 131, rfl⟩
abbrev main_while0b_v111 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_cst_9 : Ref sig .tc := ⟨.hbm, 137, rfl⟩
abbrev main_v65 : Ref sig .tc := ⟨.hbm, 138, rfl⟩
abbrev main_v66 : Ref sig .tc := ⟨.hbm, 139, rfl⟩
abbrev main_cst_10 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_cst_11 : Ref sig .tc := ⟨.hbm, 146, rfl⟩
abbrev main_v72 : Ref sig .tc := ⟨.hbm, 147, rfl⟩
abbrev main_v73 : Ref sig .tc := ⟨.hbm, 148, rfl⟩
abbrev main_cst_12 : Ref sig .tc := ⟨.hbm, 149, rfl⟩
abbrev main_v74 : Ref sig .tc := ⟨.hbm, 150, rfl⟩
abbrev main_v75 : Ref sig .tc := ⟨.hbm, 151, rfl⟩
abbrev main_v76 : Ref sig .tc := ⟨.hbm, 152, rfl⟩
abbrev main_v77 : Ref sig .tc := ⟨.hbm, 153, rfl⟩
abbrev main_cst_13 : Ref sig .tc := ⟨.hbm, 154, rfl⟩
abbrev main_v78 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_call5_v0 : Ref sig .tc := ⟨.hbm, 160, rfl⟩
abbrev main_call5_v1 : Ref sig .tc := ⟨.hbm, 161, rfl⟩
abbrev main_call5_cst : Ref sig .tc := ⟨.hbm, 162, rfl⟩
abbrev main_call5_v2 : Ref sig .tc := ⟨.hbm, 163, rfl⟩
abbrev main_call5_v3 : Ref sig .tc := ⟨.hbm, 164, rfl⟩
abbrev main_call5_cst_0 : Ref sig .tc := ⟨.hbm, 165, rfl⟩
abbrev main_call5_v4 : Ref sig .tc := ⟨.hbm, 166, rfl⟩
abbrev main_call5_v5 : Ref sig .tc := ⟨.hbm, 167, rfl⟩
abbrev main_v83 : Ref sig .tc := ⟨.hbm, 168, rfl⟩
abbrev main_v84 : Ref sig .tc := ⟨.hbm, 169, rfl⟩
abbrev main_v85 : Ref sig .tc := ⟨.hbm, 170, rfl⟩
abbrev main_v86 : Ref sig .tc := ⟨.hbm, 171, rfl⟩

abbrev nD : Nat := 1
abbrev τ : Topo := Topo.v7x

variable {F : FTy → Type} [FloatOps F]

abbrev main_while0_count : Scf.Loop 32 := ⟨0#32, 32#32, 1#32⟩
-- ==== InKernel.lean ====
abbrev S16384x4096 : Shape := ⟨2, ![16384, 4096]⟩
abbrev S1x4096x23040 : Shape := ⟨3, ![1, 4096, 23040]⟩
abbrev S1x64x4096x512 : Shape := ⟨4, ![1, 64, 4096, 512]⟩
abbrev S1x64x512x4096 : Shape := ⟨4, ![1, 64, 512, 4096]⟩
abbrev S4096x23040 : Shape := ⟨2, ![4096, 23040]⟩
abbrev S64x4096x512 : Shape := ⟨3, ![64, 4096, 512]⟩
abbrev S64x512x4096 : Shape := ⟨3, ![64, 512, 4096]⟩
abbrev S256x1024x512 : Shape := ⟨3, ![256, 1024, 512]⟩
abbrev S256x128x4096 : Shape := ⟨3, ![256, 128, 4096]⟩
abbrev S16384x23040 : Shape := ⟨2, ![16384, 23040]⟩
abbrev S1024x4096 : Shape := ⟨2, ![1024, 4096]⟩
abbrev S4096x768 : Shape := ⟨2, ![4096, 768]⟩
abbrev S1x1024x512 : Shape := ⟨3, ![1, 1024, 512]⟩
abbrev S1x128x4096 : Shape := ⟨3, ![1, 128, 4096]⟩
abbrev S1024x768 : Shape := ⟨2, ![1024, 768]⟩

abbrev nBuf : Space → Nat
  | .hbm => 17
  | .vmem => 18
  | .smem => 0
  | _ => 0

abbrev bufTy : (tb : Table) → Fin (tcTables nBuf tb) → BufTy
  | .hbm, ⟨0, _⟩ => ⟨S16384x4096, .bf16⟩
  | .hbm, ⟨1, _⟩ => ⟨S1x4096x23040, .f32⟩
  | .hbm, ⟨2, _⟩ => ⟨S1x64x4096x512, .f32⟩
  | .hbm, ⟨3, _⟩ => ⟨S1x64x4096x512, .f32⟩
  | .hbm, ⟨4, _⟩ => ⟨S1x64x512x4096, .f32⟩
  | .hbm, ⟨5, _⟩ => ⟨S4096x23040, .f32⟩
  | .hbm, ⟨6, _⟩ => ⟨S4096x23040, .bf16⟩
  | .hbm, ⟨7, _⟩ => ⟨S64x4096x512, .f32⟩
  | .hbm, ⟨8, _⟩ => ⟨S64x4096x512, .f32⟩
  | .hbm, ⟨9, _⟩ => ⟨S64x512x4096, .f32⟩
  | .hbm, ⟨10, _⟩ => ⟨S256x1024x512, .f32⟩
  | .hbm, ⟨11, _⟩ => ⟨S256x1024x512, .f32⟩
  | .hbm, ⟨12, _⟩ => ⟨S256x128x4096, .f32⟩
  | .hbm, ⟨13, _⟩ => ⟨S16384x23040, .bf16⟩
  | .hbm, ⟨14, _⟩ => ⟨S256x1024x512, .bf16⟩
  | .hbm, ⟨15, _⟩ => ⟨S256x1024x512, .bf16⟩
  | .hbm, ⟨16, _⟩ => ⟨S256x128x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x768, .bf16⟩
  | .local _ .vmem, ⟨3, _⟩ => ⟨S4096x768, .bf16⟩
  | .local _ .vmem, ⟨4, _⟩ => ⟨S1x1024x512, .f32⟩
  | .local _ .vmem, ⟨5, _⟩ => ⟨S1x1024x512, .f32⟩
  | .local _ .vmem, ⟨6, _⟩ => ⟨S1x1024x512, .f32⟩
  | .local _ .vmem, ⟨7, _⟩ => ⟨S1x1024x512, .f32⟩
  | .local _ .vmem, ⟨8, _⟩ => ⟨S1x128x4096, .f32⟩
  | .local _ .vmem, ⟨9, _⟩ => ⟨S1x128x4096, .f32⟩
  | .local _ .vmem, ⟨10, _⟩ => ⟨S1024x768, .bf16⟩
  | .local _ .vmem, ⟨11, _⟩ => ⟨S1024x768, .bf16⟩
  | .local _ .vmem, ⟨12, _⟩ => ⟨S1x1024x512, .bf16⟩
  | .local _ .vmem, ⟨13, _⟩ => ⟨S1x1024x512, .bf16⟩
  | .local _ .vmem, ⟨14, _⟩ => ⟨S1x1024x512, .bf16⟩
  | .local _ .vmem, ⟨15, _⟩ => ⟨S1x1024x512, .bf16⟩
  | .local _ .vmem, ⟨16, _⟩ => ⟨S1x128x4096, .bf16⟩
  | .local _ .vmem, ⟨17, _⟩ => ⟨S1x128x4096, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 30], ![false, false]⟩

def k0_cond1 (i : grid0.Coords) : BitVec 1 :=
  let arg0 : BitVec 32 := BitVec.ofNat 32 (i 0).val
  let c30_i32 : BitVec 32 := 30#32
  let v6 : BitVec 32 := Scalar.muli arg0 c30_i32
  let arg1 : BitVec 32 := BitVec.ofNat 32 (i 1).val
  let v7 : BitVec 32 := Scalar.addi v6 arg1
  let c0_i32 : BitVec 32 := 0#32
  let v8 : BitVec 1 := Scalar.cmpi .sge v7 c0_i32
  let c256_i32 : BitVec 32 := 256#32
  let v9 : BitVec 1 := Scalar.cmpi .slt v7 c256_i32
  let v10 : BitVec 1 := Scalar.andi v8 v9
  let v11 : BitVec 32 := Scalar.extui v10
  let c0_i32_5 : BitVec 32 := 0#32
  let v12 : BitVec 1 := Scalar.cmpi .ne v11 c0_i32_5
  v12

def k0_cond2 (i : grid0.Coords) : BitVec 1 :=
  let arg0 : BitVec 32 := BitVec.ofNat 32 (i 0).val
  let c30_i32 : BitVec 32 := 30#32
  let v6 : BitVec 32 := Scalar.muli arg0 c30_i32
  let arg1 : BitVec 32 := BitVec.ofNat 32 (i 1).val
  let v7 : BitVec 32 := Scalar.addi v6 arg1
  let c0_i32_6 : BitVec 32 := 0#32
  let v13 : BitVec 1 := Scalar.cmpi .sge v7 c0_i32_6
  let c256_i32_7 : BitVec 32 := 256#32
  let v14 : BitVec 1 := Scalar.cmpi .slt v7 c256_i32_7
  let v15 : BitVec 1 := Scalar.andi v13 v14
  let v16 : BitVec 32 := Scalar.extui v15
  let c0_i32_8 : BitVec 32 := 0#32
  let v17 : BitVec 1 := Scalar.cmpi .ne v16 c0_i32_8
  v17

def k0_cond3 (i : grid0.Coords) : BitVec 1 :=
  let arg0 : BitVec 32 := BitVec.ofNat 32 (i 0).val
  let c30_i32 : BitVec 32 := 30#32
  let v6 : BitVec 32 := Scalar.muli arg0 c30_i32
  let arg1 : BitVec 32 := BitVec.ofNat 32 (i 1).val
  let v7 : BitVec 32 := Scalar.addi v6 arg1
  let c0_i32_9 : BitVec 32 := 0#32
  let v18 : BitVec 1 := Scalar.cmpi .sge v7 c0_i32_9
  let c256_i32_10 : BitVec 32 := 256#32
  let v19 : BitVec 1 := Scalar.cmpi .slt v7 c256_i32_10
  let v20 : BitVec 1 := Scalar.andi v18 v19
  let v21 : BitVec 32 := Scalar.extui v20
  let c0_i32_11 : BitVec 32 := 0#32
  let v22 : BitVec 1 := Scalar.cmpi .ne v21 c0_i32_11
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c30_i32 : BitVec 32 := 30#32
  let v0 : BitVec 32 := Scalar.muli arg0 c30_i32
  let v1 : BitVec 32 := Scalar.addi v0 arg1
  let c0_i32 : BitVec 32 := 0#32
  let v2 : BitVec 32 := Scalar.subi v1 c0_i32
  let c0_i32_0 : BitVec 32 := 0#32
  let c255_i32 : BitVec 32 := 255#32
  let v3 : BitVec 32 := Scalar.maxsi c0_i32_0 v2
  let v4 : BitVec 32 := Scalar.minsi c255_i32 v3
  let c0_i32_1 : BitVec 32 := 0#32
  let c0_i32_2 : BitVec 32 := 0#32
  let c0_i32_3 : BitVec 32 := 0#32
  ![v4.toNat, c0_i32_1.toNat, c0_i32_2.toNat]

def cc0_transform_3 (i : grid0.Coords) : Fin 3 → Nat :=
  let arg0 : BitVec 32 := BitVec.ofNat 32 (i 0).val
  let arg1 : BitVec 32 := BitVec.ofNat 32 (i 1).val
  let c30_i32 : BitVec 32 := 30#32
  let v0 : BitVec 32 := Scalar.muli arg0 c30_i32
  let v1 : BitVec 32 := Scalar.addi v0 arg1
  let c0_i32 : BitVec 32 := 0#32
  let v2 : BitVec 32 := Scalar.subi v1 c0_i32
  let c0_i32_0 : BitVec 32 := 0#32
  let c255_i32 : BitVec 32 := 255#32
  let v3 : BitVec 32 := Scalar.maxsi c0_i32_0 v2
  let v4 : BitVec 32 := Scalar.minsi c255_i32 v3
  let c0_i32_1 : BitVec 32 := 0#32
  let c0_i32_2 : BitVec 32 := 0#32
  let c0_i32_3 : BitVec 32 := 0#32
  ![v4.toNat, c0_i32_1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c30_i32 : BitVec 32 := 30#32
  let v0 : BitVec 32 := Scalar.muli arg0 c30_i32
  let v1 : BitVec 32 := Scalar.addi v0 arg1
  let c0_i32 : BitVec 32 := 0#32
  let v2 : BitVec 32 := Scalar.subi v1 c0_i32
  let c0_i32_0 : BitVec 32 := 0#32
  let c255_i32 : BitVec 32 := 255#32
  let v3 : BitVec 32 := Scalar.maxsi c0_i32_0 v2
  let v4 : BitVec 32 := Scalar.minsi c255_i32 v3
  let c0_i32_1 : BitVec 32 := 0#32
  let c0_i32_2 : BitVec 32 := 0#32
  let c0_i32_3 : BitVec 32 := 0#32
  ![v4.toNat, c0_i32_1.toNat, c0_i32_2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 3 → Nat :=
  let arg0 : BitVec 32 := BitVec.ofNat 32 (i 0).val
  let arg1 : BitVec 32 := BitVec.ofNat 32 (i 1).val
  let c30_i32 : BitVec 32 := 30#32
  let v0 : BitVec 32 := Scalar.muli arg0 c30_i32
  let v1 : BitVec 32 := Scalar.addi v0 arg1
  let c0_i32 : BitVec 32 := 0#32
  let v2 : BitVec 32 := Scalar.subi v1 c0_i32
  let c0_i32_0 : BitVec 32 := 0#32
  let c255_i32 : BitVec 32 := 255#32
  let v3 : BitVec 32 := Scalar.maxsi c0_i32_0 v2
  let v4 : BitVec 32 := Scalar.minsi c255_i32 v3
  let c0_i32_1 : BitVec 32 := 0#32
  let c0_i32_2 : BitVec 32 := 0#32
  let c0_i32_3 : BitVec 32 := 0#32
  ![v4.toNat, c0_i32_1.toNat, c0_i32_2.toNat]

def cc0_transform_7 (i : grid0.Coords) : Fin 3 → Nat :=
  let arg0 : BitVec 32 := BitVec.ofNat 32 (i 0).val
  let arg1 : BitVec 32 := BitVec.ofNat 32 (i 1).val
  let c30_i32 : BitVec 32 := 30#32
  let v0 : BitVec 32 := Scalar.muli arg0 c30_i32
  let v1 : BitVec 32 := Scalar.addi v0 arg1
  let c0_i32 : BitVec 32 := 0#32
  let v2 : BitVec 32 := Scalar.subi v1 c0_i32
  let c0_i32_0 : BitVec 32 := 0#32
  let c255_i32 : BitVec 32 := 255#32
  let v3 : BitVec 32 := Scalar.maxsi c0_i32_0 v2
  let v4 : BitVec 32 := Scalar.minsi c255_i32 v3
  let c0_i32_1 : BitVec 32 := 0#32
  let c0_i32_2 : BitVec 32 := 0#32
  let c0_i32_3 : BitVec 32 := 0#32
  ![v4.toNat, c0_i32_1.toNat, c0_i32_2.toNat]

def cc0_transform_8 (i : grid0.Coords) : Fin 3 → Nat :=
  let arg0 : BitVec 32 := BitVec.ofNat 32 (i 0).val
  let arg1 : BitVec 32 := BitVec.ofNat 32 (i 1).val
  let c30_i32 : BitVec 32 := 30#32
  let v0 : BitVec 32 := Scalar.muli arg0 c30_i32
  let v1 : BitVec 32 := Scalar.addi v0 arg1
  let c0_i32 : BitVec 32 := 0#32
  let v2 : BitVec 32 := Scalar.subi v1 c0_i32
  let c0_i32_0 : BitVec 32 := 0#32
  let c255_i32 : BitVec 32 := 255#32
  let v3 : BitVec 32 := Scalar.maxsi c0_i32_0 v2
  let v4 : BitVec 32 := Scalar.minsi c255_i32 v3
  let c0_i32_1 : BitVec 32 := 0#32
  let c0_i32_2 : BitVec 32 := 0#32
  let c0_i32_3 : BitVec 32 := 0#32
  ![v4.toNat, c0_i32_1.toNat, c0_i32_2.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== InReferenceIdeal.lean ====
abbrev S16384x4096 : Shape := ⟨2, ![16384, 4096]⟩
abbrev S1x4096x23040 : Shape := ⟨3, ![1, 4096, 23040]⟩
abbrev S1x64x4096x512 : Shape := ⟨4, ![1, 64, 4096, 512]⟩
abbrev S1x64x512x4096 : Shape := ⟨4, ![1, 64, 512, 4096]⟩
abbrev S4096x23040 : Shape := ⟨2, ![4096, 23040]⟩
abbrev S16384x23040 : Shape := ⟨2, ![16384, 23040]⟩
abbrev S256x1024x512 : Shape := ⟨3, ![256, 1024, 512]⟩
abbrev S256x128x4096 : Shape := ⟨3, ![256, 128, 4096]⟩

abbrev nBuf : Space → Nat
  | .hbm => 15
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x23040, .f32⟩
  | .hbm, ⟨2, _⟩ => ⟨S1x64x4096x512, .f32⟩
  | .hbm, ⟨3, _⟩ => ⟨S1x64x4096x512, .f32⟩
  | .hbm, ⟨4, _⟩ => ⟨S1x64x512x4096, .f32⟩
  | .hbm, ⟨5, _⟩ => ⟨S16384x4096, .f32⟩
  | .hbm, ⟨6, _⟩ => ⟨S4096x23040, .f32⟩
  | .hbm, ⟨7, _⟩ => ⟨S16384x23040, .f32⟩
  | .hbm, ⟨8, _⟩ => ⟨S16384x23040, .bf16⟩
  | .hbm, ⟨9, _⟩ => ⟨S256x1024x512, .f32⟩
  | .hbm, ⟨10, _⟩ => ⟨S256x1024x512, .bf16⟩
  | .hbm, ⟨11, _⟩ => ⟨S256x1024x512, .f32⟩
  | .hbm, ⟨12, _⟩ => ⟨S256x1024x512, .bf16⟩
  | .hbm, ⟨13, _⟩ => ⟨S256x128x4096, .f32⟩
  | .hbm, ⟨14, _⟩ => ⟨S256x128x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== MixKernel.lean ====
abbrev S16384x2048 : Shape := ⟨2, ![16384, 2048]⟩
abbrev S16384x4096 : Shape := ⟨2, ![16384, 4096]⟩
abbrev S1x2048x4096 : Shape := ⟨3, ![1, 2048, 4096]⟩
abbrev S1x4096x4096 : Shape := ⟨3, ![1, 4096, 4096]⟩
abbrev S16384x23040 : Shape := ⟨2, ![16384, 23040]⟩
abbrev S2048x4096 : Shape := ⟨2, ![2048, 4096]⟩
abbrev S4096x4096 : Shape := ⟨2, ![4096, 4096]⟩
abbrev S1024x2048 : Shape := ⟨2, ![1024, 2048]⟩
abbrev S1024x4096 : Shape := ⟨2, ![1024, 4096]⟩
abbrev S2048x512 : Shape := ⟨2, ![2048, 512]⟩
abbrev S4096x512 : Shape := ⟨2, ![4096, 512]⟩
abbrev S1024x512 : Shape := ⟨2, ![1024, 512]⟩

abbrev nBuf : Space → Nat
  | .hbm => 10
  | .vmem => 14
  | .smem => 0
  | _ => 0

abbrev bufTy : (tb : Table) → Fin (tcTables nBuf tb) → BufTy
  | .hbm, ⟨0, _⟩ => ⟨S16384x2048, .bf16⟩
  | .hbm, ⟨1, _⟩ => ⟨S16384x4096, .bf16⟩
  | .hbm, ⟨2, _⟩ => ⟨S1x2048x4096, .f32⟩
  | .hbm, ⟨3, _⟩ => ⟨S1x4096x4096, .f32⟩
  | .hbm, ⟨4, _⟩ => ⟨S16384x23040, .bf16⟩
  | .hbm, ⟨5, _⟩ => ⟨S2048x4096, .f32⟩
  | .hbm, ⟨6, _⟩ => ⟨S2048x4096, .bf16⟩
  | .hbm, ⟨7, _⟩ => ⟨S4096x4096, .f32⟩
  | .hbm, ⟨8, _⟩ => ⟨S4096x4096, .bf16⟩
  | .hbm, ⟨9, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x4096, .bf16⟩
  | .local _ .vmem, ⟨3, _⟩ => ⟨S1024x4096, .bf16⟩
  | .local _ .vmem, ⟨4, _⟩ => ⟨S2048x512, .bf16⟩
  | .local _ .vmem, ⟨5, _⟩ => ⟨S2048x512, .bf16⟩
  | .local _ .vmem, ⟨6, _⟩ => ⟨S4096x512, .bf16⟩
  | .local _ .vmem, ⟨7, _⟩ => ⟨S4096x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c29_i32 : BitVec 32 := 29#32
  let v0 : BitVec 32 := Scalar.addi c29_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c37_i32 : BitVec 32 := 37#32
  let v0 : BitVec 32 := Scalar.addi c37_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MixReferenceIdeal.lean ====
abbrev S16384x2048 : Shape := ⟨2, ![16384, 2048]⟩
abbrev S16384x4096 : Shape := ⟨2, ![16384, 4096]⟩
abbrev S1x2048x4096 : Shape := ⟨3, ![1, 2048, 4096]⟩
abbrev S1x4096x4096 : Shape := ⟨3, ![1, 4096, 4096]⟩
abbrev S16384x23040 : Shape := ⟨2, ![16384, 23040]⟩
abbrev S2048x4096 : Shape := ⟨2, ![2048, 4096]⟩
abbrev S4096x4096 : Shape := ⟨2, ![4096, 4096]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x4096, .bf16⟩
  | .hbm, ⟨2, _⟩ => ⟨S1x2048x4096, .f32⟩
  | .hbm, ⟨3, _⟩ => ⟨S1x4096x4096, .f32⟩
  | .hbm, ⟨4, _⟩ => ⟨S16384x23040, .bf16⟩
  | .hbm, ⟨5, _⟩ => ⟨S16384x2048, .f32⟩
  | .hbm, ⟨6, _⟩ => ⟨S2048x4096, .f32⟩
  | .hbm, ⟨7, _⟩ => ⟨S16384x4096, .f32⟩
  | .hbm, ⟨8, _⟩ => ⟨S16384x4096, .f32⟩
  | .hbm, ⟨9, _⟩ => ⟨S4096x4096, .f32⟩
  | .hbm, ⟨10, _⟩ => ⟨S16384x4096, .f32⟩
  | .hbm, ⟨11, _⟩ => ⟨S16384x23040, .f32⟩
  | .hbm, ⟨12, _⟩ => ⟨S16384x4096, .f32⟩
  | .hbm, ⟨13, _⟩ => ⟨S16384x4096, .f32⟩
  | .hbm, ⟨14, _⟩ => ⟨S16384x4096, .f32⟩
  | .hbm, ⟨15, _⟩ => ⟨S16384x4096, .f32⟩
  | .hbm, ⟨16, _⟩ => ⟨S_, .f32⟩
  | .hbm, ⟨17, _⟩ => ⟨S16384x4096, .f32⟩
  | .hbm, ⟨18, _⟩ => ⟨S16384x4096, .f32⟩
  | .hbm, ⟨19, _⟩ => ⟨S_, .f32⟩
  | .hbm, ⟨20, _⟩ => ⟨S16384x4096, .f32⟩
  | .hbm, ⟨21, _⟩ => ⟨S16384x4096, .f32⟩
  | .hbm, ⟨22, _⟩ => ⟨S16384x4096, .f32⟩
  | .hbm, ⟨23, _⟩ => ⟨S16384x4096, .f32⟩
  | .hbm, ⟨24, _⟩ => ⟨S16384x4096, .f32⟩
  | .hbm, ⟨25, _⟩ => ⟨S_, .f32⟩
  | .hbm, ⟨26, _⟩ => ⟨S16384x4096, .f32⟩
  | .hbm, ⟨27, _⟩ => ⟨S16384x4096, .f32⟩
  | .hbm, ⟨28, _⟩ => ⟨S_, .f32⟩
  | .hbm, ⟨29, _⟩ => ⟨S16384x4096, .f32⟩
  | .hbm, ⟨30, _⟩ => ⟨S16384x4096, .f32⟩
  | .hbm, ⟨31, _⟩ => ⟨S16384x4096, .f32⟩
  | .hbm, ⟨32, _⟩ => ⟨S16384x4096, .f32⟩
  | .hbm, ⟨33, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== ResidKernel.lean ====
abbrev S16384x4096 : Shape := ⟨2, ![16384, 4096]⟩
abbrev S1x4096x4096 : Shape := ⟨3, ![1, 4096, 4096]⟩
abbrev S4x24576 : Shape := ⟨2, ![4, 24576]⟩
abbrev S4096x4096 : Shape := ⟨2, ![4096, 4096]⟩
abbrev S24x1x4096 : Shape := ⟨3, ![24, 1, 4096]⟩
abbrev S1024x4096 : Shape := ⟨2, ![1024, 4096]⟩
abbrev S4096x1024 : Shape := ⟨2, ![4096, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 8
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S1x4096x4096, .f32⟩
  | .hbm, ⟨2, _⟩ => ⟨S16384x4096, .f32⟩
  | .hbm, ⟨3, _⟩ => ⟨S4x24576, .f32⟩
  | .hbm, ⟨4, _⟩ => ⟨S4096x4096, .f32⟩
  | .hbm, ⟨5, _⟩ => ⟨S4096x4096, .bf16⟩
  | .hbm, ⟨6, _⟩ => ⟨S24x1x4096, .f32⟩
  | .hbm, ⟨7, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c2_i32 : BitVec 32 := 2#32
  let v18 : BitVec 32 := Scalar.addi v17 c2_i32
  let c0_i32_4 : BitVec 32 := 0#32
  let c0_i32_5 : BitVec 32 := 0#32
  ![v18.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ResidReferenceIdeal.lean ====
abbrev S16384x4096 : Shape := ⟨2, ![16384, 4096]⟩
abbrev S1x4096x4096 : Shape := ⟨3, ![1, 4096, 4096]⟩
abbrev S4x24576 : Shape := ⟨2, ![4, 24576]⟩
abbrev S4x4096 : Shape := ⟨2, ![4, 4096]⟩
abbrev S4096x4096 : Shape := ⟨2, ![4096, 4096]⟩
abbrev S4x4096x4096 : Shape := ⟨3, ![4, 4096, 4096]⟩
abbrev S4x1x4096 : Shape := ⟨3, ![4, 1, 4096]⟩

abbrev nBuf : Space → Nat
  | .hbm => 15
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x4096, .f32⟩
  | .hbm, ⟨2, _⟩ => ⟨S16384x4096, .f32⟩
  | .hbm, ⟨3, _⟩ => ⟨S4x24576, .f32⟩
  | .hbm, ⟨4, _⟩ => ⟨S4x4096, .f32⟩
  | .hbm, ⟨5, _⟩ => ⟨S16384x4096, .f32⟩
  | .hbm, ⟨6, _⟩ => ⟨S4096x4096, .f32⟩
  | .hbm, ⟨7, _⟩ => ⟨S16384x4096, .f32⟩
  | .hbm, ⟨8, _⟩ => ⟨S4x4096x4096, .f32⟩
  | .hbm, ⟨9, _⟩ => ⟨S4x4096x4096, .f32⟩
  | .hbm, ⟨10, _⟩ => ⟨S4x1x4096, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== AdaKernel.lean ====
abbrev S8x4096 : Shape := ⟨2, ![8, 4096]⟩
abbrev S1x4096x24576 : Shape := ⟨3, ![1, 4096, 24576]⟩
abbrev S1x24576 : Shape := ⟨2, ![1, 24576]⟩
abbrev S4096x24576 : Shape := ⟨2, ![4096, 24576]⟩
abbrev S24576 : Shape := ⟨1, ![24576]⟩
abbrev S8x24576 : Shape := ⟨2, ![8, 24576]⟩
abbrev S4096x1024 : Shape := ⟨2, ![4096, 1024]⟩
abbrev S1x1024 : Shape := ⟨2, ![1, 1024]⟩
abbrev S8x1024 : Shape := ⟨2, ![8, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8x4096, .f32⟩
  | .hbm, ⟨1, _⟩ => ⟨S1x4096x24576, .f32⟩
  | .hbm, ⟨2, _⟩ => ⟨S1x24576, .f32⟩
  | .hbm, ⟨3, _⟩ => ⟨S4096x24576, .f32⟩
  | .hbm, ⟨4, _⟩ => ⟨S24576, .f32⟩
  | .hbm, ⟨5, _⟩ => ⟨S1x24576, .f32⟩
  | .hbm, ⟨6, _⟩ => ⟨S8x24576, .f32⟩
  | .local _ .vmem, ⟨0, _⟩ => ⟨S8x4096, .f32⟩
  | .local _ .vmem, ⟨1, _⟩ => ⟨S4096x1024, .f32⟩
  | .local _ .vmem, ⟨2, _⟩ => ⟨S4096x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaReferenceIdeal.lean ====
abbrev S8x4096 : Shape := ⟨2, ![8, 4096]⟩
abbrev S1x4096x24576 : Shape := ⟨3, ![1, 4096, 24576]⟩
abbrev S1x24576 : Shape := ⟨2, ![1, 24576]⟩
abbrev S_ : Shape := ⟨0, ![]⟩
abbrev S4096x24576 : Shape := ⟨2, ![4096, 24576]⟩
abbrev S8x24576 : Shape := ⟨2, ![8, 24576]⟩
abbrev S24576 : Shape := ⟨1, ![24576]⟩

abbrev nBuf : Space → Nat
  | .hbm => 18
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S1x4096x24576, .f32⟩
  | .hbm, ⟨2, _⟩ => ⟨S1x24576, .f32⟩
  | .hbm, ⟨3, _⟩ => ⟨S8x4096, .f32⟩
  | .hbm, ⟨4, _⟩ => ⟨S8x4096, .f32⟩
  | .hbm, ⟨5, _⟩ => ⟨S_, .f32⟩
  | .hbm, ⟨6, _⟩ => ⟨S8x4096, .f32⟩
  | .hbm, ⟨7, _⟩ => ⟨S8x4096, .f32⟩
  | .hbm, ⟨8, _⟩ => ⟨S_, .f32⟩
  | .hbm, ⟨9, _⟩ => ⟨S8x4096, .f32⟩
  | .hbm, ⟨10, _⟩ => ⟨S8x4096, .f32⟩
  | .hbm, ⟨11, _⟩ => ⟨S8x4096, .f32⟩
  | .hbm, ⟨12, _⟩ => ⟨S4096x24576, .f32⟩
  | .hbm, ⟨13, _⟩ => ⟨S8x24576, .f32⟩
  | .hbm, ⟨14, _⟩ => ⟨S24576, .f32⟩
  | .hbm, ⟨15, _⟩ => ⟨S1x24576, .f32⟩
  | .hbm, ⟨16, _⟩ => ⟨S8x24576, .f32⟩
  | .hbm, ⟨17, _⟩ => ⟨S8x24576, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== NormKernel.lean ====
abbrev S4x4096x4096 : Shape := ⟨3, ![4, 4096, 4096]⟩
abbrev S1x4096 : Shape := ⟨2, ![1, 4096]⟩
abbrev S4x24576 : Shape := ⟨2, ![4, 24576]⟩
abbrev S4096 : Shape := ⟨1, ![4096]⟩
abbrev S24x1x4096 : Shape := ⟨3, ![24, 1, 4096]⟩
abbrev S1x512x4096 : Shape := ⟨3, ![1, 512, 4096]⟩
abbrev S1x1x4096 : Shape := ⟨3, ![1, 1, 4096]⟩
abbrev S512x4096 : Shape := ⟨2, ![512, 4096]⟩
abbrev S512 : Shape := ⟨1, ![512]⟩
abbrev S512x1 : Shape := ⟨2, ![512, 1]⟩

abbrev nBuf : Space → Nat
  | .hbm => 7
  | .vmem => 9
  | .smem => 0
  | _ => 0

abbrev bufTy : (tb : Table) → Fin (tcTables nBuf tb) → BufTy
  | .hbm, ⟨0, _⟩ => ⟨S4x4096x4096, .f32⟩
  | .hbm, ⟨1, _⟩ => ⟨S1x4096, .f32⟩
  | .hbm, ⟨2, _⟩ => ⟨S4x24576, .f32⟩
  | .hbm, ⟨3, _⟩ => ⟨S4096, .f32⟩
  | .hbm, ⟨4, _⟩ => ⟨S24x1x4096, .f32⟩
  | .hbm, ⟨5, _⟩ => ⟨S1x4096, .f32⟩
  | .hbm, ⟨6, _⟩ => ⟨S4x4096x4096, .bf16⟩
  | .local _ .vmem, ⟨0, _⟩ => ⟨S1x512x4096, .f32⟩
  | .local _ .vmem, ⟨1, _⟩ => ⟨S1x512x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S1x512x4096, .bf16⟩
  | .local _ .vmem, ⟨8, _⟩ => ⟨S1x512x4096, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== NormReferenceIdeal.lean ====
abbrev S4x4096x4096 : Shape := ⟨3, ![4, 4096, 4096]⟩
abbrev S1x4096 : Shape := ⟨2, ![1, 4096]⟩
abbrev S4x24576 : Shape := ⟨2, ![4, 24576]⟩
abbrev S4x4096 : Shape := ⟨2, ![4, 4096]⟩
abbrev S_ : Shape := ⟨0, ![]⟩
abbrev S4x4096x1 : Shape := ⟨3, ![4, 4096, 1]⟩
abbrev S4096 : Shape := ⟨1, ![4096]⟩
abbrev S1x1x4096 : Shape := ⟨3, ![1, 1, 4096]⟩
abbrev S4x1x4096 : Shape := ⟨3, ![4, 1, 4096]⟩

abbrev nBuf : Space → Nat
  | .hbm => 32
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S1x4096, .f32⟩
  | .hbm, ⟨2, _⟩ => ⟨S4x24576, .f32⟩
  | .hbm, ⟨3, _⟩ => ⟨S4x4096, .f32⟩
  | .hbm, ⟨4, _⟩ => ⟨S4x4096, .f32⟩
  | .hbm, ⟨5, _⟩ => ⟨S4x4096x4096, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x4096, .f32⟩
  | .hbm, ⟨17, _⟩ => ⟨S4x4096x4096, .f32⟩
  | .hbm, ⟨18, _⟩ => ⟨S4096, .f32⟩
  | .hbm, ⟨19, _⟩ => ⟨S1x1x4096, .f32⟩
  | .hbm, ⟨20, _⟩ => ⟨S4x4096x4096, .f32⟩
  | .hbm, ⟨21, _⟩ => ⟨S4x4096x4096, .f32⟩
  | .hbm, ⟨22, _⟩ => ⟨S4x1x4096, .f32⟩
  | .hbm, ⟨23, _⟩ => ⟨S_, .f32⟩
  | .hbm, ⟨24, _⟩ => ⟨S4x1x4096, .f32⟩
  | .hbm, ⟨25, _⟩ => ⟨S4x1x4096, .f32⟩
  | .hbm, ⟨26, _⟩ => ⟨S4x4096x4096, .f32⟩
  | .hbm, ⟨27, _⟩ => ⟨S4x4096x4096, .f32⟩
  | .hbm, ⟨28, _⟩ => ⟨S4x1x4096, .f32⟩
  | .hbm, ⟨29, _⟩ => ⟨S4x4096x4096, .f32⟩
  | .hbm, ⟨30, _⟩ => ⟨S4x4096x4096, .f32⟩
  | .hbm, ⟨31, _⟩ => ⟨S4x4096x4096, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== AttKernel.lean ====
abbrev S4x4096x23040 : Shape := ⟨3, ![4, 4096, 23040]⟩
abbrev S1x32 : Shape := ⟨2, ![1, 32]⟩
abbrev S32 : Shape := ⟨1, ![32]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S4x4x2 : Shape := ⟨3, ![4, 4, 2]⟩
abbrev S4x4x2x1x1 : Shape := ⟨5, ![4, 4, 2, 1, 1]⟩
abbrev S1x1x1x128x256 : Shape := ⟨5, ![1, 1, 1, 128, 256]⟩
abbrev S4x4x2x128x256 : Shape := ⟨5, ![4, 4, 2, 128, 256]⟩
abbrev S4x2x256x4x128 : Shape := ⟨5, ![4, 2, 256, 4, 128]⟩
abbrev S8x256x512 : Shape := ⟨3, ![8, 256, 512]⟩
abbrev S4x4096x2048 : Shape := ⟨3, ![4, 4096, 2048]⟩
abbrev S1x256x2048 : Shape := ⟨3, ![1, 256, 2048]⟩
abbrev S1x256x256 : Shape := ⟨3, ![1, 256, 256]⟩
abbrev S1x128x256 : Shape := ⟨3, ![1, 128, 256]⟩
abbrev S256x64 : Shape := ⟨2, ![256, 64]⟩
abbrev S1x128x64 : Shape := ⟨3, ![1, 128, 64]⟩
abbrev S128x64 : Shape := ⟨2, ![128, 64]⟩
abbrev S1x128x128 : Shape := ⟨3, ![1, 128, 128]⟩
abbrev S128x128 : Shape := ⟨2, ![128, 128]⟩
abbrev S512x128 : Shape := ⟨2, ![512, 128]⟩
abbrev S256x128 : Shape := ⟨2, ![256, 128]⟩
abbrev S256x512 : Shape := ⟨2, ![256, 512]⟩
abbrev S1x256x512 : Shape := ⟨3, ![1, 256, 512]⟩
abbrev S128x512 : Shape := ⟨2, ![128, 512]⟩
abbrev S1 : Shape := ⟨1, ![1]⟩
abbrev S1x128 : Shape := ⟨2, ![1, 128]⟩
abbrev S1x512 : Shape := ⟨2, ![1, 512]⟩
abbrev S512 : Shape := ⟨1, ![512]⟩

abbrev nBuf : Space → Nat
  | .hbm => 50
  | .vmem => 13
  | .smem => 1
  | _ => 0

abbrev bufTy : (tb : Table) → Fin (tcTables nBuf tb) → BufTy
  | .hbm, ⟨0, _⟩ => ⟨S4x4096x23040, .bf16⟩
  | .hbm, ⟨1, _⟩ => ⟨S1x32, .f32⟩
  | .hbm, ⟨2, _⟩ => ⟨S32, .f32⟩
  | .hbm, ⟨3, _⟩ => ⟨S128, .i32⟩
  | .hbm, ⟨4, _⟩ => ⟨S128x1, .i32⟩
  | .hbm, ⟨5, _⟩ => ⟨S256, .i32⟩
  | .hbm, ⟨6, _⟩ => ⟨S1x256, .i32⟩
  | .hbm, ⟨7, _⟩ => ⟨S_, .i32⟩
  | .hbm, ⟨8, _⟩ => ⟨S128x1, .i32⟩
  | .hbm, ⟨9, _⟩ => ⟨S128x1, .i32⟩
  | .hbm, ⟨10, _⟩ => ⟨S128x256, .i32⟩
  | .hbm, ⟨11, _⟩ => ⟨S128x256, .i32⟩
  | .hbm, ⟨12, _⟩ => ⟨S128x256, .i32⟩
  | .hbm, ⟨13, _⟩ => ⟨S_, .i32⟩
  | .hbm, ⟨14, _⟩ => ⟨S128x256, .i32⟩
  | .hbm, ⟨15, _⟩ => ⟨S128x256, .i1⟩
  | .hbm, ⟨16, _⟩ => ⟨S_, .i32⟩
  | .hbm, ⟨17, _⟩ => ⟨S128x256, .i32⟩
  | .hbm, ⟨18, _⟩ => ⟨S128x256, .i1⟩
  | .hbm, ⟨19, _⟩ => ⟨S128x256, .i1⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S32, .f32⟩
  | .hbm, ⟨34, _⟩ => ⟨S4x4x2, .f32⟩
  | .hbm, ⟨35, _⟩ => ⟨S4x4x2x1x1, .f32⟩
  | .hbm, ⟨36, _⟩ => ⟨S4x4x2x1x1, .f32⟩
  | .hbm, ⟨37, _⟩ => ⟨S128x256, .f32⟩
  | .hbm, ⟨38, _⟩ => ⟨S1x1x1x128x256, .f32⟩
  | .hbm, ⟨39, _⟩ => ⟨S4x4x2x128x256, .f32⟩
  | .hbm, ⟨40, _⟩ => ⟨S4x4x2x128x256, .f32⟩
  | .hbm, ⟨41, _⟩ => ⟨S4x4x2x128x256, .f32⟩
  | .hbm, ⟨42, _⟩ => ⟨S_, .f32⟩
  | .hbm, ⟨43, _⟩ => ⟨S_, .f32⟩
  | .hbm, ⟨44, _⟩ => ⟨S4x4x2x128x256, .i1⟩
  | .hbm, ⟨45, _⟩ => ⟨S4x4x2x128x256, .f32⟩
  | .hbm, ⟨46, _⟩ => ⟨S4x4x2x128x256, .f32⟩
  | .hbm, ⟨47, _⟩ => ⟨S4x2x256x4x128, .f32⟩
  | .hbm, ⟨48, _⟩ => ⟨S8x256x512, .f32⟩
  | .hbm, ⟨49, _⟩ => ⟨S4x4096x2048, .bf16⟩
  | .local _ .vmem, ⟨0, _⟩ => ⟨S1x256x2048, .bf16⟩
  | .local _ .vmem, ⟨1, _⟩ => ⟨S1x256x2048, .bf16⟩
  | .local _ .vmem, ⟨2, _⟩ => ⟨S1x256x256, .bf16⟩
  | .local _ .vmem, ⟨3, _⟩ => ⟨S1x256x256, .bf16⟩
  | .local _ .vmem, ⟨4, _⟩ => ⟨S1x128x256, .bf16⟩
  | .local _ .vmem, ⟨5, _⟩ => ⟨S1x128x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x128x256, .bf16⟩
  | .local _ .vmem, ⟨9, _⟩ => ⟨S1x128x256, .bf16⟩
  | .local _ .vmem, ⟨10, _⟩ => ⟨S8x256x512, .f32⟩
  | .local _ .vmem, ⟨11, _⟩ => ⟨S1x256x2048, .bf16⟩
  | .local _ .vmem, ⟨12, _⟩ => ⟨S1x256x2048, .bf16⟩
  | .local _ .smem, ⟨0, _⟩ => ⟨S32, .f32⟩
  | _, _ => ⟨S4x4096x23040, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_v10 : Ref sig .tc := ⟨.hbm, 14, rfl⟩
abbrev main_v11 : Ref sig .tc := ⟨.hbm, 15, rfl⟩
abbrev main_c_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let c0_i32_0 : BitVec 32 := 0#32
  ![arg0.toNat, v2.toNat, c8_i32.toNat]

def cc0_transform_4 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.subi v0 c1_i32
  let c0_i32 : BitVec 32 := 0#32
  let v2 : BitVec 32 := Scalar.maxsi v1 c0_i32
  let c9_i32 : BitVec 32 := 9#32
  let c0_i32_0 : BitVec 32 := 0#32
  ![arg0.toNat, v2.toNat, c9_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AttKernelIdeal.lean ====
variable {F : FTy → Type} [FloatOps F] [Named F]
def κ : String → Option EReal := fun
  | "mask" => some ⊥
  | _ => none
-- ==== AttReferenceIdeal.lean ====
abbrev S4x4096x23040 : Shape := ⟨3, ![4, 4096, 23040]⟩
abbrev S1x32 : Shape := ⟨2, ![1, 32]⟩
abbrev S4x4096x2048 : Shape := ⟨3, ![4, 4096, 2048]⟩
abbrev S4x4096x256 : Shape := ⟨3, ![4, 4096, 256]⟩
abbrev S32 : Shape := ⟨1, ![32]⟩
abbrev S4x32x128x4x8x64 : Shape := ⟨6, ![4, 32, 128, 4, 8, 64]⟩
abbrev S4x32x128x4x64 : Shape := ⟨5, ![4, 32, 128, 4, 64]⟩
abbrev S_ : Shape := ⟨0, ![]⟩
abbrev S4x33x128x4x64 : Shape := ⟨5, ![4, 33, 128, 4, 64]⟩
abbrev S4x32x256x4x64 : Shape := ⟨5, ![4, 32, 256, 4, 64]⟩
abbrev S4x32x4x256x128x8 : Shape := ⟨6, ![4, 32, 4, 256, 128, 8]⟩
abbrev S4x32x4x8x128x256 : Shape := ⟨6, ![4, 32, 4, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S4x8 : Shape := ⟨2, ![4, 8]⟩
abbrev S4x8x1x1 : Shape := ⟨4, ![4, 8, 1, 1]⟩
abbrev S1x1x128x256 : Shape := ⟨4, ![1, 1, 128, 256]⟩
abbrev S4x8x128x256 : Shape := ⟨4, ![4, 8, 128, 256]⟩
abbrev S1x1x4x8x128x256 : Shape := ⟨6, ![1, 1, 4, 8, 128, 256]⟩
abbrev S1x32x1x1x128x256 : Shape := ⟨6, ![1, 32, 1, 1, 128, 256]⟩
abbrev S4x32x4x8x128 : Shape := ⟨5, ![4, 32, 4, 8, 128]⟩
abbrev S4x32x4x8x128x1 : Shape := ⟨6, ![4, 32, 4, 8, 128, 1]⟩
abbrev S1x1x4x8x1x1 : Shape := ⟨6, ![1, 1, 4, 8, 1, 1]⟩
abbrev S4x32x4x64x8x128 : Shape := ⟨6, ![4, 32, 4, 64, 8, 128]⟩

abbrev nBuf : Space → Nat
  | .hbm => 116
  | .vmem => 0
  | .smem => 0
  | _ => 0

abbrev bufTy : (tb : Table) → Fin (tcTables nBuf tb) → BufTy
  | .hbm, ⟨0, _⟩ => ⟨S4x4096x23040, .bf16⟩
  | .hbm, ⟨1, _⟩ => ⟨S1x32, .f32⟩
  | .hbm, ⟨2, _⟩ => ⟨S4x4096x23040, .f32⟩
  | .hbm, ⟨3, _⟩ => ⟨S4x4096x2048, .f32⟩
  | .hbm, ⟨4, _⟩ => ⟨S4x4096x256, .f32⟩
  | .hbm, ⟨5, _⟩ => ⟨S4x4096x256, .f32⟩
  | .hbm, ⟨6, _⟩ => ⟨S32, .f32⟩
  | .hbm, ⟨7, _⟩ => ⟨S4x32x128x4x8x64, .f32⟩
  | .hbm, ⟨8, _⟩ => ⟨S4x32x128x4x64, .f32⟩
  | .hbm, ⟨9, _⟩ => ⟨S_, .i32⟩
  | .hbm, ⟨10, _⟩ => ⟨S_, .f32⟩
  | .hbm, ⟨11, _⟩ => ⟨S4x33x128x4x64, .f32⟩
  | .hbm, ⟨12, _⟩ => ⟨S4x32x128x4x64, .f32⟩
  | .hbm, ⟨13, _⟩ => ⟨S4x32x256x4x64, .f32⟩
  | .hbm, ⟨14, _⟩ => ⟨S4x32x128x4x64, .f32⟩
  | .hbm, ⟨15, _⟩ => ⟨S_, .i32⟩
  | .hbm, ⟨16, _⟩ => ⟨S_, .f32⟩
  | .hbm, ⟨17, _⟩ => ⟨S4x33x128x4x64, .f32⟩
  | .hbm, ⟨18, _⟩ => ⟨S4x32x128x4x64, .f32⟩
  | .hbm, ⟨19, _⟩ => ⟨S4x32x256x4x64, .f32⟩
  | .hbm, ⟨20, _⟩ => ⟨S4x32x4x256x128x8, .f32⟩
  | .hbm, ⟨21, _⟩ => ⟨S4x32x4x8x128x256, .f32⟩
  | .hbm, ⟨22, _⟩ => ⟨S_, .f32⟩
  | .hbm, ⟨23, _⟩ => ⟨S4x32x4x8x128x256, .f32⟩
  | .hbm, ⟨24, _⟩ => ⟨S4x32x4x8x128x256, .f32⟩
  | .hbm, ⟨25, _⟩ => ⟨S128, .i32⟩
  | .hbm, ⟨26, _⟩ => ⟨S128x1, .i32⟩
  | .hbm, ⟨27, _⟩ => ⟨S256, .i32⟩
  | .hbm, ⟨28, _⟩ => ⟨S1x256, .i32⟩
  | .hbm, ⟨29, _⟩ => ⟨S_, .i32⟩
  | .hbm, ⟨30, _⟩ => ⟨S128x1, .i32⟩
  | .hbm, ⟨31, _⟩ => ⟨S128x1, .i32⟩
  | .hbm, ⟨32, _⟩ => ⟨S128x256, .i32⟩
  | .hbm, ⟨33, _⟩ => ⟨S128x256, .i32⟩
  | .hbm, ⟨34, _⟩ => ⟨S128x256, .i32⟩
  | .hbm, ⟨35, _⟩ => ⟨S32, .i32⟩
  | .hbm, ⟨36, _⟩ => ⟨S32x1x1, .i32⟩
  | .hbm, ⟨37, _⟩ => ⟨S_, .i32⟩
  | .hbm, ⟨38, _⟩ => ⟨S32x1x1, .i32⟩
  | .hbm, ⟨39, _⟩ => ⟨S32x1x1, .i32⟩
  | .hbm, ⟨40, _⟩ => ⟨S_, .i32⟩
  | .hbm, ⟨41, _⟩ => ⟨S32x1x1, .i32⟩
  | .hbm, ⟨42, _⟩ => ⟨S32x1x1, .i32⟩
  | .hbm, ⟨43, _⟩ => ⟨S1x1x256, .i32⟩
  | .hbm, ⟨44, _⟩ => ⟨S32x1x256, .i32⟩
  | .hbm, ⟨45, _⟩ => ⟨S32x1x256, .i32⟩
  | .hbm, ⟨46, _⟩ => ⟨S32x1x256, .i32⟩
  | .hbm, ⟨47, _⟩ => ⟨S_, .i32⟩
  | .hbm, ⟨48, _⟩ => ⟨S128x256, .i32⟩
  | .hbm, ⟨49, _⟩ => ⟨S128x256, .i1⟩
  | .hbm, ⟨50, _⟩ => ⟨S_, .i32⟩
  | .hbm, ⟨51, _⟩ => ⟨S128x256, .i32⟩
  | .hbm, ⟨52, _⟩ => ⟨S128x256, .i1⟩
  | .hbm, ⟨53, _⟩ => ⟨S128x256, .i1⟩
  | .hbm, ⟨54, _⟩ => ⟨S_, .i32⟩
  | .hbm, ⟨55, _⟩ => ⟨S32x1x256, .i32⟩
  | .hbm, ⟨56, _⟩ => ⟨S32x1x256, .i1⟩
  | .hbm, ⟨57, _⟩ => ⟨S1x128x256, .i1⟩
  | .hbm, ⟨58, _⟩ => ⟨S32x128x256, .i1⟩
  | .hbm, ⟨59, _⟩ => ⟨S32x128x256, .i1⟩
  | .hbm, ⟨60, _⟩ => ⟨S32x128x256, .i1⟩
  | .hbm, ⟨61, _⟩ => ⟨S32, .f32⟩
  | .hbm, ⟨62, _⟩ => ⟨S_, .f32⟩
  | .hbm, ⟨63, _⟩ => ⟨S32, .f32⟩
  | .hbm, ⟨64, _⟩ => ⟨S32, .f32⟩
  | .hbm, ⟨65, _⟩ => ⟨S_, .f32⟩
  | .hbm, ⟨66, _⟩ => ⟨S32, .f32⟩
  | .hbm, ⟨67, _⟩ => ⟨S32, .f32⟩
  | .hbm, ⟨68, _⟩ => ⟨S_, .f32⟩
  | .hbm, ⟨69, _⟩ => ⟨S32, .f32⟩
  | .hbm, ⟨70, _⟩ => ⟨S32, .f32⟩
  | .hbm, ⟨71, _⟩ => ⟨S_, .f32⟩
  | .hbm, ⟨72, _⟩ => ⟨S32, .f32⟩
  | .hbm, ⟨73, _⟩ => ⟨S32, .f32⟩
  | .hbm, ⟨74, _⟩ => ⟨S32, .f32⟩
  | .hbm, ⟨75, _⟩ => ⟨S4x8, .f32⟩
  | .hbm, ⟨76, _⟩ => ⟨S4x8x1x1, .f32⟩
  | .hbm, ⟨77, _⟩ => ⟨S128x256, .f32⟩
  | .hbm, ⟨78, _⟩ => ⟨S1x1x128x256, .f32⟩
  | .hbm, ⟨79, _⟩ => ⟨S4x8x128x256, .f32⟩
  | .hbm, ⟨80, _⟩ => ⟨S4x8x128x256, .f32⟩
  | .hbm, ⟨81, _⟩ => ⟨S4x8x128x256, .f32⟩
  | .hbm, ⟨82, _⟩ => ⟨S1x1x4x8x128x256, .f32⟩
  | .hbm, ⟨83, _⟩ => ⟨S4x32x4x8x128x256, .f32⟩
  | .hbm, ⟨84, _⟩ => ⟨S4x32x4x8x128x256, .f32⟩
  | .hbm, ⟨85, _⟩ => ⟨S1x32x1x1x128x256, .i1⟩
  | .hbm, ⟨86, _⟩ => ⟨S_, .f32⟩
  | .hbm, ⟨87, _⟩ => ⟨S_, .f32⟩
  | .hbm, ⟨88, _⟩ => ⟨S4x32x4x8x128x256, .i1⟩
  | .hbm, ⟨89, _⟩ => ⟨S4x32x4x8x128x256, .f32⟩
  | .hbm, ⟨90, _⟩ => ⟨S4x32x4x8x128x256, .f32⟩
  | .hbm, ⟨91, _⟩ => ⟨S4x8, .f32⟩
  | .hbm, ⟨92, _⟩ => ⟨S4x8x1x1, .f32⟩
  | .hbm, ⟨93, _⟩ => ⟨S_, .f32⟩
  | .hbm, ⟨94, _⟩ => ⟨S4x32x4x8x128, .f32⟩
  | .hbm, ⟨95, _⟩ => ⟨S4x32x4x8x128x1, .f32⟩
  | .hbm, ⟨96, _⟩ => ⟨S1x1x4x8x1x1, .f32⟩
  | .hbm, ⟨97, _⟩ => ⟨S4x32x4x8x128x1, .f32⟩
  | .hbm, ⟨98, _⟩ => ⟨S4x32x4x8x128x1, .f32⟩
  | .hbm, ⟨99, _⟩ => ⟨S4x32x4x8x128x256, .f32⟩
  | .hbm, ⟨100, _⟩ => ⟨S4x32x4x8x128x256, .f32⟩
  | .hbm, ⟨101, _⟩ => ⟨S4x32x4x8x128x256, .f32⟩
  | .hbm, ⟨102, _⟩ => ⟨S_, .f32⟩
  | .hbm, ⟨103, _⟩ => ⟨S4x32x4x8x128, .f32⟩
  | .hbm, ⟨104, _⟩ => ⟨S4x32x4x8x128x1, .f32⟩
  | .hbm, ⟨105, _⟩ => ⟨S1x1x4x8x1x1, .f32⟩
  | .hbm, ⟨106, _⟩ => ⟨S4x32x4x8x128x1, .f32⟩
  | .hbm, ⟨107, _⟩ => ⟨S4x32x4x8x128x1, .f32⟩
  | .hbm, ⟨108, _⟩ => ⟨S4x32x4x8x128x1, .f32⟩
  | .hbm, ⟨109, _⟩ => ⟨S4x32x4x8x128x1, .f32⟩
  | .hbm, ⟨110, _⟩ => ⟨S4x32x4x8x128x256, .f32⟩
  | .hbm, ⟨111, _⟩ => ⟨S4x32x4x8x128x256, .f32⟩
  | .hbm, ⟨112, _⟩ => ⟨S4x32x4x64x8x128, .f32⟩
  | .hbm, ⟨113, _⟩ => ⟨S4x32x128x4x8x64, .f32⟩
  | .hbm, ⟨114, _⟩ => ⟨S4x4096x2048, .f32⟩
  | .hbm, ⟨115, _⟩ => ⟨S4x4096x2048, .bf16⟩
  | _, _ => ⟨S4x4096x23040, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_0 : Ref sig .tc := ⟨.hbm, 15, rfl⟩
abbrev main_call1_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c_2 : Ref sig .tc := ⟨.hbm, 37, rfl⟩
abbrev main_v29 : Ref sig .tc := ⟨.hbm, 38, rfl⟩
abbrev main_v30 : Ref sig .tc := ⟨.hbm, 39, rfl⟩
abbrev main_c_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_c_4 : Ref sig .tc := ⟨.hbm, 47, rfl⟩
abbrev main_v37 : Ref sig .tc := ⟨.hbm, 48, rfl⟩
abbrev main_v38 : Ref sig .tc := ⟨.hbm, 49, rfl⟩
abbrev main_c_5 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_c_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_7 : Ref sig .tc := ⟨.hbm, 62, rfl⟩
abbrev main_v49 : Ref sig .tc := ⟨.hbm, 63, rfl⟩
abbrev main_v50 : Ref sig .tc := ⟨.hbm, 64, rfl⟩
abbrev main_cst_8 : Ref sig .tc := ⟨.hbm, 65, rfl⟩
abbrev main_v51 : Ref sig .tc := ⟨.hbm, 66, rfl⟩
abbrev main_v52 : Ref sig .tc := ⟨.hbm, 67, rfl⟩
abbrev main_cst_9 : Ref sig .tc := ⟨.hbm, 68, rfl⟩
abbrev main_v53 : Ref sig .tc := ⟨.hbm, 69, rfl⟩
abbrev main_v54 : Ref sig .tc := ⟨.hbm, 70, rfl⟩
abbrev main_cst_10 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_11 : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_12 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_cst_13 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩

abbrev nD : Nat := 1
abbrev τ : Topo := Topo.v7x

variable {F : FTy → Type} [FloatOps F]
-- ==== Proof.RetPay.lean ====
/- The retention kernel's stores read entrywise: what one grid point computes for one of the four batch rows, as plain
   formulas over the numbers that the blocks hold. -/
module

public import proofs.«01_k».proof.Proof.Gen.RetKernelIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Ret

open Cert.RetKernelIdeal Cert.RetKernelIdeal.Gen

/-- The state's step at one entry: the decayed entry plus the outer product's sum over the chunk. -/
def stepS (s cd : EReal) (k kd v : Fin 128 → EReal) : EReal := s * cd + ∑ j : Fin 128, (k j * kd j) * v j

/-- The scores of one query row against the chunk, masked. -/
def scoreS (q : Fin 256 → EReal) (k : Fin 128 → Fin 256 → EReal) (mk : Fin 128 → EReal) (j : Fin 128) : EReal :=
  (∑ d : Fin 256, q d * k j d) * mk j

/-- One entry of the retention before the normalisation: the chunk's own part plus the state's. -/
def outS (q : Fin 256 → EReal) (k : Fin 128 → Fin 256 → EReal) (mk v : Fin 128 → EReal) (s : Fin 256 → EReal) (qd : EReal) : EReal :=
  (∑ j : Fin 128, scoreS q k mk j * v j) + (∑ d : Fin 256, q d * s d) * qd

/-- The mean of a row. -/
def meanS (o : Fin 512 → EReal) : EReal := Ideal.div (∑ e : Fin 512, o e) (Ideal.ofBits .f32 0x44000000#32)

/-- The gated normalised entry. -/
def finS (o : Fin 512 → EReal) (g : EReal) (e : Fin 512) : EReal :=
  (g * Ideal.div 1 (1 + Ideal.exp (-g))) * ((o e - meanS o) *
    Ideal.rsqrt (Ideal.div (∑ e : Fin 512, (o e - meanS o) * (o e - meanS o)) (Ideal.ofBits .f32 0x44000000#32) + Ideal.ofBits .f32 0x358637BD#32))

variable (q k : Vec Ideal S1x128x256 .bf16) (v g : Vec Ideal S1x128x512 .bf16) (S : Vec Ideal S1x256x512 .f32)
  (mk : Vec Ideal S1x128x128 .f32) (qd kd : Vec Ideal S1x128x1 .f32) (cd : Vec Ideal S1x1x1 .f32) (z1 : FVec Ideal S128x128 .f32)

theorem state0 (d : Fin 256) (e : Fin 512) : k0_pay14 (F := Ideal) (k0_pay4 k kd) v S cd (ix3 0 d e)
    = stepS (S (ix3 0 d e)) (cd (ix3 0 0 0)) (fun j => k (ix3 0 j d)) (fun j => kd (ix3 0 j 0)) (fun j => v (ix3 0 j e)) := by
  unfold stepS
  pointwise [k0_pay14, k0_pay4, k0_pay3, k0_pay12, k0_pay13]

theorem state1 (d : Fin 256) (e : Fin 512) : k0_pay24 (F := Ideal) (k0_pay10 (k0_pay8 k) (k0_pay9 kd)) v S cd (ix3 0 d e)
    = stepS (S (ix3 0 d e)) (cd (ix3 0 0 0)) (fun j => k (ix3 0 j d)) (fun j => kd (ix3 0 j 0)) (fun j => v (ix3 0 j e)) := by
  unfold stepS
  pointwise [k0_pay24, k0_pay10, k0_pay8, k0_pay6, k0_pay9, k0_pay20, k0_pay22]

theorem state2 (d : Fin 256) (e : Fin 512) : k0_pay35 (F := Ideal) (k0_pay18 (k0_pay17 k) kd) v S cd (ix3 0 d e)
    = stepS (S (ix3 0 d e)) (cd (ix3 0 0 0)) (fun j => k (ix3 0 j d)) (fun j => kd (ix3 0 j 0)) (fun j => v (ix3 0 j e)) := by
  unfold stepS
  pointwise [k0_pay35, k0_pay18, k0_pay17, k0_pay31, k0_pay33]

theorem state3 (d : Fin 256) (e : Fin 512) : k0_pay41 (F := Ideal) (k0_pay29 (k0_pay28 k) kd) (k0_pay39 v) S cd (ix3 0 d e)
    = stepS (S (ix3 0 d e)) (cd (ix3 0 0 0)) (fun j => k (ix3 0 j d)) (fun j => kd (ix3 0 j 0)) (fun j => v (ix3 0 j e)) := by
  unfold stepS
  pointwise [k0_pay41, k0_pay29, k0_pay28, k0_pay39, k0_pay40]

theorem score0 (i j : Fin 128) : k0_pay5 (F := Ideal) q k mk (ix2 i j)
    = scoreS (fun d => q (ix3 0 i d)) (fun j d => k (ix3 0 j d)) (fun j => mk (ix3 0 i j)) j := by
  unfold scoreS
  pointwise [k0_pay5, k0_pay3]

theorem score1 (i j : Fin 128) : k0_pay11 (F := Ideal) (k0_pay7 q k mk) (ix2 i j)
    = scoreS (fun d => q (ix3 0 i d)) (fun j d => k (ix3 0 j d)) (fun j => mk (ix3 0 i j)) j := by
  unfold scoreS
  pointwise [k0_pay11, k0_pay7, k0_pay6]

theorem score2 (i j : Fin 128) : k0_pay19 (F := Ideal) (k0_pay16 q) (k0_pay17 k) (constant S128x128 FTy.f32 0#32) mk (ix2 i j)
    = scoreS (fun d => q (ix3 0 i d)) (fun j d => k (ix3 0 j d)) (fun j => mk (ix3 0 i j)) j := by
  unfold scoreS
  pointwise [k0_pay19, k0_pay16, k0_pay17]

theorem score3 (i j : Fin 128) : k0_pay30 (F := Ideal) (k0_pay27 q) (k0_pay28 k) (constant S128x128 FTy.f32 0#32) mk (ix2 i j)
    = scoreS (fun d => q (ix3 0 i d)) (fun j d => k (ix3 0 j d)) (fun j => mk (ix3 0 i j)) j := by
  unfold scoreS
  pointwise [k0_pay30, k0_pay27, k0_pay28]

theorem mix0 (A : FVec Ideal S128x128 .bf16) (i : Fin 128) (e : Fin 512) : k0_pay15 (F := Ideal) A q v S qd (ix2 i e)
    = (∑ j : Fin 128, A (ix2 i j) * v (ix3 0 j e)) + (∑ d : Fin 256, q (ix3 0 i d) * S (ix3 0 d e)) * qd (ix3 0 i 0) := by
  pointwise [k0_pay15, k0_pay12, k0_pay13]

theorem mix1 (A : FVec Ideal S128x128 .bf16) (i : Fin 128) (e : Fin 512) : k0_pay25 (F := Ideal) (k0_pay21 A v) (k0_pay23 q S qd) (ix2 i e)
    = (∑ j : Fin 128, A (ix2 i j) * v (ix3 0 j e)) + (∑ d : Fin 256, q (ix3 0 i d) * S (ix3 0 d e)) * qd (ix3 0 i 0) := by
  pointwise [k0_pay25, k0_pay21, k0_pay23, k0_pay20, k0_pay22]

theorem mix2 (A : FVec Ideal S128x128 .bf16) (i : Fin 128) (e : Fin 512) : k0_pay36 (F := Ideal) (k0_pay32 A v) (k0_pay34 q S qd) (ix2 i e)
    = (∑ j : Fin 128, A (ix2 i j) * v (ix3 0 j e)) + (∑ d : Fin 256, q (ix3 0 i d) * S (ix3 0 d e)) * qd (ix3 0 i 0) := by
  pointwise [k0_pay36, k0_pay32, k0_pay34, k0_pay31, k0_pay33]

theorem mix3 (A : FVec Ideal S128x128 .bf16) (i : Fin 128) (e : Fin 512) : k0_pay42 (F := Ideal) A (k0_pay38 q) (k0_pay39 v) (constant S128x512 FTy.f32 0#32) S qd (ix2 i e)
    = (∑ j : Fin 128, A (ix2 i j) * v (ix3 0 j e)) + (∑ d : Fin 256, q (ix3 0 i d) * S (ix3 0 d e)) * qd (ix3 0 i 0) := by
  pointwise [k0_pay42, k0_pay38, k0_pay39, k0_pay40]

theorem out0 (i : Fin 128) (e : Fin 512) : k0_pay15 (F := Ideal) (k0_pay5 q k mk) q v S qd (ix2 i e)
    = outS (fun d => q (ix3 0 i d)) (fun j d => k (ix3 0 j d)) (fun j => mk (ix3 0 i j)) (fun j => v (ix3 0 j e)) (fun d => S (ix3 0 d e)) (qd (ix3 0 i 0)) :=
  (mix0 q v S qd _ i e).trans (congrArg (· + _) (Finset.sum_congr rfl fun j _ => congrArg (· * _) (score0 q k mk i j)))

theorem out1 (i : Fin 128) (e : Fin 512) : k0_pay25 (F := Ideal) (k0_pay21 (k0_pay11 (k0_pay7 q k mk)) v) (k0_pay23 q S qd) (ix2 i e)
    = outS (fun d => q (ix3 0 i d)) (fun j d => k (ix3 0 j d)) (fun j => mk (ix3 0 i j)) (fun j => v (ix3 0 j e)) (fun d => S (ix3 0 d e)) (qd (ix3 0 i 0)) :=
  (mix1 q v S qd _ i e).trans (congrArg (· + _) (Finset.sum_congr rfl fun j _ => congrArg (· * _) (score1 q k mk i j)))

theorem out2 (i : Fin 128) (e : Fin 512) : k0_pay36 (F := Ideal) (k0_pay32 (k0_pay19 (k0_pay16 q) (k0_pay17 k) (constant S128x128 FTy.f32 0#32) mk) v) (k0_pay34 q S qd) (ix2 i e)
    = outS (fun d => q (ix3 0 i d)) (fun j d => k (ix3 0 j d)) (fun j => mk (ix3 0 i j)) (fun j => v (ix3 0 j e)) (fun d => S (ix3 0 d e)) (qd (ix3 0 i 0)) :=
  (mix2 q v S qd _ i e).trans (congrArg (· + _) (Finset.sum_congr rfl fun j _ => congrArg (· * _) (score2 q k mk i j)))

theorem out3 (i : Fin 128) (e : Fin 512) : k0_pay42 (F := Ideal) (k0_pay30 (k0_pay27 q) (k0_pay28 k) (constant S128x128 FTy.f32 0#32) mk) (k0_pay38 q) (k0_pay39 v) (constant S128x512 FTy.f32 0#32) S qd (ix2 i e)
    = outS (fun d => q (ix3 0 i d)) (fun j d => k (ix3 0 j d)) (fun j => mk (ix3 0 i j)) (fun j => v (ix3 0 j e)) (fun d => S (ix3 0 d e)) (qd (ix3 0 i 0)) :=
  (mix3 q v S qd _ i e).trans (congrArg (· + _) (Finset.sum_congr rfl fun j _ => congrArg (· * _) (score3 q k mk i j)))

theorem fin0 (o : FVec Ideal S128x512 .f32) (i : Fin 128) (e : Fin 512) : k0_pay26 (F := Ideal) o g (ix3 0 i e)
    = finS (fun e => o (ix2 i e)) (g (ix3 0 i e)) e := by
  unfold finS meanS
  pointwise [k0_pay26]
  try simp only [zero_sub]

theorem fin1 (o : FVec Ideal S128x512 .f32) (i : Fin 128) (e : Fin 512) : k0_pay37 (F := Ideal) o g (ix3 0 i e)
    = finS (fun e => o (ix2 i e)) (g (ix3 0 i e)) e := by
  unfold finS meanS
  pointwise [k0_pay37]
  try simp only [zero_sub]

theorem fin2 (o : FVec Ideal S128x512 .f32) (i : Fin 128) (e : Fin 512) : k0_pay45 (F := Ideal) (k0_pay43 o) (k0_pay44 g) (ix3 0 i e)
    = finS (fun e => o (ix2 i e)) (g (ix3 0 i e)) e := by
  unfold finS meanS
  pointwise [k0_pay45, k0_pay43, k0_pay44]
  try simp only [zero_sub]

theorem fin3 (o : FVec Ideal S128x512 .f32) (i : Fin 128) (e : Fin 512) : k0_pay1 (F := Ideal) (k0_pay46 o g) (ix3 0 i e)
    = finS (fun e => o (ix2 i e)) (g (ix3 0 i e)) e := by
  unfold finS meanS
  pointwise [k0_pay1, k0_pay46]
  try simp only [zero_sub]

/-- Batch row 0: what the point stores. -/
theorem whole0 (i : Fin 128) (e : Fin 512) : k0_pay26 (F := Ideal) (k0_pay15 (k0_pay5 q k mk) q v S qd) g (ix3 0 i e)
    = finS (fun e => outS (fun d => q (ix3 0 i d)) (fun j d => k (ix3 0 j d)) (fun j => mk (ix3 0 i j)) (fun j => v (ix3 0 j e)) (fun d => S (ix3 0 d e)) (qd (ix3 0 i 0)))
        (g (ix3 0 i e)) e :=
  (fin0 g _ i e).trans (congrArg (fun f => finS f _ e) (funext fun e => out0 q k v S mk qd i e))

/-- Batch row 1: what the point stores. -/
theorem whole1 (i : Fin 128) (e : Fin 512) : k0_pay37 (F := Ideal) (k0_pay25 (k0_pay21 (k0_pay11 (k0_pay7 q k mk)) v) (k0_pay23 q S qd)) g (ix3 0 i e)
    = finS (fun e => outS (fun d => q (ix3 0 i d)) (fun j d => k (ix3 0 j d)) (fun j => mk (ix3 0 i j)) (fun j => v (ix3 0 j e)) (fun d => S (ix3 0 d e)) (qd (ix3 0 i 0)))
        (g (ix3 0 i e)) e :=
  (fin1 g _ i e).trans (congrArg (fun f => finS f _ e) (funext fun e => out1 q k v S mk qd i e))

/-- Batch row 2: what the point stores. -/
theorem whole2 (i : Fin 128) (e : Fin 512) : k0_pay45 (F := Ideal) (k0_pay43 (k0_pay36 (k0_pay32 (k0_pay19 (k0_pay16 q) (k0_pay17 k) (constant S128x128 FTy.f32 0#32) mk) v) (k0_pay34 q S qd))) (k0_pay44 g) (ix3 0 i e)
    = finS (fun e => outS (fun d => q (ix3 0 i d)) (fun j d => k (ix3 0 j d)) (fun j => mk (ix3 0 i j)) (fun j => v (ix3 0 j e)) (fun d => S (ix3 0 d e)) (qd (ix3 0 i 0)))
        (g (ix3 0 i e)) e :=
  (fin2 g _ i e).trans (congrArg (fun f => finS f _ e) (funext fun e => out2 q k v S mk qd i e))

/-- Batch row 3: what the point stores. -/
theorem whole3 (i : Fin 128) (e : Fin 512) : k0_pay1 (F := Ideal) (k0_pay46 (k0_pay42 (k0_pay30 (k0_pay27 q) (k0_pay28 k) (constant S128x128 FTy.f32 0#32) mk) (k0_pay38 q) (k0_pay39 v) (constant S128x512 FTy.f32 0#32) S qd) g) (ix3 0 i e)
    = finS (fun e => outS (fun d => q (ix3 0 i d)) (fun j d => k (ix3 0 j d)) (fun j => mk (ix3 0 i j)) (fun j => v (ix3 0 j e)) (fun d => S (ix3 0 d e)) (qd (ix3 0 i 0)))
        (g (ix3 0 i e)) e :=
  (fin3 g _ i e).trans (congrArg (fun f => finS f _ e) (funext fun e => out3 q k v S mk qd i e))

end Cert.Proof.Ret

end
-- ==== Proof.RetRef.lean ====
/- The retention's reference read entrywise: its loop's state after each chunk, its stacked chunks' outputs, and the
   result array, in the same plain formulas as the kernel's. -/
module

public import proofs.«01_k».proof.Proof.Gen.RetReferenceIdeal.Step
public import proofs.«01_k».proof.Proof.RetPay
public import Idealize.ShloMosaic.Lib.Pipeline.ValueKit
public import Idealize.ShloMosaic.Lib.DynamicIndex

@[expose] public section

set_option maxRecDepth 16384

noncomputable section

open Idealize.ShloMosaic Idealize.ShloMosaic.TcCoe Idealize.SL.Sem

namespace Cert.Proof.RetRef

open Cert.RetReferenceIdeal Cert.RetReferenceIdeal.Gen Cert.RetReferenceIdeal.Step
open Cert.Proof.Ret (stepS scoreS outS finS meanS)

/-- The array of projections. -/
abbrev Arr := (⟨S4x4096x23040, .bf16⟩ : BufTy).Contents (Elt Ideal)

variable (X : Arr)

/-- A sequence row. -/
def row (n : ℕ) (i : Fin 128) : Fin 4096 := ⟨(128 * n + i.val) % 4096, Nat.mod_lt _ (by omega)⟩

/-- The queries, keys, values and gates of chunk `n`. -/
def qA (n : ℕ) (b : Fin 4) (h : Fin 8) (i : Fin 128) (d : Fin 256) : EReal := X (ix3 b (row n i) ⟨2560 + 256 * h.val + d.val, by omega⟩)
def kA (n : ℕ) (b : Fin 4) (h : Fin 8) (i : Fin 128) (d : Fin 256) : EReal := X (ix3 b (row n i) ⟨4608 + 256 * h.val + d.val, by omega⟩)
def vA (n : ℕ) (b : Fin 4) (h : Fin 8) (i : Fin 128) (e : Fin 512) : EReal := X (ix3 b (row n i) ⟨6656 + 512 * h.val + e.val, by omega⟩)
def gA (n : ℕ) (b : Fin 4) (h : Fin 8) (i : Fin 128) (e : Fin 512) : EReal := X (ix3 b (row n i) ⟨10752 + 512 * h.val + e.val, by omega⟩)

/-- The decays and the scale, as the reference makes them. -/
def MK (h : Fin 8) (i j : Fin 128) : EReal := K_main_v30 (F := Ideal) (ix3 h i j)
def QD (h : Fin 8) (i : Fin 128) : EReal := K_main_v38 (F := Ideal) (ix2 i h)
def KD (h : Fin 8) (i : Fin 128) : EReal := K_main_v46 (F := Ideal) (ix2 i h)
def CD (h : Fin 8) : EReal := K_main_v49 (F := Ideal) (ix1 h)
def SC : EReal := Ideal.ofBits .f32 0x3D800000#32

/-- The state before chunk `n`. -/
def ST (b : Fin 4) (h : Fin 8) (d : Fin 256) (e : Fin 512) : ℕ → EReal
  | 0 => 0
  | n + 1 => stepS (ST b h d e n) (CD h) (fun j => kA X n b h j d) (fun j => KD h j * SC) (fun j => vA X n b h j e)

/-- The retention before the normalisation. -/
def OU (n : ℕ) (b : Fin 4) (h : Fin 8) (i : Fin 128) (e : Fin 512) : EReal :=
  outS (qA X n b h i) (kA X n b h) (fun j => MK h i j * SC) (fun j => vA X n b h j e) (fun d => ST X b h d e n) (QD h i)

/-- The result. -/
def RS (n : ℕ) (b : Fin 4) (h : Fin 8) (i : Fin 128) (e : Fin 512) : EReal := finS (OU X n b h i) (gA X n b h i e) e

theorem sliceq {n : ℕ} (hn : n < 32) (x : Vec Ideal S32x4x128x8x256 .f32) (start : Fin 5 → Int) (h0) (hs : ∀ a, start a = ((![n, 0, 0, 0, 0] : Fin 5 → ℕ) a : Int))
    (b : Fin 4) (i : Fin 128) (h : Fin 8) (d : Fin 256) :
    Host.dynamicSlice S1x4x128x8x256 x start h0 (ix5 0 b i h d) = x (ix5 ⟨n, hn⟩ b i h d) := by
  have hsl : S32x4x128x8x256.Slices ![n, 0, 0, 0, 0] S1x4x128x8x256 :=
    ⟨rfl, fun a => by match a with
      | ⟨0, _⟩ => show n + 1 ≤ 32; omega
      | ⟨1, _⟩ => show 0 + 4 ≤ 4; omega
      | ⟨2, _⟩ => show 0 + 128 ≤ 128; omega
      | ⟨3, _⟩ => show 0 + 8 ≤ 8; omega
      | ⟨4, _⟩ => show 0 + 256 ≤ 256; omega⟩
  rw [Host.dynamicSlice_eq_extractStridedSlice _ _ _ _ h0 hsl hs]
  pointwise []

theorem slicev {n : ℕ} (hn : n < 32) (x : Vec Ideal S32x4x128x8x512 .f32) (start : Fin 5 → Int) (h0) (hs : ∀ a, start a = ((![n, 0, 0, 0, 0] : Fin 5 → ℕ) a : Int))
    (b : Fin 4) (i : Fin 128) (h : Fin 8) (d : Fin 512) :
    Host.dynamicSlice S1x4x128x8x512 x start h0 (ix5 0 b i h d) = x (ix5 ⟨n, hn⟩ b i h d) := by
  have hsl : S32x4x128x8x512.Slices ![n, 0, 0, 0, 0] S1x4x128x8x512 :=
    ⟨rfl, fun a => by match a with
      | ⟨0, _⟩ => show n + 1 ≤ 32; omega
      | ⟨1, _⟩ => show 0 + 4 ≤ 4; omega
      | ⟨2, _⟩ => show 0 + 128 ≤ 128; omega
      | ⟨3, _⟩ => show 0 + 8 ≤ 8; omega
      | ⟨4, _⟩ => show 0 + 512 ≤ 512; omega⟩
  rw [Host.dynamicSlice_eq_extractStridedSlice _ _ _ _ h0 hsl hs]
  pointwise []

/-- The start that a trip's number makes. -/
theorem start_eq {n : ℕ} (hn : n < 32) (a : Fin 5) :
    (((![(constantI S_ 32 (BitVec.ofNat 32 n) : IVec S_ 32), constantI S_ 32 0#32, constantI S_ 32 0#32, constantI S_ 32 0#32, constantI S_ 32 0#32] : Fin 5 → IVec S_ 32)) a
      (Shape.Idx.first h_S_)).toInt = ((![n, 0, 0, 0, 0] : Fin 5 → ℕ) a : Int) := by
  match a with
  | ⟨0, _⟩ => exact toInt_ofNat_of_lt (k := n) (by omega)
  | ⟨1, _⟩ => rfl
  | ⟨2, _⟩ => rfl
  | ⟨3, _⟩ => rfl
  | ⟨4, _⟩ => rfl

theorem q_apply {n : ℕ} (hn : n < 32) (b : Fin 4) (i : Fin 128) (h : Fin 8) (d : Fin 256) :
    A_main_v51 (F := Ideal) X (ix5 ⟨n, hn⟩ b i h d) = qA X n b h i d := by
  unfold qA
  pointwise [A_main_v51, A_main_v50, A_main_v4, A_main_v1, A_main_v0]
  refine congrArg X (funext fun a => Fin.ext ?_)
  match a with
  | ⟨0, _⟩ => rfl
  | ⟨1, _⟩ => show n * 128 + i.val = (128 * n + i.val) % 4096; omega
  | ⟨2, _⟩ => show 2560 + (h.val * 256 + d.val) = 2560 + 256 * h.val + d.val; omega

theorem b5_apply {n : ℕ} (hn : n < 32) (s : State Ideal) (hs : s.main_v60_0 = A_main_v51 X) (b : Fin 4) (i : Fin 128) (h : Fin 8) (d : Fin 256) :
    b5 n s (ix4 b i h d) = qA X n b h i d := by
  refine Eq.trans ?_ (q_apply X hn b i h d)
  rw [← hs]
  have e : b5 n s (ix4 b i h d) = b4 n s (ix5 0 b i h d) := by
    unfold b5
    pointwise []
  rw [e]
  unfold b4
  exact sliceq hn s.main_v60_0 _ _ (start_eq hn) b i h d

theorem k_apply {n : ℕ} (hn : n < 32) (b : Fin 4) (i : Fin 128) (h : Fin 8) (d : Fin 256) :
    A_main_v55 (F := Ideal) X (ix5 ⟨n, hn⟩ b i h d) = kA X n b h i d * SC := by
  unfold kA SC
  pointwise [A_main_v55, A_main_v54, A_main_v53, A_main_v5, A_main_v2, A_main_v0, K_main_v52, K_main_cst_6]
  refine congrArg (X · * _) (funext fun a => Fin.ext ?_)
  match a with
  | ⟨0, _⟩ => rfl
  | ⟨1, _⟩ => show n * 128 + i.val = (128 * n + i.val) % 4096; omega
  | ⟨2, _⟩ => show 4608 + (h.val * 256 + d.val) = 4608 + 256 * h.val + d.val; omega

theorem b11_apply {n : ℕ} (hn : n < 32) (s : State Ideal) (hs : s.main_v60_1 = A_main_v55 X) (b : Fin 4) (i : Fin 128) (h : Fin 8) (d : Fin 256) :
    b11 n s (ix4 b i h d) = kA X n b h i d * SC := by
  refine Eq.trans ?_ (k_apply X hn b i h d)
  rw [← hs]
  have e : b11 n s (ix4 b i h d) = b10 n s (ix5 0 b i h d) := by
    unfold b11
    pointwise []
  rw [e]
  unfold b10
  exact sliceq hn s.main_v60_1 _ _ (start_eq hn) b i h d

theorem v_apply {n : ℕ} (hn : n < 32) (b : Fin 4) (i : Fin 128) (h : Fin 8) (d : Fin 512) :
    A_main_v57 (F := Ideal) X (ix5 ⟨n, hn⟩ b i h d) = vA X n b h i d := by
  unfold vA
  pointwise [A_main_v57, A_main_v56, A_main_v6, A_main_v3, A_main_v0]
  refine congrArg X (funext fun a => Fin.ext ?_)
  match a with
  | ⟨0, _⟩ => rfl
  | ⟨1, _⟩ => show n * 128 + i.val = (128 * n + i.val) % 4096; omega
  | ⟨2, _⟩ => show 6656 + (h.val * 512 + d.val) = 6656 + 512 * h.val + d.val; omega

theorem b17_apply {n : ℕ} (hn : n < 32) (s : State Ideal) (hs : s.main_v60_2 = A_main_v57 X) (b : Fin 4) (i : Fin 128) (h : Fin 8) (d : Fin 512) :
    b17 n s (ix4 b i h d) = vA X n b h i d := by
  refine Eq.trans ?_ (v_apply X hn b i h d)
  rw [← hs]
  have e : b17 n s (ix4 b i h d) = b16 n s (ix5 0 b i h d) := by
    unfold b17
    pointwise []
  rw [e]
  unfold b16
  exact slicev hn s.main_v60_2 _ _ (start_eq hn) b i h d

/-- The loop's state before trip `n`: the arrays it slices, the state and the outputs so far. -/
structure Inv (n : ℕ) (s : State Ideal) : Prop where
  q : s.main_v60_0 = A_main_v51 X
  k : s.main_v60_1 = A_main_v55 X
  v : s.main_v60_2 = A_main_v57 X
  st : ∀ (b : Fin 4) (h : Fin 8) (d : Fin 256) (e : Fin 512), s.main_v60_8 (ix4 b h d e) = ST X b h d e n
  out : ∀ (j : Fin 32), j.val < n → ∀ (b : Fin 4) (i : Fin 128) (h : Fin 8) (e : Fin 512), s.main_v60_9 (ix5 j b i h e) = OU X j.val b h i e

theorem SC_eq : SC = ((1 / 16 : ℝ) : EReal) := by
  unfold SC
  simp [Ideal.ofBits, Ideal.ieee, -EReal.coe_mul]; norm_num

/-- A sum times the scale. -/
theorem sum_SC {ι : Type} (s : Finset ι) (f : ι → EReal) : (∑ i ∈ s, f i * SC) = (∑ i ∈ s, f i) * SC := by
  classical
  induction s using Finset.induction_on with
  | empty => simp
  | insert a s ha ih =>
    rw [Finset.sum_insert ha, Finset.sum_insert ha, ih, SC_eq]
    exact (EReal.right_distrib_of_nonneg_of_ne_top (by exact_mod_cast (by norm_num : (0 : ℝ) ≤ 1 / 16)) (EReal.coe_ne_top _) _ _).symm

theorem b36_apply (n : ℕ) (s : State Ideal) (b : Fin 4) (h : Fin 8) (d : Fin 256) (e : Fin 512) :
    b36 n s (ix4 b h d e) = s.main_v60_8 (ix4 b h d e) * CD h
      + ∑ j : Fin 128, (b11 n s (ix4 b j h d) * KD h j) * b17 n s (ix4 b j h e) := by
  unfold CD KD
  pointwise [b36, b31, b30, b29, b35, b34, b33, b32]

theorem b21_apply (n : ℕ) (s : State Ideal) (b : Fin 4) (h : Fin 8) (i j : Fin 128) :
    b21 n s (ix4 b h i j) = (∑ d : Fin 256, b5 n s (ix4 b i h d) * b11 n s (ix4 b j h d)) * MK h i j := by
  unfold MK
  pointwise [b21, b18, b20, b19]

theorem b37_apply (n : ℕ) (s : State Ideal) (b : Fin 4) (i : Fin 128) (h : Fin 8) (e : Fin 512) :
    b37 n s (ix4 b i h e) = (∑ j : Fin 128, b17 n s (ix4 b j h e) * b21 n s (ix4 b h i j))
      + (∑ d : Fin 256, s.main_v60_8 (ix4 b h d e) * b5 n s (ix4 b i h d)) * QD h i := by
  unfold QD
  pointwise [b37, b23, b22, b28, b25, b24, b27, b26]

theorem b38_apply (n : ℕ) (s : State Ideal) (b : Fin 4) (i : Fin 128) (h : Fin 8) (e : Fin 512) :
    b38 n s (ix5 0 b i h e) = b37 n s (ix4 b i h e) := by
  pointwise [b38]

theorem state_step {n : ℕ} (hn : n < 32) (s : State Ideal) (H : Inv X n s) (b : Fin 4) (h : Fin 8) (d : Fin 256) (e : Fin 512) :
    b36 n s (ix4 b h d e) = ST X b h d e (n + 1) := by
  rw [b36_apply, H.st]
  show _ = stepS _ _ _ _ _
  unfold stepS
  refine congrArg (_ + ·) (Finset.sum_congr rfl fun j _ => ?_)
  rw [b11_apply X hn s H.k, b17_apply X hn s H.v, mul_assoc (kA X n b h j d) SC, mul_comm SC]

theorem out_step {n : ℕ} (hn : n < 32) (s : State Ideal) (H : Inv X n s) (b : Fin 4) (i : Fin 128) (h : Fin 8) (e : Fin 512) :
    b37 n s (ix4 b i h e) = OU X n b h i e := by
  rw [b37_apply]
  unfold OU outS scoreS
  refine congrArg₂ (· + ·) (Finset.sum_congr rfl fun j _ => ?_) (congrArg (· * _) (Finset.sum_congr rfl fun d _ => ?_))
  · rw [b21_apply, b17_apply X hn s H.v, mul_comm]
    refine congrArg (· * _) ?_
    show _ = (∑ d : Fin 256, qA X n b h i d * kA X n b h j d) * (MK h i j * SC)
    rw [mul_comm (MK h i j) SC, ← mul_assoc, ← sum_SC]
    refine congrArg (· * _) (Finset.sum_congr rfl fun d _ => ?_)
    rw [b5_apply X hn s H.q, b11_apply X hn s H.k, mul_assoc]
  · rw [b5_apply X hn s H.q, H.st, mul_comm]

theorem inv0 : Inv X 0 (init X) := by
  refine ⟨rfl, rfl, rfl, fun b h d e => ?_, fun j hj => absurd hj (Nat.not_lt_zero _)⟩
  show K_main_v58 (F := Ideal) (ix4 b h d e) = 0
  pointwise [K_main_v58, K_main_cst_7]

theorem updv {n : ℕ} (hn : n < 32) (x : Vec Ideal S32x4x128x8x512 .f32) (u : Vec Ideal S1x4x128x8x512 .f32) (start : Fin 5 → Int) (h0) (hs : ∀ a, start a = ((![n, 0, 0, 0, 0] : Fin 5 → ℕ) a : Int))
    (j : Fin 32) (b : Fin 4) (i : Fin 128) (h : Fin 8) (d : Fin 512) :
    Host.dynamicUpdateSlice x u start h0 (ix5 j b i h d) = if j.val = n then u (ix5 0 b i h d) else x (ix5 j b i h d) := by
  have c0 : Host.clampedStart S32x4x128x8x512 S1x4x128x8x512 h0.1 start 0 = n := Host.clampedStart_of_le h0.1 start 0 n (hs 0) (by show n + 1 ≤ 32; omega)
  have c1 : Host.clampedStart S32x4x128x8x512 S1x4x128x8x512 h0.1 start 1 = 0 := Host.clampedStart_of_le h0.1 start 1 0 (hs 1) (by show 0 + 4 ≤ 4; omega)
  have c2 : Host.clampedStart S32x4x128x8x512 S1x4x128x8x512 h0.1 start 2 = 0 := Host.clampedStart_of_le h0.1 start 2 0 (hs 2) (by show 0 + 128 ≤ 128; omega)
  have c3 : Host.clampedStart S32x4x128x8x512 S1x4x128x8x512 h0.1 start 3 = 0 := Host.clampedStart_of_le h0.1 start 3 0 (hs 3) (by show 0 + 8 ≤ 8; omega)
  have c4 : Host.clampedStart S32x4x128x8x512 S1x4x128x8x512 h0.1 start 4 = 0 := Host.clampedStart_of_le h0.1 start 4 0 (hs 4) (by show 0 + 512 ≤ 512; omega)
  rw [Host.dynamicUpdateSlice_apply]
  by_cases hj : j.val = n
  · rw [if_pos hj, dif_pos (fun a => by
      match a with
      | ⟨0, _⟩ => exact ⟨by rw [show (⟨0, _⟩ : Fin 5) = 0 from rfl, c0]; exact hj.ge, by rw [show (⟨0, _⟩ : Fin 5) = 0 from rfl, c0]; show j.val < n + 1; omega⟩
      | ⟨1, _⟩ => exact ⟨by rw [show (⟨1, _⟩ : Fin 5) = 1 from rfl, c1]; exact Nat.zero_le _, by rw [show (⟨1, _⟩ : Fin 5) = 1 from rfl, c1]; show b.val < 0 + 4; omega⟩
      | ⟨2, _⟩ => exact ⟨by rw [show (⟨2, _⟩ : Fin 5) = 2 from rfl, c2]; exact Nat.zero_le _, by rw [show (⟨2, _⟩ : Fin 5) = 2 from rfl, c2]; show i.val < 0 + 128; omega⟩
      | ⟨3, _⟩ => exact ⟨by rw [show (⟨3, _⟩ : Fin 5) = 3 from rfl, c3]; exact Nat.zero_le _, by rw [show (⟨3, _⟩ : Fin 5) = 3 from rfl, c3]; show h.val < 0 + 8; omega⟩
      | ⟨4, _⟩ => exact ⟨by rw [show (⟨4, _⟩ : Fin 5) = 4 from rfl, c4]; exact Nat.zero_le _, by rw [show (⟨4, _⟩ : Fin 5) = 4 from rfl, c4]; show d.val < 0 + 512; omega⟩)]
    refine congrArg u (funext fun a => Fin.ext ?_)
    match a with
    | ⟨0, _⟩ => show j.val - Host.clampedStart S32x4x128x8x512 S1x4x128x8x512 h0.1 start 0 = 0; omega
    | ⟨1, _⟩ => show b.val - Host.clampedStart S32x4x128x8x512 S1x4x128x8x512 h0.1 start 1 = b.val; omega
    | ⟨2, _⟩ => show i.val - Host.clampedStart S32x4x128x8x512 S1x4x128x8x512 h0.1 start 2 = i.val; omega
    | ⟨3, _⟩ => show h.val - Host.clampedStart S32x4x128x8x512 S1x4x128x8x512 h0.1 start 3 = h.val; omega
    | ⟨4, _⟩ => show d.val - Host.clampedStart S32x4x128x8x512 S1x4x128x8x512 h0.1 start 4 = d.val; omega
  · rw [if_neg hj, dif_neg (fun hin => hj (by
      have := hin 0
      rw [c0] at this
      have h1 : n ≤ j.val := this.1
      have h2 : j.val < n + 1 := this.2
      omega))]

theorem inv_step {n : ℕ} (hn : n < 32) (s : State Ideal) (H : Inv X n s) : Inv X (n + 1) (step n s) := by
  refine ⟨H.q, H.k, H.v, fun b h d e => ?_, fun j hj b i h e => ?_⟩
  · rw [step_main_v60_8]
    exact state_step X hn s H b h d e
  · rw [step_main_v60_9]
    unfold b43
    refine (updv hn _ _ _ _ (start_eq hn) j b i h e).trans ?_
    by_cases hjn : j.val = n
    · rw [if_pos hjn, b38_apply, out_step X hn s H, hjn]
    · rw [if_neg hjn]
      exact H.out j (by omega) b i h e

/-- The sequence of the loop's states. -/
def it : ℕ → State Ideal
  | 0 => init X
  | n + 1 => step n (it n)

theorem inv_it : ∀ n : ℕ, n ≤ 32 → Inv X n (it X n)
  | 0, _ => inv0 X
  | n + 1, h => inv_step X (Nat.lt_of_succ_le h) _ (inv_it n (Nat.le_of_succ_le h))

/-- The stacked outputs, laid out as sequence rows. -/
def FLAT (s : State Ideal) : FVec Ideal S4x4096x8x512 .f32 :=
  shapeCast _ (transpose S4x32x128x8x512 [1, 0, 2, 3, 4] (s.main_v60_9) transposes_S32x4x128x8x512_S4x32x128x8x512_1_0_2_3_4) shapeCasts_S4x32x128x8x512_S4x4096x8x512

theorem FLAT_apply (s : State Ideal) (n : Fin 32) (b : Fin 4) (i : Fin 128) (h : Fin 8) (e : Fin 512) :
    FLAT s (ix4 b (row n.val i) h e) = s.main_v60_9 (ix5 n b i h e) := by
  unfold FLAT
  pointwise []
  refine congrArg _ (funext fun a => Fin.ext ?_)
  match a with
  | ⟨0, _⟩ => show (row n.val i).val / 128 = n.val; show ((128 * n.val + i.val) % 4096) / 128 = n.val; omega
  | ⟨1, _⟩ => rfl
  | ⟨2, _⟩ => show ((128 * n.val + i.val) % 4096) % 128 = i.val; omega
  | ⟨3, _⟩ => rfl
  | ⟨4, _⟩ => rfl

theorem R_apply (s : State Ideal) (b : Fin 4) (r : Fin 4096) (h : Fin 8) (e : Fin 512) :
    R_main_v86 (F := Ideal) s X (ix3 b r ⟨512 * h.val + e.val, by omega⟩)
      = finS (fun e => FLAT s (ix4 b r h e)) (X (ix3 b r ⟨10752 + 512 * h.val + e.val, by omega⟩)) e := by
  unfold R_main_v86
  rw [show shapeCast _ (transpose S4x32x128x8x512 [1, 0, 2, 3, 4] (s.main_v60_9) transposes_S32x4x128x8x512_S4x32x128x8x512_1_0_2_3_4) shapeCasts_S4x32x128x8x512_S4x4096x8x512 = FLAT s from rfl]
  generalize FLAT s = f
  unfold finS meanS
  pointwise []
  exact congrArg (fun g => g * Ideal.div 1 (1 + Ideal.exp (-g)) * _) (congrArg X (funext fun a => Fin.ext (by
    match a with
    | ⟨0, _⟩ => rfl
    | ⟨1, _⟩ => rfl
    | ⟨2, _⟩ => show 10752 + (512 * h.val + e.val) = 10752 + 512 * h.val + e.val; omega)))

/-- The reference's result, entrywise. -/
theorem res_apply (n : Fin 32) (b : Fin 4) (i : Fin 128) (h : Fin 8) (e : Fin 512) :
    R_main_v86 (F := Ideal) (it X 32) X (ix3 b (row n.val i) ⟨512 * h.val + e.val, by omega⟩) = RS X n.val b h i e := by
  refine (R_apply X (it X 32) b (row n.val i) h e).trans ?_
  refine congrArg (fun f => finS f (gA X n.val b h i e) e) (funext fun e => ?_)
  rw [FLAT_apply]
  exact (inv_it X 32 (Nat.le_refl _)).out n n.isLt b i h e

end Cert.Proof.RetRef

end
-- ==== Proof.RetRead.lean ====
/- The blocks that the retention's kernel reads at a grid point, entrywise: the queries, keys, values and gates out of the
   array of projections, and the decays that the host has made. Point `t` works on head `t / 32` and chunk `t % 32`. -/
module

public import proofs.«01_k».proof.Proof.Gen.RetKernelIdeal.Value
public import proofs.«01_k».proof.Proof.RetRef
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.Ret

open Cert.RetKernelIdeal Cert.RetKernelIdeal.Gen

open Cert.Proof.RetRef (qA kA vA gA MK QD KD CD SC ST OU RS row)

variable (m : (ℓ : Loc nD τ sig) → Buf (Elt Ideal) ℓ)

/-- Which block each window holds at a grid point. -/
theorem idx : ∀ t : Fin cfg0.N, win0_0.index t = ![0, t.val % 32, 10 + t.val / 32] ∧ win0_1.index t = ![0, t.val % 32, 18 + t.val / 32]
    ∧ win0_2.index t = ![0, t.val % 32, 13 + t.val / 32] ∧ win0_3.index t = ![0, t.val % 32, 21 + t.val / 32]
    ∧ win0_4.index t = ![t.val / 32, 0, 0] ∧ win0_5.index t = ![t.val / 32, 0, 0] ∧ win0_6.index t = ![t.val / 32, 0, 0]
    ∧ win0_7.index t = ![t.val / 32, 0, 0] ∧ win0_8.index t = ![0, t.val % 32, t.val / 32] :=
  (by decide +kernel : ∀ t : Fin grid0.N, _)

/-- The head of a grid point. -/
def hd (t : Fin cfg0.N) : Fin 8 := ⟨t.val / 32, by have : t.val < 256 := t.isLt; omega⟩

/-- The array of projections. -/
abbrev XA (c : Dev nD) : Cert.Proof.RetRef.Arr := m ((c : Thread nD τ).loc main_arg0)

theorem read0 (c : Dev nD) (t : Fin cfg0.N) (b : Fin 4) (i : Fin 128) (d : Fin 256) :
    iblk m c 0 t (ix3 b i d) = qA (XA m c) (t.val % 32) b (hd t) i d := by
  unfold qA row hd
  blk_point [iblk, V, idx t]
theorem read1 (c : Dev nD) (t : Fin cfg0.N) (b : Fin 4) (i : Fin 128) (d : Fin 256) :
    iblk m c 1 t (ix3 b i d) = kA (XA m c) (t.val % 32) b (hd t) i d := by
  unfold kA row hd
  blk_point [iblk, V, idx t]
theorem read2 (c : Dev nD) (t : Fin cfg0.N) (b : Fin 4) (i : Fin 128) (d : Fin 512) :
    iblk m c 2 t (ix3 b i d) = vA (XA m c) (t.val % 32) b (hd t) i d := by
  unfold vA row hd
  blk_point [iblk, V, idx t]
theorem read3 (c : Dev nD) (t : Fin cfg0.N) (b : Fin 4) (i : Fin 128) (d : Fin 512) :
    iblk m c 3 t (ix3 b i d) = gA (XA m c) (t.val % 32) b (hd t) i d := by
  unfold gA row hd
  blk_point [iblk, V, idx t]

/-- The decay mask that the host hands the kernel: the reference's, times the scale. -/
theorem V25 (c : Dev nD) : V m c main_v25 = (mulf (Cert.RetReferenceIdeal.Step.K_main_v30 (F := Ideal)) (broadcastInDim S8x128x128 ![] bcast_S_S8x128x128 (constant S_ .f32 0x3D800000#32)) : FVec Ideal S8x128x128 .f32) := by
  unfold V
  simp only [hostOps0, hostOps0_1, hostOps0_2, List.flatten_cons, List.flatten_nil, List.cons_append, List.nil_append, List.append_nil, StableHlo.after_cons, StableHlo.after_nil]
  after_results_simp
  rfl

theorem V25_apply (c : Dev nD) (h : Fin 8) (i j : Fin 128) : V m c main_v25 (ix3 h i j) = MK h i j * SC := by
  rw [V25]
  unfold MK SC
  pointwise []

/-- The queries' decay. -/
theorem V33_apply (c : Dev nD) (h : Fin 8) (i : Fin 128) : V m c main_v33 (ix3 h i 0) = QD h i := by
  unfold V
  simp only [hostOps0, hostOps0_1, hostOps0_2, List.flatten_cons, List.flatten_nil, List.cons_append, List.nil_append, List.append_nil, StableHlo.after_cons, StableHlo.after_nil]
  after_results_simp
  unfold QD
  pointwise [Cert.RetReferenceIdeal.Step.K_main_v38, Cert.RetReferenceIdeal.Step.K_main_v37, Cert.RetReferenceIdeal.Step.K_main_v36, Cert.RetReferenceIdeal.Step.K_main_v35, Cert.RetReferenceIdeal.Step.K_main_v34, Cert.RetReferenceIdeal.Step.K_main_v33, Cert.RetReferenceIdeal.Step.K_main_v32, Cert.RetReferenceIdeal.Step.K_main_cst_3, Cert.RetReferenceIdeal.Step.K_main_v31, Cert.RetReferenceIdeal.Step.K_main_v15, Cert.RetReferenceIdeal.Step.K_main_v14, Cert.RetReferenceIdeal.Step.K_main_v13, Cert.RetReferenceIdeal.Step.K_main_v12, Cert.RetReferenceIdeal.Step.K_main_v11, Cert.RetReferenceIdeal.Step.K_main_v10, Cert.RetReferenceIdeal.Step.K_main_cst_0, Cert.RetReferenceIdeal.Step.K_main_v9, Cert.RetReferenceIdeal.Step.K_main_v8, Cert.RetReferenceIdeal.Step.K_main_cst, Cert.RetReferenceIdeal.Step.K_main_v7]

/-- The keys' decay, times the scale. -/
theorem V43_apply (c : Dev nD) (h : Fin 8) (i : Fin 128) : V m c main_v43 (ix3 h i 0) = KD h i * SC := by
  unfold V
  simp only [hostOps0, hostOps0_1, hostOps0_2, List.flatten_cons, List.flatten_nil, List.cons_append, List.nil_append, List.append_nil, StableHlo.after_cons, StableHlo.after_nil]
  after_results_simp
  unfold KD SC
  pointwise [Cert.RetReferenceIdeal.Step.K_main_v46, Cert.RetReferenceIdeal.Step.K_main_v45, Cert.RetReferenceIdeal.Step.K_main_v44, Cert.RetReferenceIdeal.Step.K_main_v43, Cert.RetReferenceIdeal.Step.K_main_v42, Cert.RetReferenceIdeal.Step.K_main_v41, Cert.RetReferenceIdeal.Step.K_main_v40, Cert.RetReferenceIdeal.Step.K_main_cst_4, Cert.RetReferenceIdeal.Step.K_main_v39, Cert.RetReferenceIdeal.Step.K_main_v15, Cert.RetReferenceIdeal.Step.K_main_v14, Cert.RetReferenceIdeal.Step.K_main_v13, Cert.RetReferenceIdeal.Step.K_main_v12, Cert.RetReferenceIdeal.Step.K_main_v11, Cert.RetReferenceIdeal.Step.K_main_v10, Cert.RetReferenceIdeal.Step.K_main_cst_0, Cert.RetReferenceIdeal.Step.K_main_v9, Cert.RetReferenceIdeal.Step.K_main_v8, Cert.RetReferenceIdeal.Step.K_main_cst, Cert.RetReferenceIdeal.Step.K_main_v7]

/-- The chunk's decay. -/
theorem V47_apply (c : Dev nD) (h : Fin 8) : V m c main_v47 (ix3 h 0 0) = CD h := by
  unfold V
  simp only [hostOps0, hostOps0_1, hostOps0_2, List.flatten_cons, List.flatten_nil, List.cons_append, List.nil_append, List.append_nil, StableHlo.after_cons, StableHlo.after_nil]
  after_results_simp
  unfold CD
  pointwise [Cert.RetReferenceIdeal.Step.K_main_v49, Cert.RetReferenceIdeal.Step.K_main_v48, Cert.RetReferenceIdeal.Step.K_main_v47, Cert.RetReferenceIdeal.Step.K_main_cst_5, Cert.RetReferenceIdeal.Step.K_main_v14, Cert.RetReferenceIdeal.Step.K_main_v13, Cert.RetReferenceIdeal.Step.K_main_v12, Cert.RetReferenceIdeal.Step.K_main_v11, Cert.RetReferenceIdeal.Step.K_main_v10, Cert.RetReferenceIdeal.Step.K_main_cst_0, Cert.RetReferenceIdeal.Step.K_main_v9, Cert.RetReferenceIdeal.Step.K_main_v8, Cert.RetReferenceIdeal.Step.K_main_cst, Cert.RetReferenceIdeal.Step.K_main_v7]

theorem read4 (c : Dev nD) (t : Fin cfg0.N) (i j : Fin 128) : iblk m c 4 t (ix3 0 i j) = MK (hd t) i j * SC := by
  refine Eq.trans ?_ (V25_apply m c (hd t) i j)
  unfold hd
  blk_point [iblk, idx t]
theorem read5 (c : Dev nD) (t : Fin cfg0.N) (i : Fin 128) : iblk m c 5 t (ix3 0 i 0) = QD (hd t) i := by
  refine Eq.trans ?_ (V33_apply m c (hd t) i)
  unfold hd
  blk_point [iblk, idx t]
theorem read6 (c : Dev nD) (t : Fin cfg0.N) (i : Fin 128) : iblk m c 6 t (ix3 0 i 0) = KD (hd t) i * SC := by
  refine Eq.trans ?_ (V43_apply m c (hd t) i)
  unfold hd
  blk_point [iblk, idx t]
theorem read7 (c : Dev nD) (t : Fin cfg0.N) : iblk m c 7 t (ix3 0 0 0) = CD (hd t) := by
  refine Eq.trans ?_ (V47_apply m c (hd t))
  unfold hd
  blk_point [iblk, idx t]

end Cert.Proof.Ret

end
-- ==== Proof.RetValue.lean ====
/- The retention's kernel: the state it carries from chunk to chunk and the block it stores at every grid point are the
   reference's. Point `t` works on head `t / 32` and chunk `t % 32`, for the four batch rows one after the other; at the
   first chunk of a head the state is filled with zeros. -/
module

public import proofs.«01_k».proof.Proof.Gen.RetKernelIdeal.Value
public import proofs.«01_k».proof.Proof.RetRead
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.Ret

open Cert.RetKernelIdeal Cert.RetKernelIdeal.Gen

open Cert.Proof.RetRef (qA kA vA gA MK QD KD CD SC ST OU RS row)

variable (m : (ℓ : Loc nD τ sig) → Buf (Elt Ideal) ℓ)

theorem ix_state (x : S1x256x512.Idx) : x = ix3 0 (x 1) (x 2) :=
  (eq_ix3 x).trans (congrArg (fun a => ix3 a (x 1) (x 2)) (Fin.ext (Nat.lt_one_iff.mp (x 0).isLt)))
theorem ix_out (x : S1x128x512.Idx) : x = ix3 0 (x 1) (x 2) :=
  (eq_ix3 x).trans (congrArg (fun a => ix3 a (x 1) (x 2)) (Fin.ext (Nat.lt_one_iff.mp (x 0).isLt)))

/-- One batch row's new state, given what its operands hold. -/
theorem close_state (X : Cert.Proof.RetRef.Arr) (n : ℕ) (b : Fin 4) (h : Fin 8) (d : Fin 256) (e : Fin 512) (s cd : EReal) (k kd v : Fin 128 → EReal)
    (hs : s = ST X b h d e n) (hcd : cd = CD h) (hk : ∀ j, k j = kA X n b h j d) (hkd : ∀ j, kd j = KD h j * SC) (hv : ∀ j, v j = vA X n b h j e) :
    stepS s cd k kd v = ST X b h d e (n + 1) := by
  obtain rfl := hs
  obtain rfl := hcd
  obtain rfl : k = _ := funext hk
  obtain rfl : kd = _ := funext hkd
  obtain rfl : v = _ := funext hv
  rfl

/-- The state after a point, as an array. -/
def STG (c : Dev nD) (t : Fin cfg0.N) (y : S4x256x512.Idx) : EReal := ST (XA m c) (y 0) (hd t) (y 1) (y 2) (t.val % 32 + 1)

/-- Where an index of one batch row's state stands in the whole. -/
theorem emb_piece (b : Fin 4) (x : S1x256x512.Idx) (inb : ∀ a, (![b.val, 0, 0] : Fin 3 → ℕ) a + (![1, 256, 512] : Fin 3 → ℕ) a ≤ S4x256x512.size a) :
    (Rect.unit (s := S4x256x512) ![b.val, 0, 0] ![1, 256, 512] inb).emb x = ix3 b (x 1) (x 2) := by
  refine funext fun a => Fin.ext ?_
  have hx : (x 0).val < 1 := (x 0).isLt
  match a with
  | ⟨0, _⟩ => show b.val + 1 * (x 0).val = b.val; omega
  | ⟨1, _⟩ => show 0 + 1 * (x 1).val = (x 1).val; omega
  | ⟨2, _⟩ => show 0 + 1 * (x 2).val = (x 2).val; omega

/-- One batch row's stored block, given what its operands hold. -/
theorem close_out (X : Cert.Proof.RetRef.Arr) (n : ℕ) (b : Fin 4) (h : Fin 8) (i : Fin 128) (e : Fin 512) (q : Fin 256 → EReal) (k : Fin 128 → Fin 256 → EReal)
    (mk : Fin 128 → EReal) (v : Fin 512 → Fin 128 → EReal) (s : Fin 512 → Fin 256 → EReal) (qd g : EReal)
    (hq : ∀ d, q d = qA X n b h i d) (hk : ∀ j d, k j d = kA X n b h j d) (hmk : ∀ j, mk j = MK h i j * SC) (hv : ∀ e j, v e j = vA X n b h j e)
    (hs : ∀ e d, s e d = ST X b h d e n) (hqd : qd = QD h i) (hg : g = gA X n b h i e) :
    finS (fun e => outS q k mk (v e) (s e) qd) g e = RS X n b h i e := by
  obtain rfl : q = _ := funext hq
  obtain rfl : k = _ := funext fun j => funext (hk j)
  obtain rfl : mk = _ := funext hmk
  obtain rfl : v = _ := funext fun e => funext (hv e)
  obtain rfl : s = _ := funext fun e => funext (hs e)
  obtain rfl := hqd
  obtain rfl := hg
  rfl

/-- The state after a point that is not a head's first. -/
theorem state_B (c : Dev nD) (t : Fin cfg0.N) (ht : ¬ t.val % 32 = 0)
    (ih : ∀ (b : Fin 4) (d : Fin 256) (e : Fin 512),
      (outsAt0 m c (t.val - 1) (Nat.lt_of_le_of_lt (Nat.sub_le _ _) t.isLt)).2 (ix3 b d e) = ST (XA m c) b (hd t) d e (t.val % 32)) (b : Fin 4) (d : Fin 256) (e : Fin 512) :
    (outsAt0 m c t.val t.isLt).2 (ix3 b d e) = ST (XA m c) b (hd t) d e (t.val % 32 + 1) := by
  rw [outsAt0_B m c t ht]; frame_out
  clear ht
  generalize outsAt0 m c (t.val - 1) _ = P at ih ⊢
  canon_tiles x h
  · obtain rfl : b = 3 := Fin.ext (by change b.val = _ at h0; show b.val = 3; omega)
    obtain rfl : d = x 1 := Fin.ext h1
    obtain rfl : e = x 2 := Fin.ext h2
    refine (congrArg _ (ix_state x)).trans ((state3 _ _ _ _ _ (x 1) (x 2)).trans (close_state (XA m c) (t.val % 32) 3 (hd t) (x 1) (x 2) _ _ _ _ _ ?_ (read7 m c t) ?_ (read6 m c t) ?_))
    · pointwise []
      exact (congrFun (read_unread_whole _ _ _) _).trans (ih 3 (x 1) (x 2))
    · intro j
      pointwise []
      exact read1 m c t 3 j (x 1)
    · intro j
      pointwise []
      exact read2 m c t 3 j (x 2)
  · obtain rfl : b = 2 := Fin.ext (by change b.val = _ at h0; show b.val = 2; omega)
    obtain rfl : d = x 1 := Fin.ext h1
    obtain rfl : e = x 2 := Fin.ext h2
    refine (congrArg _ (ix_state x)).trans ((state2 _ _ _ _ _ (x 1) (x 2)).trans (close_state (XA m c) (t.val % 32) 2 (hd t) (x 1) (x 2) _ _ _ _ _ ?_ (read7 m c t) ?_ (read6 m c t) ?_))
    · pointwise []
      exact (congrFun (read_unread_whole _ _ _) _).trans (ih 2 (x 1) (x 2))
    · intro j
      pointwise []
      exact read1 m c t 2 j (x 1)
    · intro j
      pointwise []
      exact read2 m c t 2 j (x 2)
  · obtain rfl : b = 1 := Fin.ext (by change b.val = _ at h0; show b.val = 1; omega)
    obtain rfl : d = x 1 := Fin.ext h1
    obtain rfl : e = x 2 := Fin.ext h2
    refine (congrArg _ (ix_state x)).trans ((state1 _ _ _ _ _ (x 1) (x 2)).trans (close_state (XA m c) (t.val % 32) 1 (hd t) (x 1) (x 2) _ _ _ _ _ ?_ (read7 m c t) ?_ (read6 m c t) ?_))
    · pointwise []
      exact (congrFun (read_unread_whole _ _ _) _).trans (ih 1 (x 1) (x 2))
    · intro j
      pointwise []
      exact read1 m c t 1 j (x 1)
    · intro j
      pointwise []
      exact read2 m c t 1 j (x 2)
  · obtain rfl : b = 0 := Fin.ext (by change b.val = _ at h0; show b.val = 0; omega)
    obtain rfl : d = x 1 := Fin.ext h1
    obtain rfl : e = x 2 := Fin.ext h2
    refine (congrArg _ (ix_state x)).trans ((state0 _ _ _ _ _ (x 1) (x 2)).trans (close_state (XA m c) (t.val % 32) 0 (hd t) (x 1) (x 2) _ _ _ _ _ ?_ (read7 m c t) ?_ (read6 m c t) ?_))
    · pointwise []
      exact (congrFun (read_unread_whole _ _ _) _).trans (ih 0 (x 1) (x 2))
    · intro j
      pointwise []
      exact read1 m c t 0 j (x 1)
    · intro j
      pointwise []
      exact read2 m c t 0 j (x 2)

/-- The state after a head's first point. -/
theorem state_A (c : Dev nD) (t : Fin cfg0.N) (ht : t.val % 32 = 0) (b : Fin 4) (d : Fin 256) (e : Fin 512) :
    (outsAt0 m c t.val t.isLt).2 (ix3 b d e) = ST (XA m c) b (hd t) d e (t.val % 32 + 1) := by
  rw [outsAt0_A m c t ht]; frame_out
  simp (disch := decide) only [↓ View.readCov_skip, ↓ View.readCov_cons_toLoadRect, ↓ View.readCov_fill]
  refine View.canon_append_of_piecesOf (Val := Elt Ideal) (s := S4x256x512) (e := .f32) (STG m c t) [_] [_, _, _, _] ⟨fun x => ?_, fun x => ?_, fun x => ?_, fun x => ?_, trivial⟩ (ix3 b d e) ?_
  · refine Eq.trans ?_ (congrArg (STG m c t) (emb_piece 3 x inb_S4x256x512_S1x256x512_3_0_0)).symm
    refine (congrArg _ (ix_state x)).trans ((state3 _ _ _ _ _ (x 1) (x 2)).trans (close_state (XA m c) (t.val % 32) 3 (hd t) (x 1) (x 2) _ _ _ _ _ ?_ (read7 m c t) ?_ (read6 m c t) ?_))
    · rw [ht]
      pointwise [k0_pay2]
      rfl
    · intro j
      pointwise []
      exact read1 m c t 3 j (x 1)
    · intro j
      pointwise []
      exact read2 m c t 3 j (x 2)
  · refine Eq.trans ?_ (congrArg (STG m c t) (emb_piece 2 x inb_S4x256x512_S1x256x512_2_0_0)).symm
    refine (congrArg _ (ix_state x)).trans ((state2 _ _ _ _ _ (x 1) (x 2)).trans (close_state (XA m c) (t.val % 32) 2 (hd t) (x 1) (x 2) _ _ _ _ _ ?_ (read7 m c t) ?_ (read6 m c t) ?_))
    · rw [ht]
      pointwise [k0_pay2]
      rfl
    · intro j
      pointwise []
      exact read1 m c t 2 j (x 1)
    · intro j
      pointwise []
      exact read2 m c t 2 j (x 2)
  · refine Eq.trans ?_ (congrArg (STG m c t) (emb_piece 1 x inb_S4x256x512_S1x256x512_1_0_0)).symm
    refine (congrArg _ (ix_state x)).trans ((state1 _ _ _ _ _ (x 1) (x 2)).trans (close_state (XA m c) (t.val % 32) 1 (hd t) (x 1) (x 2) _ _ _ _ _ ?_ (read7 m c t) ?_ (read6 m c t) ?_))
    · rw [ht]
      pointwise [k0_pay2]
      rfl
    · intro j
      pointwise []
      exact read1 m c t 1 j (x 1)
    · intro j
      pointwise []
      exact read2 m c t 1 j (x 2)
  · refine Eq.trans ?_ (congrArg (STG m c t) (emb_piece 0 x inb_S4x256x512_S1x256x512_0_0_0)).symm
    refine (congrArg _ (ix_state x)).trans ((state0 _ _ _ _ _ (x 1) (x 2)).trans (close_state (XA m c) (t.val % 32) 0 (hd t) (x 1) (x 2) _ _ _ _ _ ?_ (read7 m c t) ?_ (read6 m c t) ?_))
    · rw [ht]
      pointwise [k0_pay2]
      rfl
    · intro j
      pointwise []
      exact read1 m c t 0 j (x 1)
    · intro j
      pointwise []
      exact read2 m c t 0 j (x 2)
  · exact View.cover_of_tiledL _ ![1, 256, 512] (by sl_kernel_rfl) _

/-- The block after a point that is not a head's first. -/
theorem out_B (c : Dev nD) (t : Fin cfg0.N) (ht : ¬ t.val % 32 = 0)
    (ih : ∀ (b : Fin 4) (d : Fin 256) (e : Fin 512),
      (outsAt0 m c (t.val - 1) (Nat.lt_of_le_of_lt (Nat.sub_le _ _) t.isLt)).2 (ix3 b d e) = ST (XA m c) b (hd t) d e (t.val % 32)) (b : Fin 4) (d : Fin 128) (e : Fin 512) :
    (outsAt0 m c t.val t.isLt).1 (ix3 b d e) = RS (XA m c) (t.val % 32) b (hd t) d e := by
  rw [outsAt0_B m c t ht]; frame_out
  clear ht
  generalize outsAt0 m c (t.val - 1) _ = P at ih ⊢
  canon_tiles x h
  · obtain rfl : b = 3 := Fin.ext (by change b.val = _ at h0; show b.val = 3; omega)
    obtain rfl : d = x 1 := Fin.ext h1
    obtain rfl : e = x 2 := Fin.ext h2
    refine (congrArg _ (ix_out x)).trans ((whole3 _ _ _ _ _ _ _ (x 1) (x 2)).trans (close_out (XA m c) (t.val % 32) 3 (hd t) (x 1) (x 2) _ _ _ _ _ _ _ ?_ ?_ (read4 m c t (x 1)) ?_ ?_ (read5 m c t (x 1)) ?_))
    · intro d
      pointwise []
      exact read0 m c t 3 (x 1) d
    · intro j d
      pointwise []
      exact read1 m c t 3 j d
    · intro e j
      pointwise []
      exact read2 m c t 3 j e
    · intro e d
      pointwise []
      exact (congrFun (read_unread_whole _ _ _) _).trans (ih 3 d e)
    · pointwise []
      exact read3 m c t 3 (x 1) (x 2)
  · obtain rfl : b = 2 := Fin.ext (by change b.val = _ at h0; show b.val = 2; omega)
    obtain rfl : d = x 1 := Fin.ext h1
    obtain rfl : e = x 2 := Fin.ext h2
    refine (congrArg _ (ix_out x)).trans ((whole2 _ _ _ _ _ _ _ (x 1) (x 2)).trans (close_out (XA m c) (t.val % 32) 2 (hd t) (x 1) (x 2) _ _ _ _ _ _ _ ?_ ?_ (read4 m c t (x 1)) ?_ ?_ (read5 m c t (x 1)) ?_))
    · intro d
      pointwise []
      exact read0 m c t 2 (x 1) d
    · intro j d
      pointwise []
      exact read1 m c t 2 j d
    · intro e j
      pointwise []
      exact read2 m c t 2 j e
    · intro e d
      pointwise []
      exact (congrFun (read_unread_whole _ _ _) _).trans (ih 2 d e)
    · pointwise []
      exact read3 m c t 2 (x 1) (x 2)
  · obtain rfl : b = 1 := Fin.ext (by change b.val = _ at h0; show b.val = 1; omega)
    obtain rfl : d = x 1 := Fin.ext h1
    obtain rfl : e = x 2 := Fin.ext h2
    refine (congrArg _ (ix_out x)).trans ((whole1 _ _ _ _ _ _ _ (x 1) (x 2)).trans (close_out (XA m c) (t.val % 32) 1 (hd t) (x 1) (x 2) _ _ _ _ _ _ _ ?_ ?_ (read4 m c t (x 1)) ?_ ?_ (read5 m c t (x 1)) ?_))
    · intro d
      pointwise []
      exact read0 m c t 1 (x 1) d
    · intro j d
      pointwise []
      exact read1 m c t 1 j d
    · intro e j
      pointwise []
      exact read2 m c t 1 j e
    · intro e d
      pointwise []
      exact (congrFun (read_unread_whole _ _ _) _).trans (ih 1 d e)
    · pointwise []
      exact read3 m c t 1 (x 1) (x 2)
  · obtain rfl : b = 0 := Fin.ext (by change b.val = _ at h0; show b.val = 0; omega)
    obtain rfl : d = x 1 := Fin.ext h1
    obtain rfl : e = x 2 := Fin.ext h2
    refine (congrArg _ (ix_out x)).trans ((whole0 _ _ _ _ _ _ _ (x 1) (x 2)).trans (close_out (XA m c) (t.val % 32) 0 (hd t) (x 1) (x 2) _ _ _ _ _ _ _ ?_ ?_ (read4 m c t (x 1)) ?_ ?_ (read5 m c t (x 1)) ?_))
    · intro d
      pointwise []
      exact read0 m c t 0 (x 1) d
    · intro j d
      pointwise []
      exact read1 m c t 0 j d
    · intro e j
      pointwise []
      exact read2 m c t 0 j e
    · intro e d
      pointwise []
      exact (congrFun (read_unread_whole _ _ _) _).trans (ih 0 d e)
    · pointwise []
      exact read3 m c t 0 (x 1) (x 2)

/-- The block after a head's first point. -/
theorem out_A (c : Dev nD) (t : Fin cfg0.N) (ht : t.val % 32 = 0) (b : Fin 4) (d : Fin 128) (e : Fin 512) :
    (outsAt0 m c t.val t.isLt).1 (ix3 b d e) = RS (XA m c) (t.val % 32) b (hd t) d e := by
  rw [outsAt0_A m c t ht]; frame_out
  simp (disch := decide) only [↓ View.readCov_skip, ↓ View.readCov_cons_toLoadRect, ↓ View.readCov_fill]
  canon_tiles x h
  · obtain rfl : b = 3 := Fin.ext (by change b.val = _ at h0; show b.val = 3; omega)
    obtain rfl : d = x 1 := Fin.ext h1
    obtain rfl : e = x 2 := Fin.ext h2
    refine (congrArg _ (ix_out x)).trans ((whole3 _ _ _ _ _ _ _ (x 1) (x 2)).trans (close_out (XA m c) (t.val % 32) 3 (hd t) (x 1) (x 2) _ _ _ _ _ _ _ ?_ ?_ (read4 m c t (x 1)) ?_ ?_ (read5 m c t (x 1)) ?_))
    · intro d
      pointwise []
      exact read0 m c t 3 (x 1) d
    · intro j d
      pointwise []
      exact read1 m c t 3 j d
    · intro e j
      pointwise []
      exact read2 m c t 3 j e
    · intro e d
      rw [ht]
      pointwise [k0_pay2]
      rfl
    · pointwise []
      exact read3 m c t 3 (x 1) (x 2)
  · obtain rfl : b = 2 := Fin.ext (by change b.val = _ at h0; show b.val = 2; omega)
    obtain rfl : d = x 1 := Fin.ext h1
    obtain rfl : e = x 2 := Fin.ext h2
    refine (congrArg _ (ix_out x)).trans ((whole2 _ _ _ _ _ _ _ (x 1) (x 2)).trans (close_out (XA m c) (t.val % 32) 2 (hd t) (x 1) (x 2) _ _ _ _ _ _ _ ?_ ?_ (read4 m c t (x 1)) ?_ ?_ (read5 m c t (x 1)) ?_))
    · intro d
      pointwise []
      exact read0 m c t 2 (x 1) d
    · intro j d
      pointwise []
      exact read1 m c t 2 j d
    · intro e j
      pointwise []
      exact read2 m c t 2 j e
    · intro e d
      rw [ht]
      pointwise [k0_pay2]
      rfl
    · pointwise []
      exact read3 m c t 2 (x 1) (x 2)
  · obtain rfl : b = 1 := Fin.ext (by change b.val = _ at h0; show b.val = 1; omega)
    obtain rfl : d = x 1 := Fin.ext h1
    obtain rfl : e = x 2 := Fin.ext h2
    refine (congrArg _ (ix_out x)).trans ((whole1 _ _ _ _ _ _ _ (x 1) (x 2)).trans (close_out (XA m c) (t.val % 32) 1 (hd t) (x 1) (x 2) _ _ _ _ _ _ _ ?_ ?_ (read4 m c t (x 1)) ?_ ?_ (read5 m c t (x 1)) ?_))
    · intro d
      pointwise []
      exact read0 m c t 1 (x 1) d
    · intro j d
      pointwise []
      exact read1 m c t 1 j d
    · intro e j
      pointwise []
      exact read2 m c t 1 j e
    · intro e d
      rw [ht]
      pointwise [k0_pay2]
      rfl
    · pointwise []
      exact read3 m c t 1 (x 1) (x 2)
  · obtain rfl : b = 0 := Fin.ext (by change b.val = _ at h0; show b.val = 0; omega)
    obtain rfl : d = x 1 := Fin.ext h1
    obtain rfl : e = x 2 := Fin.ext h2
    refine (congrArg _ (ix_out x)).trans ((whole0 _ _ _ _ _ _ _ (x 1) (x 2)).trans (close_out (XA m c) (t.val % 32) 0 (hd t) (x 1) (x 2) _ _ _ _ _ _ _ ?_ ?_ (read4 m c t (x 1)) ?_ ?_ (read5 m c t (x 1)) ?_))
    · intro d
      pointwise []
      exact read0 m c t 0 (x 1) d
    · intro j d
      pointwise []
      exact read1 m c t 0 j d
    · intro e j
      pointwise []
      exact read2 m c t 0 j e
    · intro e d
      rw [ht]
      pointwise [k0_pay2]
      rfl
    · pointwise []
      exact read3 m c t 0 (x 1) (x 2)

/-- The state after every point. -/
theorem state_all (c : Dev nD) : ∀ (n : ℕ) (hn : n < cfg0.N) (b : Fin 4) (d : Fin 256) (e : Fin 512),
    (outsAt0 m c n hn).2 (ix3 b d e) = ST (XA m c) b (hd ⟨n, hn⟩) d e (n % 32 + 1)
  | 0, hn, b, d, e => state_A m c ⟨0, hn⟩ rfl b d e
  | n + 1, hn, b, d, e => by
    by_cases h0 : (n + 1) % 32 = 0
    · exact state_A m c ⟨n + 1, hn⟩ h0 b d e
    · refine state_B m c ⟨n + 1, hn⟩ h0 (fun b d e => ?_) b d e
      have e1 : (n + 1) % 32 = n % 32 + 1 := by omega
      have e2 : hd ⟨n + 1, hn⟩ = hd ⟨n, Nat.lt_of_succ_lt hn⟩ := Fin.ext (by show (n + 1) / 32 = n / 32; omega)
      show (outsAt0 m c n _).2 (ix3 b d e) = ST (XA m c) b (hd ⟨n + 1, hn⟩) d e ((n + 1) % 32)
      rw [e1, e2]
      exact state_all c n (Nat.lt_of_succ_lt hn) b d e

/-- The block stored at every point. -/
theorem out_all (c : Dev nD) (t : Fin cfg0.N) (y) :
    (outsAt0 m c t.val t.isLt).1 y = RS (XA m c) (t.val % 32) (y 0) (hd t) (y 1) (y 2) := by
  refine (congrArg _ (eq_ix3 y)).trans ?_
  by_cases h0 : t.val % 32 = 0
  · exact out_A m c t h0 _ _ _
  · refine out_B m c t h0 (fun b d e => ?_) _ _ _
    have hp : 0 < t.val := Nat.pos_of_ne_zero fun hz => h0 (by rw [hz])
    have e1 : t.val % 32 = (t.val - 1) % 32 + 1 := by omega
    have hN : t.val - 1 < cfg0.N := Nat.lt_of_le_of_lt (Nat.sub_le _ _) t.isLt
    have e2 : hd t = hd ⟨t.val - 1, hN⟩ := Fin.ext (by show t.val / 32 = (t.val - 1) / 32; omega)
    rw [e1, e2]
    exact state_all m c (t.val - 1) hN b d e

/-- The reference's result as a function of the kernel's argument. -/
def REF (c : Dev nD) : Vec Ideal S4x4096x4096 .bf16 :=
  Cert.RetReferenceIdeal.Step.R_main_v86 (F := Ideal) (Cert.Proof.RetRef.it (XA m c) 32) (XA m c)

theorem REF_apply (c : Dev nD) (t : Fin cfg0.N) (y) : RS (XA m c) (t.val % 32) (y 0) (hd t) (y 1) (y 2) = REF m c (((cfg0.win 8).blk t).view.emb y) := by
  have hN : t.val < 256 := t.isLt
  refine ((Cert.Proof.RetRef.res_apply (XA m c) ⟨t.val % 32, Nat.mod_lt _ (by omega)⟩ (y 0) (y 1) (hd t) (y 2)).symm).trans ?_
  show REF m c _ = _
  refine congrArg (REF m c) ?_
  unfold row hd
  blk_ext [idx t]

/-- The result array after the run. -/
theorem final (c : Dev nD) : (dats m 0 c).arrAt 8 (cfgs 0).N = REF m c := by
  refine (dats m 0 c).arrAt_eq_of_covers 8 _ (by decide +kernel) fun t _ y => ?_
  blk_simp
  rw [after0_8]
  exact (out_all m c t y).trans (REF_apply m c t y)

end Cert.Proof.Ret

end
-- ==== Proof.RetStepRun.lean ====
/- The retention reference's run over the step of Gen/RetReferenceIdeal/Step.lean. The lemmas are those of the generated
   module for the same run, with one proof changed: the stacked outputs' field of the step (`step_9`) is closed by the value's
   lemma itself. -/
module

public import proofs.«01_k».proof.Proof.Gen.RetReferenceIdeal.Run
public import proofs.«01_k».proof.Proof.Gen.RetReferenceIdeal.Step

@[expose] public section

noncomputable section

namespace Cert.Proof.RetStepRun

open Idealize.ShloMosaic Idealize.ShloMosaic.TcCoe Idealize.SL.Sem Idealize.ShloMosaic.StableHlo
open Cert.RetReferenceIdeal Cert.RetReferenceIdeal.Gen Cert.RetReferenceIdeal.Value
open Cert.RetReferenceIdeal.Step (State step init)

variable {F : FTy → Type} [FloatOps F]

variable (V0 : Valuation τ sig (Elt F)) (s : State F) (j : ℕ)

/-- The valuation holds the state, the set-up values and the trip's number. -/
structure Holds : Prop where
  f_8 : V0 (Proc.devRef .tc main_v60_8) = s.main_v60_8
  f_9 : V0 (Proc.devRef .tc main_v60_9) = s.main_v60_9
  f_0 : V0 (Proc.devRef .tc main_v60_0) = s.main_v60_0
  f_1 : V0 (Proc.devRef .tc main_v60_1) = s.main_v60_1
  f_2 : V0 (Proc.devRef .tc main_v60_2) = s.main_v60_2
  n_7 : V0 (Proc.devRef .tc main_v60_7) = constantI S_ 32 (BitVec.ofNat 32 j)
  k_3 : V0 (Proc.devRef .tc main_v60_3) = Cert.RetReferenceIdeal.Step.K_main_v30 (F := F)
  k_4 : V0 (Proc.devRef .tc main_v60_4) = Cert.RetReferenceIdeal.Step.K_main_v38 (F := F)
  k_5 : V0 (Proc.devRef .tc main_v60_5) = Cert.RetReferenceIdeal.Step.K_main_v49 (F := F)
  k_6 : V0 (Proc.devRef .tc main_v60_6) = Cert.RetReferenceIdeal.Step.K_main_v46 (F := F)

variable {V0 s j}

set_option maxRecDepth 8192 in
theorem al_0 (h : Holds V0 s j) : (constantI S_ 32 0#32 : (Proc.devRef .tc main_while0b_call1_c : DevRef τ sig).ty.Contents (Elt F)) = Cert.RetReferenceIdeal.Step.b0 j s := by
  unfold Cert.RetReferenceIdeal.Step.b0
  rfl
set_option maxRecDepth 8192 in
theorem al_1 (h : Holds V0 s j) : (constantI S_ 32 0#32 : (Proc.devRef .tc main_while0b_call1_c_0 : DevRef τ sig).ty.Contents (Elt F)) = Cert.RetReferenceIdeal.Step.b1 j s := by
  unfold Cert.RetReferenceIdeal.Step.b1
  rfl
set_option maxRecDepth 8192 in
theorem al_2 (h : Holds V0 s j) : (constantI S_ 32 0#32 : (Proc.devRef .tc main_while0b_call1_c_1 : DevRef τ sig).ty.Contents (Elt F)) = Cert.RetReferenceIdeal.Step.b2 j s := by
  unfold Cert.RetReferenceIdeal.Step.b2
  rfl
set_option maxRecDepth 8192 in
theorem al_3 (h : Holds V0 s j) : (constantI S_ 32 0#32 : (Proc.devRef .tc main_while0b_call1_c_2 : DevRef τ sig).ty.Contents (Elt F)) = Cert.RetReferenceIdeal.Step.b3 j s := by
  unfold Cert.RetReferenceIdeal.Step.b3
  rfl
set_option maxRecDepth 8192 in
theorem al_4 (h : Holds V0 s j) : (Host.dynamicSlice S1x4x128x8x256 (V0 (Proc.devRef .tc main_v60_0)) (fun k => (((![V0 (Proc.devRef .tc main_v60_7), constantI S_ 32 0#32, constantI S_ 32 0#32, constantI S_ 32 0#32, constantI S_ 32 0#32] : Fin 5 → (⟨S_, .i32⟩ : BufTy).Contents (Elt F))) k (Shape.Idx.first h_S_)).toInt) sliceFits_S32x4x128x8x256_S1x4x128x8x256 : (Proc.devRef .tc main_while0b_call1_v0 : DevRef τ sig).ty.Contents (Elt F)) = Cert.RetReferenceIdeal.Step.b4 j s := by
  unfold Cert.RetReferenceIdeal.Step.b4
  rw [← al_0 h, ← al_1 h, ← al_2 h, ← al_3 h, h.f_0, h.n_7]
  try rfl
set_option maxRecDepth 8192 in
theorem al_5 (h : Holds V0 s j) : (res_main_while0b_v87 V0 : (Proc.devRef .tc main_while0b_v87 : DevRef τ sig).ty.Contents (Elt F)) = Cert.RetReferenceIdeal.Step.b5 j s := by
  unfold res_main_while0b_v87 Cert.RetReferenceIdeal.Step.b5
  rw [← al_4 h]
  try rfl
set_option maxRecDepth 8192 in
theorem al_6 (h : Holds V0 s j) : (constantI S_ 32 0#32 : (Proc.devRef .tc main_while0b_call2_c : DevRef τ sig).ty.Contents (Elt F)) = Cert.RetReferenceIdeal.Step.b6 j s := by
  unfold Cert.RetReferenceIdeal.Step.b6
  rfl
set_option maxRecDepth 8192 in
theorem al_7 (h : Holds V0 s j) : (constantI S_ 32 0#32 : (Proc.devRef .tc main_while0b_call2_c_0 : DevRef τ sig).ty.Contents (Elt F)) = Cert.RetReferenceIdeal.Step.b7 j s := by
  unfold Cert.RetReferenceIdeal.Step.b7
  rfl
set_option maxRecDepth 8192 in
theorem al_8 (h : Holds V0 s j) : (constantI S_ 32 0#32 : (Proc.devRef .tc main_while0b_call2_c_1 : DevRef τ sig).ty.Contents (Elt F)) = Cert.RetReferenceIdeal.Step.b8 j s := by
  unfold Cert.RetReferenceIdeal.Step.b8
  rfl
set_option maxRecDepth 8192 in
theorem al_9 (h : Holds V0 s j) : (constantI S_ 32 0#32 : (Proc.devRef .tc main_while0b_call2_c_2 : DevRef τ sig).ty.Contents (Elt F)) = Cert.RetReferenceIdeal.Step.b9 j s := by
  unfold Cert.RetReferenceIdeal.Step.b9
  rfl
set_option maxRecDepth 8192 in
theorem al_10 (h : Holds V0 s j) : (Host.dynamicSlice S1x4x128x8x256 (V0 (Proc.devRef .tc main_v60_1)) (fun k => (((![V0 (Proc.devRef .tc main_v60_7), constantI S_ 32 0#32, constantI S_ 32 0#32, constantI S_ 32 0#32, constantI S_ 32 0#32] : Fin 5 → (⟨S_, .i32⟩ : BufTy).Contents (Elt F))) k (Shape.Idx.first h_S_)).toInt) sliceFits_S32x4x128x8x256_S1x4x128x8x256 : (Proc.devRef .tc main_while0b_call2_v0 : DevRef τ sig).ty.Contents (Elt F)) = Cert.RetReferenceIdeal.Step.b10 j s := by
  unfold Cert.RetReferenceIdeal.Step.b10
  rw [← al_6 h, ← al_7 h, ← al_8 h, ← al_9 h, h.f_1, h.n_7]
  try rfl
set_option maxRecDepth 8192 in
theorem al_11 (h : Holds V0 s j) : (res_main_while0b_v88 V0 : (Proc.devRef .tc main_while0b_v88 : DevRef τ sig).ty.Contents (Elt F)) = Cert.RetReferenceIdeal.Step.b11 j s := by
  unfold res_main_while0b_v88 Cert.RetReferenceIdeal.Step.b11
  rw [← al_10 h]
  try rfl
set_option maxRecDepth 8192 in
theorem al_12 (h : Holds V0 s j) : (constantI S_ 32 0#32 : (Proc.devRef .tc main_while0b_call3_c : DevRef τ sig).ty.Contents (Elt F)) = Cert.RetReferenceIdeal.Step.b12 j s := by
  unfold Cert.RetReferenceIdeal.Step.b12
  rfl
set_option maxRecDepth 8192 in
theorem al_13 (h : Holds V0 s j) : (constantI S_ 32 0#32 : (Proc.devRef .tc main_while0b_call3_c_0 : DevRef τ sig).ty.Contents (Elt F)) = Cert.RetReferenceIdeal.Step.b13 j s := by
  unfold Cert.RetReferenceIdeal.Step.b13
  rfl
set_option maxRecDepth 8192 in
theorem al_14 (h : Holds V0 s j) : (constantI S_ 32 0#32 : (Proc.devRef .tc main_while0b_call3_c_1 : DevRef τ sig).ty.Contents (Elt F)) = Cert.RetReferenceIdeal.Step.b14 j s := by
  unfold Cert.RetReferenceIdeal.Step.b14
  rfl
set_option maxRecDepth 8192 in
theorem al_15 (h : Holds V0 s j) : (constantI S_ 32 0#32 : (Proc.devRef .tc main_while0b_call3_c_2 : DevRef τ sig).ty.Contents (Elt F)) = Cert.RetReferenceIdeal.Step.b15 j s := by
  unfold Cert.RetReferenceIdeal.Step.b15
  rfl
set_option maxRecDepth 8192 in
theorem al_16 (h : Holds V0 s j) : (Host.dynamicSlice S1x4x128x8x512 (V0 (Proc.devRef .tc main_v60_2)) (fun k => (((![V0 (Proc.devRef .tc main_v60_7), constantI S_ 32 0#32, constantI S_ 32 0#32, constantI S_ 32 0#32, constantI S_ 32 0#32] : Fin 5 → (⟨S_, .i32⟩ : BufTy).Contents (Elt F))) k (Shape.Idx.first h_S_)).toInt) sliceFits_S32x4x128x8x512_S1x4x128x8x512 : (Proc.devRef .tc main_while0b_call3_v0 : DevRef τ sig).ty.Contents (Elt F)) = Cert.RetReferenceIdeal.Step.b16 j s := by
  unfold Cert.RetReferenceIdeal.Step.b16
  rw [← al_12 h, ← al_13 h, ← al_14 h, ← al_15 h, h.f_2, h.n_7]
  try rfl
set_option maxRecDepth 8192 in
theorem al_17 (h : Holds V0 s j) : (res_main_while0b_v89 V0 : (Proc.devRef .tc main_while0b_v89 : DevRef τ sig).ty.Contents (Elt F)) = Cert.RetReferenceIdeal.Step.b17 j s := by
  unfold res_main_while0b_v89 Cert.RetReferenceIdeal.Step.b17
  rw [← al_16 h]
  try rfl
set_option maxRecDepth 8192 in
theorem al_18 (h : Holds V0 s j) : (Host.dotGeneral dot_S4x128x8x256_S4x128x8x256_S4x8x128x128_3_3_1_1_02_02 none (res_main_while0b_v87 V0) (res_main_while0b_v88 V0) : (Proc.devRef .tc main_while0b_v90 : DevRef τ sig).ty.Contents (Elt F)) = Cert.RetReferenceIdeal.Step.b18 j s := by
  unfold Cert.RetReferenceIdeal.Step.b18
  rw [← al_5 h, ← al_11 h]
  try rfl
set_option maxRecDepth 8192 in
theorem al_19 (h : Holds V0 s j) : (broadcastInDim S1x8x128x128 ![1, 2, 3] bcast_S8x128x128_S1x8x128x128_1_2_3 (V0 (Proc.devRef .tc main_v60_3)) : (Proc.devRef .tc main_while0b_v91 : DevRef τ sig).ty.Contents (Elt F)) = Cert.RetReferenceIdeal.Step.b19 j s := by
  unfold Cert.RetReferenceIdeal.Step.b19
  rw [h.k_3]
  try rfl
set_option maxRecDepth 8192 in
theorem al_20 (h : Holds V0 s j) : (broadcastInDim S4x8x128x128 ![0, 1, 2, 3] bcast_S1x8x128x128_S4x8x128x128_0_1_2_3 (broadcastInDim S1x8x128x128 ![1, 2, 3] bcast_S8x128x128_S1x8x128x128_1_2_3 (V0 (Proc.devRef .tc main_v60_3))) : (Proc.devRef .tc main_while0b_v92 : DevRef τ sig).ty.Contents (Elt F)) = Cert.RetReferenceIdeal.Step.b20 j s := by
  unfold Cert.RetReferenceIdeal.Step.b20
  rw [← al_19 h]
  try rfl
set_option maxRecDepth 8192 in
theorem al_21 (h : Holds V0 s j) : (mulf (Host.dotGeneral dot_S4x128x8x256_S4x128x8x256_S4x8x128x128_3_3_1_1_02_02 none (res_main_while0b_v87 V0) (res_main_while0b_v88 V0)) (broadcastInDim S4x8x128x128 ![0, 1, 2, 3] bcast_S1x8x128x128_S4x8x128x128_0_1_2_3 (broadcastInDim S1x8x128x128 ![1, 2, 3] bcast_S8x128x128_S1x8x128x128_1_2_3 (V0 (Proc.devRef .tc main_v60_3)))) : (Proc.devRef .tc main_while0b_v93 : DevRef τ sig).ty.Contents (Elt F)) = Cert.RetReferenceIdeal.Step.b21 j s := by
  unfold Cert.RetReferenceIdeal.Step.b21
  rw [← al_18 h, ← al_20 h]
  try rfl
set_option maxRecDepth 8192 in
theorem al_22 (h : Holds V0 s j) : (Host.dotGeneral dot_S4x128x8x512_S4x8x128x128_S4x8x512x128_1_3_3_2_02_01 none (res_main_while0b_v89 V0) (mulf (Host.dotGeneral dot_S4x128x8x256_S4x128x8x256_S4x8x128x128_3_3_1_1_02_02 none (res_main_while0b_v87 V0) (res_main_while0b_v88 V0)) (broadcastInDim S4x8x128x128 ![0, 1, 2, 3] bcast_S1x8x128x128_S4x8x128x128_0_1_2_3 (broadcastInDim S1x8x128x128 ![1, 2, 3] bcast_S8x128x128_S1x8x128x128_1_2_3 (V0 (Proc.devRef .tc main_v60_3))))) : (Proc.devRef .tc main_while0b_v94 : DevRef τ sig).ty.Contents (Elt F)) = Cert.RetReferenceIdeal.Step.b22 j s := by
  unfold Cert.RetReferenceIdeal.Step.b22
  rw [← al_17 h, ← al_21 h]
  try rfl
set_option maxRecDepth 8192 in
theorem al_23 (h : Holds V0 s j) : (transpose S4x128x8x512 [0, 3, 1, 2] (Host.dotGeneral dot_S4x128x8x512_S4x8x128x128_S4x8x512x128_1_3_3_2_02_01 none (res_main_while0b_v89 V0) (mulf (Host.dotGeneral dot_S4x128x8x256_S4x128x8x256_S4x8x128x128_3_3_1_1_02_02 none (res_main_while0b_v87 V0) (res_main_while0b_v88 V0)) (broadcastInDim S4x8x128x128 ![0, 1, 2, 3] bcast_S1x8x128x128_S4x8x128x128_0_1_2_3 (broadcastInDim S1x8x128x128 ![1, 2, 3] bcast_S8x128x128_S1x8x128x128_1_2_3 (V0 (Proc.devRef .tc main_v60_3)))))) transposes_S4x8x512x128_S4x128x8x512_0_3_1_2 : (Proc.devRef .tc main_while0b_v95 : DevRef τ sig).ty.Contents (Elt F)) = Cert.RetReferenceIdeal.Step.b23 j s := by
  unfold Cert.RetReferenceIdeal.Step.b23
  rw [← al_22 h]
  try rfl
set_option maxRecDepth 8192 in
theorem al_24 (h : Holds V0 s j) : (Host.dotGeneral dot_S4x8x256x512_S4x128x8x256_S4x8x512x128_2_3_3_1_01_02 none (V0 (Proc.devRef .tc main_v60_8)) (res_main_while0b_v87 V0) : (Proc.devRef .tc main_while0b_v96 : DevRef τ sig).ty.Contents (Elt F)) = Cert.RetReferenceIdeal.Step.b24 j s := by
  unfold Cert.RetReferenceIdeal.Step.b24
  rw [← al_5 h, h.f_8]
  try rfl
set_option maxRecDepth 8192 in
theorem al_25 (h : Holds V0 s j) : (transpose S4x128x8x512 [0, 3, 1, 2] (Host.dotGeneral dot_S4x8x256x512_S4x128x8x256_S4x8x512x128_2_3_3_1_01_02 none (V0 (Proc.devRef .tc main_v60_8)) (res_main_while0b_v87 V0)) transposes_S4x8x512x128_S4x128x8x512_0_3_1_2 : (Proc.devRef .tc main_while0b_v97 : DevRef τ sig).ty.Contents (Elt F)) = Cert.RetReferenceIdeal.Step.b25 j s := by
  unfold Cert.RetReferenceIdeal.Step.b25
  rw [← al_24 h]
  try rfl
set_option maxRecDepth 8192 in
theorem al_26 (h : Holds V0 s j) : (broadcastInDim S1x128x8x1 ![1, 2] bcast_S128x8_S1x128x8x1_1_2 (V0 (Proc.devRef .tc main_v60_4)) : (Proc.devRef .tc main_while0b_v98 : DevRef τ sig).ty.Contents (Elt F)) = Cert.RetReferenceIdeal.Step.b26 j s := by
  unfold Cert.RetReferenceIdeal.Step.b26
  rw [h.k_4]
  try rfl
set_option maxRecDepth 8192 in
theorem al_27 (h : Holds V0 s j) : (broadcastInDim S4x128x8x512 ![0, 1, 2, 3] bcast_S1x128x8x1_S4x128x8x512_0_1_2_3 (broadcastInDim S1x128x8x1 ![1, 2] bcast_S128x8_S1x128x8x1_1_2 (V0 (Proc.devRef .tc main_v60_4))) : (Proc.devRef .tc main_while0b_v99 : DevRef τ sig).ty.Contents (Elt F)) = Cert.RetReferenceIdeal.Step.b27 j s := by
  unfold Cert.RetReferenceIdeal.Step.b27
  rw [← al_26 h]
  try rfl
set_option maxRecDepth 8192 in
theorem al_28 (h : Holds V0 s j) : (mulf (transpose S4x128x8x512 [0, 3, 1, 2] (Host.dotGeneral dot_S4x8x256x512_S4x128x8x256_S4x8x512x128_2_3_3_1_01_02 none (V0 (Proc.devRef .tc main_v60_8)) (res_main_while0b_v87 V0)) transposes_S4x8x512x128_S4x128x8x512_0_3_1_2) (broadcastInDim S4x128x8x512 ![0, 1, 2, 3] bcast_S1x128x8x1_S4x128x8x512_0_1_2_3 (broadcastInDim S1x128x8x1 ![1, 2] bcast_S128x8_S1x128x8x1_1_2 (V0 (Proc.devRef .tc main_v60_4)))) : (Proc.devRef .tc main_while0b_v100 : DevRef τ sig).ty.Contents (Elt F)) = Cert.RetReferenceIdeal.Step.b28 j s := by
  unfold Cert.RetReferenceIdeal.Step.b28
  rw [← al_25 h, ← al_27 h]
  try rfl
set_option maxRecDepth 8192 in
theorem al_29 (h : Holds V0 s j) : (broadcastInDim S1x8x1x1 ![1] bcast_S8_S1x8x1x1_1 (V0 (Proc.devRef .tc main_v60_5)) : (Proc.devRef .tc main_while0b_v101 : DevRef τ sig).ty.Contents (Elt F)) = Cert.RetReferenceIdeal.Step.b29 j s := by
  unfold Cert.RetReferenceIdeal.Step.b29
  rw [h.k_5]
  try rfl
set_option maxRecDepth 8192 in
theorem al_30 (h : Holds V0 s j) : (broadcastInDim S4x8x256x512 ![0, 1, 2, 3] bcast_S1x8x1x1_S4x8x256x512_0_1_2_3 (broadcastInDim S1x8x1x1 ![1] bcast_S8_S1x8x1x1_1 (V0 (Proc.devRef .tc main_v60_5))) : (Proc.devRef .tc main_while0b_v102 : DevRef τ sig).ty.Contents (Elt F)) = Cert.RetReferenceIdeal.Step.b30 j s := by
  unfold Cert.RetReferenceIdeal.Step.b30
  rw [← al_29 h]
  try rfl
set_option maxRecDepth 8192 in
theorem al_31 (h : Holds V0 s j) : (mulf (V0 (Proc.devRef .tc main_v60_8)) (broadcastInDim S4x8x256x512 ![0, 1, 2, 3] bcast_S1x8x1x1_S4x8x256x512_0_1_2_3 (broadcastInDim S1x8x1x1 ![1] bcast_S8_S1x8x1x1_1 (V0 (Proc.devRef .tc main_v60_5)))) : (Proc.devRef .tc main_while0b_v103 : DevRef τ sig).ty.Contents (Elt F)) = Cert.RetReferenceIdeal.Step.b31 j s := by
  unfold Cert.RetReferenceIdeal.Step.b31
  rw [← al_30 h, h.f_8]
  try rfl
set_option maxRecDepth 8192 in
theorem al_32 (h : Holds V0 s j) : (broadcastInDim S1x128x8x1 ![1, 2] bcast_S128x8_S1x128x8x1_1_2 (V0 (Proc.devRef .tc main_v60_6)) : (Proc.devRef .tc main_while0b_v104 : DevRef τ sig).ty.Contents (Elt F)) = Cert.RetReferenceIdeal.Step.b32 j s := by
  unfold Cert.RetReferenceIdeal.Step.b32
  rw [h.k_6]
  try rfl
set_option maxRecDepth 8192 in
theorem al_33 (h : Holds V0 s j) : (broadcastInDim S4x128x8x256 ![0, 1, 2, 3] bcast_S1x128x8x1_S4x128x8x256_0_1_2_3 (broadcastInDim S1x128x8x1 ![1, 2] bcast_S128x8_S1x128x8x1_1_2 (V0 (Proc.devRef .tc main_v60_6))) : (Proc.devRef .tc main_while0b_v105 : DevRef τ sig).ty.Contents (Elt F)) = Cert.RetReferenceIdeal.Step.b33 j s := by
  unfold Cert.RetReferenceIdeal.Step.b33
  rw [← al_32 h]
  try rfl
set_option maxRecDepth 8192 in
theorem al_34 (h : Holds V0 s j) : (mulf (res_main_while0b_v88 V0) (broadcastInDim S4x128x8x256 ![0, 1, 2, 3] bcast_S1x128x8x1_S4x128x8x256_0_1_2_3 (broadcastInDim S1x128x8x1 ![1, 2] bcast_S128x8_S1x128x8x1_1_2 (V0 (Proc.devRef .tc main_v60_6)))) : (Proc.devRef .tc main_while0b_v106 : DevRef τ sig).ty.Contents (Elt F)) = Cert.RetReferenceIdeal.Step.b34 j s := by
  unfold Cert.RetReferenceIdeal.Step.b34
  rw [← al_11 h, ← al_33 h]
  try rfl
set_option maxRecDepth 8192 in
theorem al_35 (h : Holds V0 s j) : (Host.dotGeneral dot_S4x128x8x256_S4x128x8x512_S4x8x256x512_1_1_3_3_02_02 none (mulf (res_main_while0b_v88 V0) (broadcastInDim S4x128x8x256 ![0, 1, 2, 3] bcast_S1x128x8x1_S4x128x8x256_0_1_2_3 (broadcastInDim S1x128x8x1 ![1, 2] bcast_S128x8_S1x128x8x1_1_2 (V0 (Proc.devRef .tc main_v60_6))))) (res_main_while0b_v89 V0) : (Proc.devRef .tc main_while0b_v107 : DevRef τ sig).ty.Contents (Elt F)) = Cert.RetReferenceIdeal.Step.b35 j s := by
  unfold Cert.RetReferenceIdeal.Step.b35
  rw [← al_34 h, ← al_17 h]
  try rfl
set_option maxRecDepth 8192 in
theorem al_36 (h : Holds V0 s j) : (addf (mulf (V0 (Proc.devRef .tc main_v60_8)) (broadcastInDim S4x8x256x512 ![0, 1, 2, 3] bcast_S1x8x1x1_S4x8x256x512_0_1_2_3 (broadcastInDim S1x8x1x1 ![1] bcast_S8_S1x8x1x1_1 (V0 (Proc.devRef .tc main_v60_5))))) (Host.dotGeneral dot_S4x128x8x256_S4x128x8x512_S4x8x256x512_1_1_3_3_02_02 none (mulf (res_main_while0b_v88 V0) (broadcastInDim S4x128x8x256 ![0, 1, 2, 3] bcast_S1x128x8x1_S4x128x8x256_0_1_2_3 (broadcastInDim S1x128x8x1 ![1, 2] bcast_S128x8_S1x128x8x1_1_2 (V0 (Proc.devRef .tc main_v60_6))))) (res_main_while0b_v89 V0)) : (Proc.devRef .tc main_while0b_v108 : DevRef τ sig).ty.Contents (Elt F)) = Cert.RetReferenceIdeal.Step.b36 j s := by
  unfold Cert.RetReferenceIdeal.Step.b36
  rw [← al_31 h, ← al_35 h]
  try rfl
set_option maxRecDepth 8192 in
theorem al_37 (h : Holds V0 s j) : (addf (transpose S4x128x8x512 [0, 3, 1, 2] (Host.dotGeneral dot_S4x128x8x512_S4x8x128x128_S4x8x512x128_1_3_3_2_02_01 none (res_main_while0b_v89 V0) (mulf (Host.dotGeneral dot_S4x128x8x256_S4x128x8x256_S4x8x128x128_3_3_1_1_02_02 none (res_main_while0b_v87 V0) (res_main_while0b_v88 V0)) (broadcastInDim S4x8x128x128 ![0, 1, 2, 3] bcast_S1x8x128x128_S4x8x128x128_0_1_2_3 (broadcastInDim S1x8x128x128 ![1, 2, 3] bcast_S8x128x128_S1x8x128x128_1_2_3 (V0 (Proc.devRef .tc main_v60_3)))))) transposes_S4x8x512x128_S4x128x8x512_0_3_1_2) (mulf (transpose S4x128x8x512 [0, 3, 1, 2] (Host.dotGeneral dot_S4x8x256x512_S4x128x8x256_S4x8x512x128_2_3_3_1_01_02 none (V0 (Proc.devRef .tc main_v60_8)) (res_main_while0b_v87 V0)) transposes_S4x8x512x128_S4x128x8x512_0_3_1_2) (broadcastInDim S4x128x8x512 ![0, 1, 2, 3] bcast_S1x128x8x1_S4x128x8x512_0_1_2_3 (broadcastInDim S1x128x8x1 ![1, 2] bcast_S128x8_S1x128x8x1_1_2 (V0 (Proc.devRef .tc main_v60_4))))) : (Proc.devRef .tc main_while0b_v109 : DevRef τ sig).ty.Contents (Elt F)) = Cert.RetReferenceIdeal.Step.b37 j s := by
  unfold Cert.RetReferenceIdeal.Step.b37
  rw [← al_23 h, ← al_28 h]
  try rfl
set_option maxRecDepth 8192 in
theorem al_38 (h : Holds V0 s j) : (broadcastInDim S1x4x128x8x512 ![1, 2, 3, 4] bcast_S4x128x8x512_S1x4x128x8x512_1_2_3_4 (addf (transpose S4x128x8x512 [0, 3, 1, 2] (Host.dotGeneral dot_S4x128x8x512_S4x8x128x128_S4x8x512x128_1_3_3_2_02_01 none (res_main_while0b_v89 V0) (mulf (Host.dotGeneral dot_S4x128x8x256_S4x128x8x256_S4x8x128x128_3_3_1_1_02_02 none (res_main_while0b_v87 V0) (res_main_while0b_v88 V0)) (broadcastInDim S4x8x128x128 ![0, 1, 2, 3] bcast_S1x8x128x128_S4x8x128x128_0_1_2_3 (broadcastInDim S1x8x128x128 ![1, 2, 3] bcast_S8x128x128_S1x8x128x128_1_2_3 (V0 (Proc.devRef .tc main_v60_3)))))) transposes_S4x8x512x128_S4x128x8x512_0_3_1_2) (mulf (transpose S4x128x8x512 [0, 3, 1, 2] (Host.dotGeneral dot_S4x8x256x512_S4x128x8x256_S4x8x512x128_2_3_3_1_01_02 none (V0 (Proc.devRef .tc main_v60_8)) (res_main_while0b_v87 V0)) transposes_S4x8x512x128_S4x128x8x512_0_3_1_2) (broadcastInDim S4x128x8x512 ![0, 1, 2, 3] bcast_S1x128x8x1_S4x128x8x512_0_1_2_3 (broadcastInDim S1x128x8x1 ![1, 2] bcast_S128x8_S1x128x8x1_1_2 (V0 (Proc.devRef .tc main_v60_4)))))) : (Proc.devRef .tc main_while0b_call4_v0 : DevRef τ sig).ty.Contents (Elt F)) = Cert.RetReferenceIdeal.Step.b38 j s := by
  unfold Cert.RetReferenceIdeal.Step.b38
  rw [← al_37 h]
  try rfl
set_option maxRecDepth 8192 in
theorem al_39 (h : Holds V0 s j) : (constantI S_ 32 0#32 : (Proc.devRef .tc main_while0b_call4_c : DevRef τ sig).ty.Contents (Elt F)) = Cert.RetReferenceIdeal.Step.b39 j s := by
  unfold Cert.RetReferenceIdeal.Step.b39
  rfl
set_option maxRecDepth 8192 in
theorem al_40 (h : Holds V0 s j) : (constantI S_ 32 0#32 : (Proc.devRef .tc main_while0b_call4_c_0 : DevRef τ sig).ty.Contents (Elt F)) = Cert.RetReferenceIdeal.Step.b40 j s := by
  unfold Cert.RetReferenceIdeal.Step.b40
  rfl
set_option maxRecDepth 8192 in
theorem al_41 (h : Holds V0 s j) : (constantI S_ 32 0#32 : (Proc.devRef .tc main_while0b_call4_c_1 : DevRef τ sig).ty.Contents (Elt F)) = Cert.RetReferenceIdeal.Step.b41 j s := by
  unfold Cert.RetReferenceIdeal.Step.b41
  rfl
set_option maxRecDepth 8192 in
theorem al_42 (h : Holds V0 s j) : (constantI S_ 32 0#32 : (Proc.devRef .tc main_while0b_call4_c_2 : DevRef τ sig).ty.Contents (Elt F)) = Cert.RetReferenceIdeal.Step.b42 j s := by
  unfold Cert.RetReferenceIdeal.Step.b42
  rfl
set_option maxRecDepth 8192 in
theorem al_43 (h : Holds V0 s j) : (Host.dynamicUpdateSlice (V0 (Proc.devRef .tc main_v60_9)) (broadcastInDim S1x4x128x8x512 ![1, 2, 3, 4] bcast_S4x128x8x512_S1x4x128x8x512_1_2_3_4 (addf (transpose S4x128x8x512 [0, 3, 1, 2] (Host.dotGeneral dot_S4x128x8x512_S4x8x128x128_S4x8x512x128_1_3_3_2_02_01 none (res_main_while0b_v89 V0) (mulf (Host.dotGeneral dot_S4x128x8x256_S4x128x8x256_S4x8x128x128_3_3_1_1_02_02 none (res_main_while0b_v87 V0) (res_main_while0b_v88 V0)) (broadcastInDim S4x8x128x128 ![0, 1, 2, 3] bcast_S1x8x128x128_S4x8x128x128_0_1_2_3 (broadcastInDim S1x8x128x128 ![1, 2, 3] bcast_S8x128x128_S1x8x128x128_1_2_3 (V0 (Proc.devRef .tc main_v60_3)))))) transposes_S4x8x512x128_S4x128x8x512_0_3_1_2) (mulf (transpose S4x128x8x512 [0, 3, 1, 2] (Host.dotGeneral dot_S4x8x256x512_S4x128x8x256_S4x8x512x128_2_3_3_1_01_02 none (V0 (Proc.devRef .tc main_v60_8)) (res_main_while0b_v87 V0)) transposes_S4x8x512x128_S4x128x8x512_0_3_1_2) (broadcastInDim S4x128x8x512 ![0, 1, 2, 3] bcast_S1x128x8x1_S4x128x8x512_0_1_2_3 (broadcastInDim S1x128x8x1 ![1, 2] bcast_S128x8_S1x128x8x1_1_2 (V0 (Proc.devRef .tc main_v60_4))))))) (fun k => (((![V0 (Proc.devRef .tc main_v60_7), constantI S_ 32 0#32, constantI S_ 32 0#32, constantI S_ 32 0#32, constantI S_ 32 0#32] : Fin 5 → (⟨S_, .i32⟩ : BufTy).Contents (Elt F))) k (Shape.Idx.first h_S_)).toInt) updateFits_S32x4x128x8x512_S1x4x128x8x512 : (Proc.devRef .tc main_while0b_v110 : DevRef τ sig).ty.Contents (Elt F)) = Cert.RetReferenceIdeal.Step.b43 j s := by
  unfold Cert.RetReferenceIdeal.Step.b43
  rw [← al_38 h, ← al_39 h, ← al_40 h, ← al_41 h, ← al_42 h, h.f_9, h.n_7]
  try rfl

/-! One trip's step of the carried values is `step`, field by field; a counter steps to the next number. -/

theorem step_8 (h : Holds V0 s j) : step_main_v60_8 V0 = (step j s).main_v60_8 := by
  unfold step_main_v60_8 Cert.RetReferenceIdeal.Step.step
  show id (addf (mulf (V0 (Proc.devRef .tc main_v60_8)) (broadcastInDim S4x8x256x512 ![0, 1, 2, 3] bcast_S1x8x1x1_S4x8x256x512_0_1_2_3 (broadcastInDim S1x8x1x1 ![1] bcast_S8_S1x8x1x1_1 (V0 (Proc.devRef .tc main_v60_5))))) (Host.dotGeneral dot_S4x128x8x256_S4x128x8x512_S4x8x256x512_1_1_3_3_02_02 none (mulf (res_main_while0b_v88 V0) (broadcastInDim S4x128x8x256 ![0, 1, 2, 3] bcast_S1x128x8x1_S4x128x8x256_0_1_2_3 (broadcastInDim S1x128x8x1 ![1, 2] bcast_S128x8_S1x128x8x1_1_2 (V0 (Proc.devRef .tc main_v60_6))))) (res_main_while0b_v89 V0))) = _
  rw [al_36 h]
  try rfl
theorem step_9 (h : Holds V0 s j) : step_main_v60_9 V0 = (step j s).main_v60_9 := by
  unfold step_main_v60_9 Cert.RetReferenceIdeal.Step.step
  show id (Host.dynamicUpdateSlice (V0 (Proc.devRef .tc main_v60_9)) (broadcastInDim S1x4x128x8x512 ![1, 2, 3, 4] bcast_S4x128x8x512_S1x4x128x8x512_1_2_3_4 (addf (transpose S4x128x8x512 [0, 3, 1, 2] (Host.dotGeneral dot_S4x128x8x512_S4x8x128x128_S4x8x512x128_1_3_3_2_02_01 none (res_main_while0b_v89 V0) (mulf (Host.dotGeneral dot_S4x128x8x256_S4x128x8x256_S4x8x128x128_3_3_1_1_02_02 none (res_main_while0b_v87 V0) (res_main_while0b_v88 V0)) (broadcastInDim S4x8x128x128 ![0, 1, 2, 3] bcast_S1x8x128x128_S4x8x128x128_0_1_2_3 (broadcastInDim S1x8x128x128 ![1, 2, 3] bcast_S8x128x128_S1x8x128x128_1_2_3 (V0 (Proc.devRef .tc main_v60_3)))))) transposes_S4x8x512x128_S4x128x8x512_0_3_1_2) (mulf (transpose S4x128x8x512 [0, 3, 1, 2] (Host.dotGeneral dot_S4x8x256x512_S4x128x8x256_S4x8x512x128_2_3_3_1_01_02 none (V0 (Proc.devRef .tc main_v60_8)) (res_main_while0b_v87 V0)) transposes_S4x8x512x128_S4x128x8x512_0_3_1_2) (broadcastInDim S4x128x8x512 ![0, 1, 2, 3] bcast_S1x128x8x1_S4x128x8x512_0_1_2_3 (broadcastInDim S1x128x8x1 ![1, 2] bcast_S128x8_S1x128x8x1_1_2 (V0 (Proc.devRef .tc main_v60_4))))))) (fun k => (((![V0 (Proc.devRef .tc main_v60_7), constantI S_ 32 0#32, constantI S_ 32 0#32, constantI S_ 32 0#32, constantI S_ 32 0#32] : Fin 5 → (⟨S_, .i32⟩ : BufTy).Contents (Elt F))) k (Shape.Idx.first h_S_)).toInt) updateFits_S32x4x128x8x512_S1x4x128x8x512) = _
  exact al_43 h
theorem step_7 (h : Holds V0 s j) : step_main_v60_7 V0 = constantI S_ 32 (BitVec.ofNat 32 (j + 1)) := by
  unfold step_main_v60_7
  rw [h.n_7]
  funext i
  show BitVec.ofNat 32 j + 1#32 = BitVec.ofNat 32 (j + 1)
  simp only [BitVec.ofNat_add]

set_option maxRecDepth 8192 in
theorem out_main_v86_holds (h : Holds V0 s j) {x_main_arg0 : (⟨S4x4096x23040, .bf16⟩ : BufTy).Contents (Elt F)} (h_main_arg0 : V0 (Proc.devRef .tc main_arg0) = x_main_arg0) : out_main_v86 V0 = Cert.RetReferenceIdeal.Step.R_main_v86 s x_main_arg0 := by
  unfold out_main_v86 Cert.RetReferenceIdeal.Step.R_main_v86
  rw [h.f_9, h_main_arg0]
  try rfl

/-- One trip keeps the valuation holding: `step` of the state, the same set-up values, the next number. -/
theorem holds_step (h : Holds V0 s j) : Holds (STEP V0) (step j s) (j + 1) where
  f_8 := (STEP_main_v60_8 V0).trans (step_8 h)
  f_9 := (STEP_main_v60_9 V0).trans (step_9 h)
  n_7 := (STEP_main_v60_7 V0).trans (step_7 h)
  k_3 := (STEP_main_v60_3 V0).trans h.k_3
  k_4 := (STEP_main_v60_4 V0).trans h.k_4
  k_5 := (STEP_main_v60_5 V0).trans h.k_5
  k_6 := (STEP_main_v60_6 V0).trans h.k_6
  f_0 := (STEP_main_v60_0 V0).trans h.f_0
  f_1 := (STEP_main_v60_1 V0).trans h.f_1
  f_2 := (STEP_main_v60_2 V0).trans h.f_2

/-- The state the first trip starts from, of the memory the run starts from. -/
abbrev initState (m : (ℓ : Loc nD τ sig) → Buf (Elt F) ℓ) (c : Dev nD) : State F :=
  init (m ((c.tc : Thread nD τ).loc main_arg0))

variable (m : (ℓ : Loc nD τ sig) → Buf (Elt F) ℓ) (c : Dev nD)

set_option maxRecDepth 65536 in
set_option maxHeartbeats 500000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `RetReferenceIdeal` terminates with each result at its field of state
    number 32 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v86) = Cert.RetReferenceIdeal.Step.R_main_v86 (it c 32) (m ((c.tc : Thread nD τ).loc main_arg0))
      ∧ r.2.mem ((c.tc : Thread nD τ).loc main_arg0) = m ((c.tc : Thread nD τ).loc main_arg0) :=
  (θ_run defs _ _).mono (fun _ h c =>
    have hk := holds_iter m c (it c) (h0 c) (hs c) 32
    ⟨(h c).1.trans (out_main_v86_holds hk (iter_main_arg0 m c 32)), (h c).2⟩) (Value.run m ρ)

end Cert.Proof.RetStepRun

end
-- ==== Proof.RetClaim.lean ====
/- The conjuncts about the retention: the reference's frame and the value claim. -/
module

public import proofs.«01_k».proof.Defs
public import Idealize.ShloMosaic.Lib.Claim
public import Idealize.ShloMosaic.Lib.Quiescent
public import proofs.«01_k».proof.Proof.RetValue
public import proofs.«01_k».proof.Proof.RetStepRun

@[expose] public section

set_option maxRecDepth 16384

noncomputable section

open Idealize.ShloMosaic Idealize.ShloMosaic.TcCoe Idealize.SL.Sem

namespace Cert.Proof.Ret

section

open Cert.RetReferenceIdeal

/-- Every execution of the reference ends at the loop's thirty-second state and keeps its argument. -/
theorem run_ref (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v86) = Cert.RetReferenceIdeal.Step.R_main_v86 (Cert.Proof.RetRef.it (m ((c.tc : Thread nD τ).loc main_arg0)) 32) (m ((c.tc : Thread nD τ).loc main_arg0))
      ∧ r.2.mem ((c.tc : Thread nD τ).loc main_arg0) = m ((c.tc : Thread nD τ).loc main_arg0) :=
  Cert.Proof.RetStepRun.run_iter (F := Ideal) m ρ (fun c => Cert.Proof.RetRef.it (m ((c.tc : Thread nD τ).loc main_arg0)))
    (fun _ => rfl) (fun _ _ => rfl)

end

/-- Every execution of the reference keeps its argument and leaves no semaphore raised. -/
theorem frame_ref : Cert.quiescent_RetReferenceIdeal := fun m ρ _ =>
  (θ_run _ _ _).mono (fun r h => ⟨fun c => (h c).2, sem_eq_zero_of_no_sems (by decide) r.2⟩) (run_ref m ρ)

/-- The kernel and the reference end at the same result. -/
theorem algebraic : Cert.algebraic_RetKernelIdeal_RetReferenceIdeal := by
  pair_intro
  · run_from Cert.RetKernelIdeal.Value.run_blocks m g
  · run_from run_ref m' g'
    rw [Cert.Proof.Ret.final m c]
    rfl

end Cert.Proof.Ret

end
-- ==== Proof.InFrame.lean ====
/- The input projection's frame, and what its four result arrays end at. The casts of the three weights ride along in
   the first 256 of the 480 points; from there on the body stores nothing into their staging buffers, which keep what point
   255 left, and the block each window names stays that point's: so a buffer holds the cast of the window's block at
   every point. -/
module

public import proofs.«01_k».proof.Proof.Gen.InKernelIdeal.Frame
public import proofs.«01_k».proof.Proof.Gen.InKernelIdeal.Skeleton
public import proofs.«01_k».proof.Proof.Gen.InKernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Proof.InFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InKernelIdeal Cert.InKernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule -/

theorem cond1_iff : ∀ t : Fin cfg0.N, k0_cond1 (cfg0.grid.coords t) = 1#1 ↔ t.val < 256 :=
  (by decide +kernel : ∀ t : Fin grid0.N, k0_cond1 (grid0.coords t) = 1#1 ↔ t.val < 256)
theorem cond2_iff : ∀ t : Fin cfg0.N, k0_cond2 (cfg0.grid.coords t) = 1#1 ↔ t.val < 256 :=
  (by decide +kernel : ∀ t : Fin grid0.N, k0_cond2 (grid0.coords t) = 1#1 ↔ t.val < 256)
theorem cond3_iff : ∀ t : Fin cfg0.N, k0_cond3 (cfg0.grid.coords t) = 1#1 ↔ t.val < 256 :=
  (by decide +kernel : ∀ t : Fin grid0.N, k0_cond3 (grid0.coords t) = 1#1 ↔ t.val < 256)

theorem idle6 : ∀ t : Fin cfg0.N, cfg0.idle 6 (cfg0.grid.coords t) = !(decide (t.val < 256)) :=
  (by decide +kernel : ∀ t : Fin grid0.N, cfg0.idle 6 (grid0.coords t) = !(decide (t.val < 256)))
theorem flush6 : ∀ t : Fin cfg0.N, (cfg0.win 6).flush t = decide (t.val < 255 ∨ t.val = 479) := fun t =>
  (Window.flush_eq_flushF _ t).trans
    ((by decide +kernel : ∀ t : Fin grid0.N, (cfg0.win 6).flushF t = decide (t.val < 255 ∨ t.val = 479)) t)
theorem index2 : ∀ t : Fin cfg0.N, (cfg0.win 2).index t = ![min t.val 255, 0, 0] :=
  (by decide +kernel : ∀ t : Fin grid0.N, (cfg0.win 2).index t = ![min t.val 255, 0, 0])
/-- Nothing is stored into the buffer since the last write-back exactly up to point 255, and after the last point. -/
theorem fresh6 (n : ℕ) (h : n ≤ cfg0.N) : cfg0.fresh 6 n = decide (n ≤ 255 ∨ n = 480) :=
  Cfg.fresh_tab cfg0 6 (fun n => decide (n ≤ 255 ∨ n = 480)) rfl (fun t => by
    have hN : t.val < 480 := lt_of_lt_of_eq t.isLt (show cfg0.N = 480 from N_0)
    rw [flush6 t, idle6 t, ← decide_not, ← Bool.decide_and, ← Bool.decide_or]
    exact decide_eq_decide.mpr (by omega)) n h

theorem idle7 : ∀ t : Fin cfg0.N, cfg0.idle 7 (cfg0.grid.coords t) = !(decide (t.val < 256)) :=
  (by decide +kernel : ∀ t : Fin grid0.N, cfg0.idle 7 (grid0.coords t) = !(decide (t.val < 256)))
theorem flush7 : ∀ t : Fin cfg0.N, (cfg0.win 7).flush t = decide (t.val < 255 ∨ t.val = 479) := fun t =>
  (Window.flush_eq_flushF _ t).trans
    ((by decide +kernel : ∀ t : Fin grid0.N, (cfg0.win 7).flushF t = decide (t.val < 255 ∨ t.val = 479)) t)
theorem index3 : ∀ t : Fin cfg0.N, (cfg0.win 3).index t = ![min t.val 255, 0, 0] :=
  (by decide +kernel : ∀ t : Fin grid0.N, (cfg0.win 3).index t = ![min t.val 255, 0, 0])
/-- Nothing is stored into the buffer since the last write-back exactly up to point 255, and after the last point. -/
theorem fresh7 (n : ℕ) (h : n ≤ cfg0.N) : cfg0.fresh 7 n = decide (n ≤ 255 ∨ n = 480) :=
  Cfg.fresh_tab cfg0 7 (fun n => decide (n ≤ 255 ∨ n = 480)) rfl (fun t => by
    have hN : t.val < 480 := lt_of_lt_of_eq t.isLt (show cfg0.N = 480 from N_0)
    rw [flush7 t, idle7 t, ← decide_not, ← Bool.decide_and, ← Bool.decide_or]
    exact decide_eq_decide.mpr (by omega)) n h

theorem idle8 : ∀ t : Fin cfg0.N, cfg0.idle 8 (cfg0.grid.coords t) = !(decide (t.val < 256)) :=
  (by decide +kernel : ∀ t : Fin grid0.N, cfg0.idle 8 (grid0.coords t) = !(decide (t.val < 256)))
theorem flush8 : ∀ t : Fin cfg0.N, (cfg0.win 8).flush t = decide (t.val < 255 ∨ t.val = 479) := fun t =>
  (Window.flush_eq_flushF _ t).trans
    ((by decide +kernel : ∀ t : Fin grid0.N, (cfg0.win 8).flushF t = decide (t.val < 255 ∨ t.val = 479)) t)
theorem index4 : ∀ t : Fin cfg0.N, (cfg0.win 4).index t = ![min t.val 255, 0, 0] :=
  (by decide +kernel : ∀ t : Fin grid0.N, (cfg0.win 4).index t = ![min t.val 255, 0, 0])
/-- Nothing is stored into the buffer since the last write-back exactly up to point 255, and after the last point. -/
theorem fresh8 (n : ℕ) (h : n ≤ cfg0.N) : cfg0.fresh 8 n = decide (n ≤ 255 ∨ n = 480) :=
  Cfg.fresh_tab cfg0 8 (fun n => decide (n ≤ 255 ∨ n = 480)) rfl (fun t => by
    have hN : t.val < 480 := lt_of_lt_of_eq t.isLt (show cfg0.N = 480 from N_0)
    rw [flush8 t, idle8 t, ← decide_not, ← Bool.decide_and, ← Bool.decide_or]
    exact decide_eq_decide.mpr (by omega)) n h

/-! ## What the body leaves -/

abbrev r0_0 : Rect S1024x4096 := Rect.unit (s := S1024x4096) ![0, 0] S1024x4096.size inb_S1024x4096_S1024x4096_0_0
abbrev r0_1 : Rect S4096x768 := Rect.unit (s := S4096x768) ![0, 0] S4096x768.size inb_S4096x768_S4096x768_0_0
abbrev r0_2 : Rect S1x1024x512 := Rect.unit (s := S1x1024x512) ![0, 0, 0] S1x1024x512.size inb_S1x1024x512_S1x1024x512_0_0_0
abbrev r0_4 : Rect S1x128x4096 := Rect.unit (s := S1x128x4096) ![0, 0, 0] S1x128x4096.size inb_S1x128x4096_S1x128x4096_0_0_0
abbrev r0_5 : Rect S1024x768 := Rect.unit (s := S1024x768) ![0, 0] S1024x768.size inb_S1024x768_S1024x768_0_0

/-- The product's block, from the rows' and the columns' blocks. -/
def out5 (x0 : Vec F S1024x4096 .bf16) (x1 : Vec F S4096x768 .bf16) : Vec F S1024x768 .bf16 :=
  View.canon [⟨r0_5, k0_pay1 (View.ld x0 r0_0) (View.ld x1 r0_1)⟩]
/-- The first weight's cast block. -/
def out6 (x : Vec F S1x1024x512 .f32) : Vec F S1x1024x512 .bf16 := View.canon [⟨r0_2, k0_pay2 (View.ld x r0_2)⟩]
/-- The second weight's cast block. -/
def out7 (x : Vec F S1x1024x512 .f32) : Vec F S1x1024x512 .bf16 := View.canon [⟨r0_2, k0_pay3 (View.ld x r0_2)⟩]
/-- The third weight's cast block. -/
def out8 (x : Vec F S1x128x4096 .f32) : Vec F S1x128x4096 .bf16 := View.canon [⟨r0_4, k0_pay4 (View.ld x r0_4)⟩]

theorem cover5 (p0 : Vec F S1024x768 .bf16) (y : S1024x768.Idx) :
    ∃ pc ∈ ([⟨r0_5, p0⟩] : List (View.Piece (Elt F) S1024x768 .bf16)), y ∈ pc.1.set :=
  View.cover_of_tiled [⟨r0_5, p0⟩] S1024x768.size (by rfl) y
theorem cover6 (p0 : Vec F S1x1024x512 .bf16) (y : S1x1024x512.Idx) :
    ∃ pc ∈ ([⟨r0_2, p0⟩] : List (View.Piece (Elt F) S1x1024x512 .bf16)), y ∈ pc.1.set :=
  View.cover_of_tiled [⟨r0_2, p0⟩] S1x1024x512.size (by rfl) y
theorem cover8 (p0 : Vec F S1x128x4096 .bf16) (y : S1x128x4096.Idx) :
    ∃ pc ∈ ([⟨r0_4, p0⟩] : List (View.Piece (Elt F) S1x128x4096 .bf16)), y ∈ pc.1.set :=
  View.cover_of_tiled [⟨r0_4, p0⟩] S1x128x4096.size (by rfl) y

set_option maxHeartbeats 1000000 in
/-- The body at a point that casts: the inputs stay, each output ends at its block. -/
theorem sound_A (c : Dev nD) (E : Set ℕ) (i : grid0.Coords) (arg2 : Memref sig .tc .vmem S1024x4096 .bf16) (harg2 : arg2.IsWhole) (arg3 : Memref sig .tc .vmem S4096x768 .bf16) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x128x4096 .f32) (harg6 : arg6.IsWhole) (arg7 : Memref sig .tc .vmem S1024x768 .bf16) (harg7 : arg7.IsWhole) (arg8 : Memref sig .tc .vmem S1x1024x512 .bf16) (harg8 : arg8.IsWhole) (arg9 : Memref sig .tc .vmem S1x1024x512 .bf16) (harg9 : arg9.IsWhole) (arg10 : Memref sig .tc .vmem S1x128x4096 .bf16) (harg10 : arg10.IsWhole)
    (hc1 : k0_cond1 i = 1#1) (hc2 : k0_cond2 i = 1#1) (hc3 : k0_cond3 i = 1#1)
    (x0 : Vec F S1024x4096 .bf16) (x1 : Vec F S4096x768 .bf16) (x2 : Vec F S1x1024x512 .f32) (x3 : Vec F S1x1024x512 .f32) (x4 : Vec F S1x128x4096 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out5 x0 x1) ∗ owns (c : Thread nD τ) arg8 fullShare (out6 x2) ∗ owns (c : Thread nD τ) arg9 fullShare (out7 x3) ∗ owns (c : Thread nD τ) arg10 fullShare (out8 x4)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  subst hf0 hf1 hf2 hf3 hf4
  sl_exec (disch := first | sl_exact hc1 | sl_exact hc2 | sl_exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover5 _)
  isplitl [H6]
  · iexists _; isplitr
    swap; · iexact H6
    ipureintro
    exact View.read_writes_eq_canon _ _ _ (cover6 _)
  isplitl [H7]
  · iexists _; isplitr
    swap; · iexact H7
    ipureintro
    exact View.read_writes_eq_canon _ _ _ (cover6 _)
  iexists _; isplitr
  swap; · iexact H8
  ipureintro
  exact View.read_writes_eq_canon _ _ _ (cover8 _)

set_option maxHeartbeats 1000000 in
/-- The body at a point that casts nothing: the weights' buffers stay as found. -/
theorem sound_B (c : Dev nD) (E : Set ℕ) (i : grid0.Coords) (arg2 : Memref sig .tc .vmem S1024x4096 .bf16) (harg2 : arg2.IsWhole) (arg3 : Memref sig .tc .vmem S4096x768 .bf16) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x128x4096 .f32) (harg6 : arg6.IsWhole) (arg7 : Memref sig .tc .vmem S1024x768 .bf16) (harg7 : arg7.IsWhole) (arg8 : Memref sig .tc .vmem S1x1024x512 .bf16) (harg8 : arg8.IsWhole) (arg9 : Memref sig .tc .vmem S1x1024x512 .bf16) (harg9 : arg9.IsWhole) (arg10 : Memref sig .tc .vmem S1x128x4096 .bf16) (harg10 : arg10.IsWhole)
    (hc1 : ¬ k0_cond1 i = 1#1) (hc2 : ¬ k0_cond2 i = 1#1) (hc3 : ¬ k0_cond3 i = 1#1)
    (x0 : Vec F S1024x4096 .bf16) (x1 : Vec F S4096x768 .bf16) (x2 : Vec F S1x1024x512 .f32) (x3 : Vec F S1x1024x512 .f32) (x4 : Vec F S1x128x4096 .f32) (x6 : Vec F S1x1024x512 .bf16) (x7 : Vec F S1x1024x512 .bf16) (x8 : Vec F S1x128x4096 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare x6 ∗ owns (c : Thread nD τ) arg9 fullShare x7 ∗ owns (c : Thread nD τ) arg10 fullShare x8
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out5 x0 x1) ∗ owns (c : Thread nD τ) arg8 fullShare x6 ∗ owns (c : Thread nD τ) arg9 fullShare x7 ∗ owns (c : Thread nD τ) arg10 fullShare x8) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, Hk⟩
  subst hf0 hf1 hf2 hf3 hf4 hf6 hf7 hf8
  sl_exec (disch := first | sl_exact hc1 | sl_exact hc2 | sl_exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover5 _)
  isplitl [H6]
  · iexists f6; isplitr; · ipureintro; rfl
    iexact H6
  isplitl [H7]
  · iexists f7; isplitr; · ipureintro; rfl
    iexact H7
  iexists f8; isplitr; · ipureintro; rfl
  iexact H8

/-! ## The pipeline's proof data -/

/-- The arrays as the region finds them; after every point each input's buffer at its block, the product's at the product of
    the point's blocks, each weight's at the cast of the block its window names. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t)
    | ⟨6, _⟩ => out6 (iblk m c 2 t)
    | ⟨7, _⟩ => out7 (iblk m c 3 t)
    | ⟨8, _⟩ => out8 (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out5 (iblk m c 0 t) (iblk m c 1 t) := by dsimp only [dats]
theorem after0_6 (c : Dev nD) (t : Fin cfg0.N) : (dats m 0 c).after 6 t = out6 (iblk m c 2 t) := by dsimp only [dats]
theorem after0_7 (c : Dev nD) (t : Fin cfg0.N) : (dats m 0 c).after 7 t = out7 (iblk m c 3 t) := by dsimp only [dats]
theorem after0_8 (c : Dev nD) (t : Fin cfg0.N) : (dats m 0 c).after 8 t = out8 (iblk m c 4 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
/-- Past point 255 the window names the point before's block. -/
theorem carry2 (c : Dev nD) (t : Fin cfg0.N) (h : 256 ≤ t.val) :
    (dats m 0 c).after 6 t = (dats m 0 c).after 6 ⟨t.val - 1, Nat.lt_of_le_of_lt (Nat.sub_le _ _) t.isLt⟩ := by
  have hi : (cfg0.win 2).index t = (cfg0.win 2).index ⟨t.val - 1, Nat.lt_of_le_of_lt (Nat.sub_le _ _) t.isLt⟩ := by
    rw [index2 t, index2 ⟨t.val - 1, Nat.lt_of_le_of_lt (Nat.sub_le _ _) t.isLt⟩]
    have e : min t.val 255 = min (t.val - 1) 255 := by omega
    rw [e]
  have hf : ∀ s : Fin cfg0.N, ∀ d, (dats m 0 c).fetched 2 s d = iblk m c 2 s := fun s d => by
    unfold Dat.fetched Dat.blockOf iblk; rw [A_eq]; try rfl
  have hb : iblk m c 2 t = iblk m c 2 ⟨t.val - 1, Nat.lt_of_le_of_lt (Nat.sub_le _ _) t.isLt⟩ :=
    (hf t (iblk m c 2 t)).symm.trans (((dats m 0 c).fetched_congr 2 hi rfl _).trans (hf _ _))
  rw [after0_6, after0_6]
  exact congrArg out6 hb
/-- What the body finds in the weight's buffer past point 255: the cast of its block. -/
theorem before0_6 (c : Dev nD) (t : Fin cfg0.N) (h : 256 ≤ t.val) (d) : (dats m 0 c).before 6 t d = out6 (iblk m c 2 t) := by
  have hN : t.val < 480 := lt_of_lt_of_eq t.isLt (show cfg0.N = 480 from N_0)
  rw [(dats m 0 c).before_out_traj 6 rfl (fun _ _ => rfl) (fun s _ hs _ => carry2 m c s (by
      rw [idle6 s] at hs; simpa using hs)) t.val t rfl d, fresh6 t.val (Nat.le_of_lt t.isLt),
    if_neg (by simp only [decide_eq_true_eq]; omega), ← carry2 m c t h, after0_6]
/-- Past point 255 the window names the point before's block. -/
theorem carry3 (c : Dev nD) (t : Fin cfg0.N) (h : 256 ≤ t.val) :
    (dats m 0 c).after 7 t = (dats m 0 c).after 7 ⟨t.val - 1, Nat.lt_of_le_of_lt (Nat.sub_le _ _) t.isLt⟩ := by
  have hi : (cfg0.win 3).index t = (cfg0.win 3).index ⟨t.val - 1, Nat.lt_of_le_of_lt (Nat.sub_le _ _) t.isLt⟩ := by
    rw [index3 t, index3 ⟨t.val - 1, Nat.lt_of_le_of_lt (Nat.sub_le _ _) t.isLt⟩]
    have e : min t.val 255 = min (t.val - 1) 255 := by omega
    rw [e]
  have hf : ∀ s : Fin cfg0.N, ∀ d, (dats m 0 c).fetched 3 s d = iblk m c 3 s := fun s d => by
    unfold Dat.fetched Dat.blockOf iblk; rw [A_eq]; try rfl
  have hb : iblk m c 3 t = iblk m c 3 ⟨t.val - 1, Nat.lt_of_le_of_lt (Nat.sub_le _ _) t.isLt⟩ :=
    (hf t (iblk m c 3 t)).symm.trans (((dats m 0 c).fetched_congr 3 hi rfl _).trans (hf _ _))
  rw [after0_7, after0_7]
  exact congrArg out7 hb
/-- What the body finds in the weight's buffer past point 255: the cast of its block. -/
theorem before0_7 (c : Dev nD) (t : Fin cfg0.N) (h : 256 ≤ t.val) (d) : (dats m 0 c).before 7 t d = out7 (iblk m c 3 t) := by
  have hN : t.val < 480 := lt_of_lt_of_eq t.isLt (show cfg0.N = 480 from N_0)
  rw [(dats m 0 c).before_out_traj 7 rfl (fun _ _ => rfl) (fun s _ hs _ => carry3 m c s (by
      rw [idle7 s] at hs; simpa using hs)) t.val t rfl d, fresh7 t.val (Nat.le_of_lt t.isLt),
    if_neg (by simp only [decide_eq_true_eq]; omega), ← carry3 m c t h, after0_7]
/-- Past point 255 the window names the point before's block. -/
theorem carry4 (c : Dev nD) (t : Fin cfg0.N) (h : 256 ≤ t.val) :
    (dats m 0 c).after 8 t = (dats m 0 c).after 8 ⟨t.val - 1, Nat.lt_of_le_of_lt (Nat.sub_le _ _) t.isLt⟩ := by
  have hi : (cfg0.win 4).index t = (cfg0.win 4).index ⟨t.val - 1, Nat.lt_of_le_of_lt (Nat.sub_le _ _) t.isLt⟩ := by
    rw [index4 t, index4 ⟨t.val - 1, Nat.lt_of_le_of_lt (Nat.sub_le _ _) t.isLt⟩]
    have e : min t.val 255 = min (t.val - 1) 255 := by omega
    rw [e]
  have hf : ∀ s : Fin cfg0.N, ∀ d, (dats m 0 c).fetched 4 s d = iblk m c 4 s := fun s d => by
    unfold Dat.fetched Dat.blockOf iblk; rw [A_eq]; try rfl
  have hb : iblk m c 4 t = iblk m c 4 ⟨t.val - 1, Nat.lt_of_le_of_lt (Nat.sub_le _ _) t.isLt⟩ :=
    (hf t (iblk m c 4 t)).symm.trans (((dats m 0 c).fetched_congr 4 hi rfl _).trans (hf _ _))
  rw [after0_8, after0_8]
  exact congrArg out8 hb
/-- What the body finds in the weight's buffer past point 255: the cast of its block. -/
theorem before0_8 (c : Dev nD) (t : Fin cfg0.N) (h : 256 ≤ t.val) (d) : (dats m 0 c).before 8 t d = out8 (iblk m c 4 t) := by
  have hN : t.val < 480 := lt_of_lt_of_eq t.isLt (show cfg0.N = 480 from N_0)
  rw [(dats m 0 c).before_out_traj 8 rfl (fun _ _ => rfl) (fun s _ hs _ => carry4 m c s (by
      rw [idle8 s] at hs; simpa using hs)) t.val t rfl d, fresh8 t.val (Nat.le_of_lt t.isLt),
    if_neg (by simp only [decide_eq_true_eq]; omega), ← carry4 m c t h, after0_8]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- what it returns where it casts and where the buffers are written back, -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- and where the weights' buffers are left as found. -/
def bodyPostB (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- The body where it casts. -/
theorem sound_bodyA (c : Dev nD) (t : Fin cfg0.N) (h : t.val < 256) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  simp only [after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_A c Set.univ (grid0.coords t) _ _ _ _ _ _ _ _ _ _ _ _ _ _ _ _ _ _ ((cond1_iff t).mpr h) ((cond2_iff t).mpr h) ((cond3_iff t).mpr h) (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body past point 255, the buffers found at the casts and left so. -/
theorem sound_bodyC (c : Dev nD) (t : Fin cfg0.N) (h : 256 ≤ t.val) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_6 m c t h, before0_7 m c t h, before0_8 m c t h]
  rw [show (dats m 0 c).Φ t.succ = (dats m 0 c).Φ t.castSucc from rfl,
    show (dats m 0 c).owesAt () t.succ = (dats m 0 c).owesAt () t.castSucc from rfl]
  simp only [after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_B c Set.univ (grid0.coords t) _ _ _ _ _ _ _ _ _ _ _ _ _ _ _ _ _ _ (fun hh => by have := (cond1_iff t).mp hh; omega) (fun hh => by have := (cond2_iff t).mp hh; omega) (fun hh => by have := (cond3_iff t).mp hh; omega) (iblk m c 0 t) (iblk m c 1 t) (iblk m c 2 t) (iblk m c 3 t) (iblk m c 4 t) _ _ _ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [H8]; · iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The same, the buffers described as found. -/
theorem sound_bodyB (c : Dev nD) (t : Fin cfg0.N) (h : 256 ≤ t.val) :
    bodyPre m c t ⊢ wp frame (wpE (defs₀ (F := F)) Variants.none c none) Set.univ (bodyAt0 t) (fun _ => bodyPostB m c t) := by
  unfold bodyPre bodyPostB bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  simp only [after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_B c Set.univ (grid0.coords t) _ _ _ _ _ _ _ _ _ _ _ _ _ _ _ _ _ _ (fun hh => by have := (cond1_iff t).mp hh; omega) (fun hh => by have := (cond2_iff t).mp hh; omega) (fun hh => by have := (cond3_iff t).mp hh; omega) (iblk m c 0 t) (iblk m c 1 t) (iblk m c 2 t) (iblk m c 3 t) (iblk m c 4 t) _ _ _ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [H8]; · iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists d6; iexact H6
  isplitl [H7]; · iexists d7; iexact H7
  iexists d8; iexact H8

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  have hN : t.val < 480 := lt_of_lt_of_eq t.isLt (show cfg0.N = 480 from N_0)
  rw [bigSep_W0, bigSep_W0, defs₀_row]
  rewrite [idle6 t, idle7 t, idle8 t, flush6 t, flush7 t, flush8 t]
  by_cases h : t.val < 256
  · rewrite [show decide (t.val < 256) = true from decide_eq_true h]
    exact triple_restated (sound_bodyA m c t h) rfl .rfl fun _ => .rfl
  · rewrite [show decide (t.val < 256) = false from decide_eq_false h]
    by_cases h' : t.val = 479
    · rewrite [show decide (t.val < 255 ∨ t.val = 479) = true from decide_eq_true (Or.inr h')]
      exact triple_restated (sound_bodyC m c t (by omega)) rfl .rfl fun _ => .rfl
    · rewrite [show decide (t.val < 255 ∨ t.val = 479) = false from decide_eq_false (by omega)]
      exact triple_restated (sound_bodyB m c t (by omega)) rfl .rfl fun _ => .rfl

/-! ## The run and the frame -/

set_option backward.isDefEq.respectTransparency.types false in
set_option maxHeartbeats 800000 in
/-- Every execution ends with the arrays at what the proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Proof.InFrame

end
-- ==== Proof.InValue.lean ====
/- The input projection: at the exact values the kernel's four result arrays are the reference's. Each grid point writes
   one 1024 by 768 block of the product; the first 256 points write one chunk each of the three cast weights, and the last
   chunk is written back once more at the end with the same contents. -/
module

public import proofs.«01_k».proof.Proof.InFrame
public import proofs.«01_k».proof.Proof.Gen.InReferenceIdeal.Run
public import proofs.«01_k».proof.Proof.Gen.InReferenceIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.In

open Cert.InKernelIdeal Cert.InKernelIdeal.Gen Cert.Proof.InFrame
open Cert.InReferenceIdeal.Read

variable (m : (ℓ : Loc nD τ sig) → Buf (Elt Ideal) ℓ) (ρ : Dev nD → PrngReg)

/-- Which block each window holds at a grid point. -/
theorem idx : ∀ t : Fin cfg0.N, win0_0.index t = ![t.val / 30, 0] ∧ win0_1.index t = ![0, t.val % 30]
    ∧ win0_2.index t = ![min t.val 255, 0, 0] ∧ win0_3.index t = ![min t.val 255, 0, 0] ∧ win0_4.index t = ![min t.val 255, 0, 0]
    ∧ win0_5.index t = ![t.val / 30, t.val % 30]
    ∧ win0_6.index t = ![min t.val 255, 0, 0] ∧ win0_7.index t = ![min t.val 255, 0, 0] ∧ win0_8.index t = ![min t.val 255, 0, 0] :=
  (by decide +kernel : ∀ t : Fin grid0.N, _)

/-- The reference's results as functions of the kernel's arguments. -/
abbrev REF5 (c : Dev nD) := val_main_v3 (F := Ideal) (m ((c : Thread nD τ).loc main_arg0)) (m ((c : Thread nD τ).loc main_arg1))
abbrev REF6 (c : Dev nD) := val_main_v5 (F := Ideal) (m ((c : Thread nD τ).loc main_arg2))
abbrev REF7 (c : Dev nD) := val_main_v7 (F := Ideal) (m ((c : Thread nD τ).loc main_arg3))
abbrev REF8 (c : Dev nD) := val_main_v9 (F := Ideal) (m ((c : Thread nD τ).loc main_arg4))

/-- The reference's product at a row and a column. -/
theorem ref_apply (x0 : FVec Ideal Cert.InReferenceIdeal.S16384x4096 .bf16) (x1 : FVec Ideal Cert.InReferenceIdeal.S1x4096x23040 .f32)
    (r : Fin 16384) (l : Fin 23040) :
    val_main_v3 (F := Ideal) x0 x1 (ix2 r l) = ∑ k : Fin 4096, x0 (ix2 r k) * x1 (ix3 0 k l) := by
  rw [val_main_v3_apply, val_main_v2_apply]
  refine Finset.sum_congr rfl fun k _ => ?_
  rw [val_main_v0_apply, val_main_v1_apply]
  refine congrArg₂ (· * ·) (congrArg x0 ?_) (congrArg x1 ?_)
  · funext a; apply Fin.ext
    match a with
    | ⟨0, _⟩ => rfl
    | ⟨1, _⟩ => rfl
  · funext a; apply Fin.ext
    match a with
    | ⟨0, _⟩ => rfl
    | ⟨1, _⟩ => show (k.val * 23040 + l.val) / 23040 % 4096 = k.val; omega
    | ⟨2, _⟩ => show (k.val * 23040 + l.val) % 23040 = l.val; omega

/-- The stored payload at a row and a column of the block. -/
theorem pay_apply (v0 : Vec Ideal S1024x4096 .bf16) (v1 : Vec Ideal S4096x768 .bf16) (p : Fin 1024) (q : Fin 768) :
    k0_pay1 (F := Ideal) v0 v1 (ix2 p q) = ∑ k : Fin 4096, v0 (ix2 p k) * v1 (ix2 k q) := by
  pointwise [k0_pay1]

/-- What a point stores at an index of its block is the reference's element there. -/
theorem point5 (c : Dev nD) (t : Fin cfg0.N) (y) : k0_pay1 (F := Ideal) (iblk m c 0 t) (iblk m c 1 t) y
    = REF5 m c (((cfg0.win 5).blk t).view.emb y) := by
  refine Eq.trans ?_ ((congrArg (REF5 m c) (eq_ix2 _)).trans (ref_apply _ _ _ _)).symm
  refine ((congrArg (k0_pay1 (F := Ideal) _ _) (eq_ix2 y)).trans (pay_apply _ _ _ _)).trans ?_
  refine Finset.sum_congr rfl fun k _ => congrArg₂ (· * ·) ?_ ?_
  · blk_point [iblk, V, idx t]
  · blk_point [iblk, V, idx t]

/-- The product's array after the run. -/
theorem final5 (c : Dev nD) : (dats m 0 c).arrAt 5 (cfgs 0).N = REF5 m c := by
  refine (dats m 0 c).arrAt_eq_of_covers 5 _ (by decide +kernel) fun t _ y => ?_
  blk_simp
  rw [after0_5]; unfold out5; frame_out
  exact point5 m c t y

/-- A weight's chunks taken through the array without its unit axis are the reference's cast chunks. -/
theorem two_casts6 (x : FVec Ideal S1x64x4096x512 .f32) (i : S256x1024x512.Idx) :
    shapeCast S256x1024x512 (shapeCast S64x4096x512 x shapeCasts_S1x64x4096x512_S64x4096x512) shapeCasts_S64x4096x512_S256x1024x512 i
      = val_main_v5 (F := Ideal) x i := by
  rw [shapeCast_comp, val_main_v5_apply]
  unfold val_main_v4
  rfl

/-- A chunk is cast element by element. -/
theorem cast_apply6 (v : Vec Ideal S1x1024x512 .f32) (y : S1x1024x512.Idx) : k0_pay2 (F := Ideal) v y = v y := by
  unfold k0_pay2
  rw [shapeCast_self]
  rfl

/-- What a point leaves in the chunk's buffer is the reference's chunk. -/
theorem point6 (c : Dev nD) (t : Fin cfg0.N) (y) : k0_pay2 (F := Ideal) (iblk m c 2 t) y
    = REF6 m c (((cfg0.win 6).blk t).view.emb y) := by
  refine (cast_apply6 _ _).trans (Eq.trans ?_ (two_casts6 _ _))
  blk_simp [iblk, V, idx t]
  entry_read
  refine congrArg _ ?_
  blk_ext [idx t]

/-- The cast weight's array after the run. -/
theorem final6 (c : Dev nD) : (dats m 0 c).arrAt 6 (cfgs 0).N = REF6 m c := by
  refine (dats m 0 c).arrAt_eq_of_covers 6 _ (by decide +kernel) fun t _ y => ?_
  blk_simp
  rw [after0_6]; unfold out6; frame_out
  exact point6 m c t y

/-- A weight's chunks taken through the array without its unit axis are the reference's cast chunks. -/
theorem two_casts7 (x : FVec Ideal S1x64x4096x512 .f32) (i : S256x1024x512.Idx) :
    shapeCast S256x1024x512 (shapeCast S64x4096x512 x shapeCasts_S1x64x4096x512_S64x4096x512) shapeCasts_S64x4096x512_S256x1024x512 i
      = val_main_v7 (F := Ideal) x i := by
  rw [shapeCast_comp, val_main_v7_apply]
  unfold val_main_v6
  rfl

/-- A chunk is cast element by element. -/
theorem cast_apply7 (v : Vec Ideal S1x1024x512 .f32) (y : S1x1024x512.Idx) : k0_pay3 (F := Ideal) v y = v y := by
  unfold k0_pay3
  rw [shapeCast_self]
  rfl

/-- What a point leaves in the chunk's buffer is the reference's chunk. -/
theorem point7 (c : Dev nD) (t : Fin cfg0.N) (y) : k0_pay3 (F := Ideal) (iblk m c 3 t) y
    = REF7 m c (((cfg0.win 7).blk t).view.emb y) := by
  refine (cast_apply7 _ _).trans (Eq.trans ?_ (two_casts7 _ _))
  blk_simp [iblk, V, idx t]
  entry_read
  refine congrArg _ ?_
  blk_ext [idx t]

/-- The cast weight's array after the run. -/
theorem final7 (c : Dev nD) : (dats m 0 c).arrAt 7 (cfgs 0).N = REF7 m c := by
  refine (dats m 0 c).arrAt_eq_of_covers 7 _ (by decide +kernel) fun t _ y => ?_
  blk_simp
  rw [after0_7]; unfold out7; frame_out
  exact point7 m c t y

/-- A weight's chunks taken through the array without its unit axis are the reference's cast chunks. -/
theorem two_casts8 (x : FVec Ideal S1x64x512x4096 .f32) (i : S256x128x4096.Idx) :
    shapeCast S256x128x4096 (shapeCast S64x512x4096 x shapeCasts_S1x64x512x4096_S64x512x4096) shapeCasts_S64x512x4096_S256x128x4096 i
      = val_main_v9 (F := Ideal) x i := by
  rw [shapeCast_comp, val_main_v9_apply]
  unfold val_main_v8
  rfl

/-- A chunk is cast element by element. -/
theorem cast_apply8 (v : Vec Ideal S1x128x4096 .f32) (y : S1x128x4096.Idx) : k0_pay4 (F := Ideal) v y = v y := by
  unfold k0_pay4
  rw [shapeCast_self]
  rfl

/-- What a point leaves in the chunk's buffer is the reference's chunk. -/
theorem point8 (c : Dev nD) (t : Fin cfg0.N) (y) : k0_pay4 (F := Ideal) (iblk m c 4 t) y
    = REF8 m c (((cfg0.win 8).blk t).view.emb y) := by
  refine (cast_apply8 _ _).trans (Eq.trans ?_ (two_casts8 _ _))
  blk_simp [iblk, V, idx t]
  entry_read
  refine congrArg _ ?_
  blk_ext [idx t]

/-- The cast weight's array after the run. -/
theorem final8 (c : Dev nD) : (dats m 0 c).arrAt 8 (cfgs 0).N = REF8 m c := by
  refine (dats m 0 c).arrAt_eq_of_covers 8 _ (by decide +kernel) fun t _ y => ?_
  blk_simp
  rw [after0_8]; unfold out8; frame_out
  exact point8 m c t y

/-- Every execution ends with the four results at the reference's functions of the arguments, the arguments unchanged. -/
theorem run_blocks : θ_run defs (onTc (τ := τ) (main (F := Ideal))) ⟨m, fun _ => 0, ρ⟩ fun r => ∀ c : Dev nD,
      r.2.mem ((c : Thread nD τ).loc main_v8_0) = REF5 m c
      ∧ r.2.mem ((c : Thread nD τ).loc main_v8_1) = REF6 m c
      ∧ r.2.mem ((c : Thread nD τ).loc main_v8_2) = REF7 m c
      ∧ r.2.mem ((c : Thread nD τ).loc main_v8_3) = REF8 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h.1 c).1 5).trans (final5 m c), ((h.1 c).1 6).trans (final6 m c),
      ((h.1 c).1 7).trans (final7 m c), ((h.1 c).1 8).trans (final8 m c), h.2.1 c⟩)
    (θ_run_and (run_main m ρ) (frame m ρ))

end Cert.Proof.In

end
-- ==== Proof.InClaim.lean ====
/- The conjuncts about the input projection: the three frames' quiescent forms and the value claim. -/
module

public import proofs.«01_k».proof.Defs
public import Idealize.ShloMosaic.Lib.Claim
public import Idealize.ShloMosaic.Lib.Quiescent
public import proofs.«01_k».proof.Proof.InValue
public import proofs.«01_k».proof.Proof.InFrameBits
public import proofs.«01_k».proof.Proof.Gen.InReferenceIdeal.Run

@[expose] public section

set_option maxRecDepth 16384

noncomputable section

open Idealize.ShloMosaic Idealize.ShloMosaic.TcCoe Idealize.SL.Sem

namespace Cert.Proof.In

/-- Every execution of the reference keeps its arguments and leaves no semaphore raised. -/
theorem frame_ref : Cert.quiescent_InReferenceIdeal := fun m ρ _ =>
  (θ_run _ _ _).mono (fun r h => ⟨fun c => (h c).2.2.2.2, sem_eq_zero_of_no_sems (by decide) r.2⟩) (Cert.InReferenceIdeal.Value.run m ρ)

/-- Every execution of the kernel keeps its arguments and leaves no semaphore raised. -/
theorem frame_kernel : Cert.quiescent_InKernelIdeal := fun m ρ _ => Cert.Proof.InFrame.frame m ρ

/-- The same of the kernel at the bit patterns. -/
theorem frame_bits : Cert.quiescent_InKernel := fun m ρ _ => Cert.Proof.InFrameBits.frame m ρ

/-- The kernel and the reference end at the same four results. -/
theorem algebraic : Cert.algebraic_InKernelIdeal_InReferenceIdeal := by
  pair_intro
  · run_from Cert.Proof.In.run_blocks m g
  · run_from Cert.InReferenceIdeal.Value.run m' g'
    all_goals first
      | exact Cert.InReferenceIdeal.Read.val_main_v3_eq _ _
      | exact Cert.InReferenceIdeal.Read.val_main_v5_eq _
      | exact Cert.InReferenceIdeal.Read.val_main_v7_eq _
      | exact Cert.InReferenceIdeal.Read.val_main_v9_eq _

end Cert.Proof.In

end
-- ==== Proof.MixValue.lean ====
/- The gated sum of the two output projections (`mix`): at the exact values the kernel's result array is the
   reference's. Each grid point writes one 1024 by 512 block of the result; the block holds the two contractions over
   the whole inner axis, each multiplied by the logistic function of its gate. -/
module

public import proofs.«01_k».proof.Proof.Gen.MixKernelIdeal.Value
public import proofs.«01_k».proof.Proof.Gen.MixReferenceIdeal.Run
public import proofs.«01_k».proof.Proof.Gen.MixReferenceIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.Mix

open Cert.MixKernelIdeal Cert.MixKernelIdeal.Gen
open Cert.MixReferenceIdeal.Read

variable (m : (ℓ : Loc nD τ sig) → Buf (Elt Ideal) ℓ)

/-- Which block each window holds at a grid point: the row block is the point's number divided by 8, the column block
    its remainder; the two gates stand at columns 14848 and 18944, the blocks 29 and 37. -/
theorem idx : ∀ t : Fin cfg0.N, win0_0.index t = ![t.val / 8, 0] ∧ win0_1.index t = ![t.val / 8, 0]
    ∧ win0_2.index t = ![0, t.val % 8] ∧ win0_3.index t = ![0, t.val % 8] ∧ win0_4.index t = ![t.val / 8, 29 + t.val % 8]
    ∧ win0_5.index t = ![t.val / 8, 37 + t.val % 8] ∧ win0_6.index t = ![t.val / 8, t.val % 8] :=
  (by decide +kernel : ∀ t : Fin grid0.N, _)

/-- The reference's result as a function of the kernel's arguments. -/
abbrev REF (c : Dev nD) := val_main_v24 (F := Ideal) (m ((c : Thread nD τ).loc main_arg0)) (m ((c : Thread nD τ).loc main_arg1))
  (m ((c : Thread nD τ).loc main_arg2)) (m ((c : Thread nD τ).loc main_arg3)) (m ((c : Thread nD τ).loc main_arg4))

/-- What a point stores at an index of its block is the reference's element there. -/
theorem point (c : Dev nD) (t : Fin cfg0.N) (y) : k0_pay1 (F := Ideal) (iblk m c 0 t) (iblk m c 2 t) (iblk m c 1 t) (iblk m c 3 t)
    (iblk m c 4 t) (iblk m c 5 t) y = REF m c (((cfg0.win 6).blk t).view.emb y) := by
  pointwise [k0_pay1, val_main_v24, val_main_v23, val_main_v22, val_main_v21, val_main_v20, val_main_cst_2, val_main_v19, val_main_v18, val_main_cst_1, val_main_v17, val_main_v16, val_main_v15, val_main_v14, val_main_v13, val_main_cst_0, val_main_v12, val_main_v11, val_main_cst, val_main_v10, val_main_v9, val_main_v8, val_main_v7, val_main_v6, val_main_v5, val_main_v4, val_main_v3, val_main_v2, val_main_v1, val_main_v0]
  simp only [zero_sub]
  blk_point [iblk, V, idx t]

/-- The result array after the run. -/
theorem final (c : Dev nD) : (dats m 0 c).arrAt 6 (cfgs 0).N = REF m c := by
  refine (dats m 0 c).arrAt_eq_of_covers 6 _ (by decide +kernel) fun t _ y => ?_
  blk_simp
  rw [after0_6]; frame_out
  exact point m c t y

end Cert.Proof.Mix

end
-- ==== Proof.MixClaim.lean ====
/- The conjuncts about the branches' output projections: the two frames' quiescent forms and the value claim. -/
module

public import proofs.«01_k».proof.Defs
public import Idealize.ShloMosaic.Lib.Claim
public import Idealize.ShloMosaic.Lib.Quiescent
public import proofs.«01_k».proof.Proof.MixValue
public import proofs.«01_k».proof.Proof.Gen.MixReferenceIdeal.Run

@[expose] public section

set_option maxRecDepth 16384

noncomputable section

open Idealize.ShloMosaic Idealize.ShloMosaic.TcCoe Idealize.SL.Sem

namespace Cert.Proof.Mix

/-- Every execution of the reference keeps its arguments and leaves no semaphore raised. -/
theorem frame_ref : Cert.quiescent_MixReferenceIdeal := fun m ρ _ =>
  (θ_run _ _ _).mono (fun r h => ⟨fun c => (h c).2, sem_eq_zero_of_no_sems (by decide) r.2⟩) (Cert.MixReferenceIdeal.Value.run m ρ)

/-- The kernel and the reference end at the same result. -/
theorem algebraic : Cert.algebraic_MixKernelIdeal_MixReferenceIdeal := by
  pair_intro
  · run_from Cert.MixKernelIdeal.Value.run_blocks m g
  · run_from Cert.MixReferenceIdeal.Value.run m' g'
    rw [Cert.Proof.Mix.final m c]
    exact Cert.MixReferenceIdeal.Read.val_main_v24_eq _ _ _ _ _

end Cert.Proof.Mix

end
-- ==== Proof.ResidValue.lean ====
/- The output projection and the residual (`out_resid`): at the exact values the kernel's result array is the
   reference's. Each grid point writes one 1024 by 1024 block: the residual plus the gate row of the block's batch entry
   times the contraction over the whole inner axis. -/
module

public import proofs.«01_k».proof.Proof.Gen.ResidKernelIdeal.Value
public import proofs.«01_k».proof.Proof.Gen.ResidReferenceIdeal.Run
public import proofs.«01_k».proof.Proof.Gen.ResidReferenceIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.Resid

open Cert.ResidKernelIdeal Cert.ResidKernelIdeal.Gen
open Cert.ResidReferenceIdeal.Read

variable (m : (ℓ : Loc nD τ sig) → Buf (Elt Ideal) ℓ)

/-- Which block each window holds at a grid point; the gate's row is row 2 of the six rows of the batch entry
    that the block's rows belong to. -/
theorem idx : ∀ t : Fin cfg0.N, win0_0.index t = ![t.val / 4, 0] ∧ win0_1.index t = ![0, t.val % 4]
    ∧ win0_2.index t = ![t.val / 4, t.val % 4] ∧ win0_3.index t = ![6 * (t.val / 16) + 2, 0, t.val % 4]
    ∧ win0_4.index t = ![t.val / 4, t.val % 4] :=
  (by decide +kernel : ∀ t : Fin grid0.N, _)

/-- The reference's result as a function of the kernel's arguments. -/
abbrev REF (c : Dev nD) := val_main_v10 (F := Ideal) (m ((c : Thread nD τ).loc main_arg0)) (m ((c : Thread nD τ).loc main_arg1))
  (m ((c : Thread nD τ).loc main_arg2)) (m ((c : Thread nD τ).loc main_arg3))

/-- The reference's result at a row and a column: the residual there plus the gate of the row's batch entry times the
    contraction. -/
theorem ref_apply (x0 : FVec Ideal Cert.ResidReferenceIdeal.S16384x4096 .bf16) (x1 : FVec Ideal Cert.ResidReferenceIdeal.S1x4096x4096 .f32)
    (x2 : FVec Ideal Cert.ResidReferenceIdeal.S16384x4096 .f32) (x3 : FVec Ideal Cert.ResidReferenceIdeal.S4x24576 .f32)
    (r : Fin 16384) (l : Fin 4096) :
    val_main_v10 (F := Ideal) x0 x1 x2 x3 (ix2 r l)
      = x2 (ix2 r l) + x3 (ix2 ⟨r.val / 4096, by omega⟩ ⟨8192 + l.val, by omega⟩) * ∑ k : Fin 4096, x0 (ix2 r k) * x1 (ix3 0 k l) := by
  rw [val_main_v10_apply, val_main_v9_apply, val_main_v5_apply, val_main_v8_apply, val_main_v7_apply, val_main_v6_apply,
    val_main_v0_apply, val_main_v4_apply, val_main_v3_apply]
  refine congrArg₂ (· + ·) (congrArg x2 ?_) (congrArg₂ (· * ·) (congrArg x3 ?_) (Finset.sum_congr rfl fun k _ => ?_))
  · funext a; apply Fin.ext
    match a with
    | ⟨0, _⟩ =>
      show (((r.val * 4096 + l.val) / 16777216 * 4096 + (r.val * 4096 + l.val) / 4096 % 4096) * 4096
        + (r.val * 4096 + l.val) % 4096) / 4096 = r.val
      omega
    | ⟨1, _⟩ =>
      show (((r.val * 4096 + l.val) / 16777216 * 4096 + (r.val * 4096 + l.val) / 4096 % 4096) * 4096
        + (r.val * 4096 + l.val) % 4096) % 4096 = l.val
      omega
  · funext a; apply Fin.ext
    match a with
    | ⟨0, _⟩ => show (r.val * 4096 + l.val) / 16777216 = r.val / 4096; omega
    | ⟨1, _⟩ => show 8192 + (r.val * 4096 + l.val) % 4096 = 8192 + l.val; omega
  · rw [val_main_v1_apply, val_main_v2_apply]
    refine congrArg₂ (· * ·) (congrArg x0 ?_) (congrArg x1 ?_)
    · funext a; apply Fin.ext
      match a with
      | ⟨0, _⟩ =>
        show (((r.val * 4096 + l.val) / 16777216 * 4096 + (r.val * 4096 + l.val) / 4096 % 4096) * 4096
          + (r.val * 4096 + l.val) % 4096) / 4096 = r.val
        omega
      | ⟨1, _⟩ => rfl
    · funext a; apply Fin.ext
      match a with
      | ⟨0, _⟩ => rfl
      | ⟨1, _⟩ =>
        show (k.val * 4096 + (((r.val * 4096 + l.val) / 16777216 * 4096 + (r.val * 4096 + l.val) / 4096 % 4096) * 4096
          + (r.val * 4096 + l.val) % 4096) % 4096) / 4096 % 4096 = k.val
        omega
      | ⟨2, _⟩ =>
        show (k.val * 4096 + (((r.val * 4096 + l.val) / 16777216 * 4096 + (r.val * 4096 + l.val) / 4096 % 4096) * 4096
          + (r.val * 4096 + l.val) % 4096) % 4096) % 4096 = l.val
        omega

/-- The stored payload at a row and a column of the block. -/
theorem pay_apply (v0 : Vec Ideal S1024x4096 .bf16) (v1 : Vec Ideal S4096x1024 .bf16) (v4 : Vec Ideal S1024x1024 .f32)
    (v5 : Vec Ideal S1x1x1024 .f32) (p q : Fin 1024) :
    k0_pay1 (F := Ideal) v0 v1 v4 v5 (ix2 p q) = v4 (ix2 p q) + v5 (ix3 0 0 q) * ∑ k : Fin 4096, v0 (ix2 p k) * v1 (ix2 k q) := by
  pointwise [k0_pay1]

/-- The gates' array by rows of 4096: row `j 0` is part `j 0 % 6` of batch entry `j 0 / 6`. -/
theorem mod_apply (x : FVec Ideal S4x24576 .f32) (j : S24x1x4096.Idx) (i : S4x24576.Idx)
    (h0 : (i 0 : ℕ) = (j 0 : ℕ) / 6) (h1 : (i 1 : ℕ) = ((j 0 : ℕ) % 6) * 4096 + (j 2 : ℕ)) :
    shapeCast S24x1x4096 x shapeCasts_S4x24576_S24x1x4096 j = x i := by
  refine shapeCast_apply x shapeCasts_S4x24576_S24x1x4096 j i ?_
  have hj0 : (j 0 : ℕ) < 24 := (j 0).isLt
  have hj1 : (j 1 : ℕ) < 1 := (j 1).isLt
  have hj2 : (j 2 : ℕ) < 4096 := (j 2).isLt
  rewrite [Shape.rowMajor_val_three, Shape.rowMajor_val_two]
  show (i 0 : ℕ) * 24576 + (i 1 : ℕ) = ((j 0 : ℕ) * 1 + (j 1 : ℕ)) * 4096 + (j 2 : ℕ)
  omega

/-- What a point stores at an index of its block is the reference's element there. -/
theorem point (c : Dev nD) (t : Fin cfg0.N) (y) : k0_pay1 (F := Ideal) (iblk m c 0 t) (iblk m c 1 t) (iblk m c 2 t) (iblk m c 3 t) y
    = REF m c (((cfg0.win 4).blk t).view.emb y) := by
  refine Eq.trans ?_ ((congrArg (REF m c) (eq_ix2 _)).trans (ref_apply _ _ _ _ _ _)).symm
  refine ((congrArg (k0_pay1 (F := Ideal) _ _ _ _) (eq_ix2 y)).trans (pay_apply _ _ _ _ _ _)).trans ?_
  refine congrArg₂ (· + ·) ?_ (congrArg₂ (· * ·) ?_ (Finset.sum_congr rfl fun k _ => congrArg₂ (· * ·) ?_ ?_))
  · blk_point [iblk, V, idx t]
  · blk_simp [iblk, V, idx t]
    entry_read
    refine mod_apply _ _ _ ?_ ?_
    · blk_simp [idx t]
      idx_bounds_all
      show (t.val / 4 * 1024 + (y 0).val) / 4096 = (6 * (t.val / 16) + 2 + 0) / 6
      omega
    · blk_simp [idx t]
      idx_bounds_all
      show 8192 + (t.val % 4 * 1024 + (y 1).val) = (6 * (t.val / 16) + 2 + 0) % 6 * 4096 + (t.val % 4 * 1024 + (y 1).val)
      omega
  · blk_point [iblk, V, idx t]
  · blk_point [iblk, V, idx t]

/-- The result array after the run. -/
theorem final (c : Dev nD) : (dats m 0 c).arrAt 4 (cfgs 0).N = REF m c := by
  refine (dats m 0 c).arrAt_eq_of_covers 4 _ (by decide +kernel) fun t _ y => ?_
  blk_simp
  rw [after0_4]; frame_out
  exact point m c t y

end Cert.Proof.Resid

end
-- ==== Proof.ResidClaim.lean ====
/- The conjuncts about the output projection and the residual: the two frames' quiescent forms and the value claim. -/
module

public import proofs.«01_k».proof.Defs
public import Idealize.ShloMosaic.Lib.Claim
public import Idealize.ShloMosaic.Lib.Quiescent
public import proofs.«01_k».proof.Proof.ResidValue
public import proofs.«01_k».proof.Proof.Gen.ResidReferenceIdeal.Run

@[expose] public section

set_option maxRecDepth 16384

noncomputable section

open Idealize.ShloMosaic Idealize.ShloMosaic.TcCoe Idealize.SL.Sem

namespace Cert.Proof.Resid

/-- Every execution of the reference keeps its arguments and leaves no semaphore raised. -/
theorem frame_ref : Cert.quiescent_ResidReferenceIdeal := fun m ρ _ =>
  (θ_run _ _ _).mono (fun r h => ⟨fun c => (h c).2, sem_eq_zero_of_no_sems (by decide) r.2⟩) (Cert.ResidReferenceIdeal.Value.run m ρ)

/-- The kernel and the reference end at the same result. -/
theorem algebraic : Cert.algebraic_ResidKernelIdeal_ResidReferenceIdeal := by
  pair_intro
  · run_from Cert.ResidKernelIdeal.Value.run_blocks m g
  · run_from Cert.ResidReferenceIdeal.Value.run m' g'
    rw [Cert.Proof.Resid.final m c]
    exact Cert.ResidReferenceIdeal.Read.val_main_v10_eq _ _ _ _

end Cert.Proof.Resid

end
-- ==== Proof.AdaValue.lean ====
/- The conditioning (`ada`): at the exact values the kernel's result array is the reference's. Each grid point writes 1024
   columns of the eight rows: the contraction of the conditioning's swish with the weight's columns, and the bias. -/
module

public import proofs.«01_k».proof.Proof.Gen.AdaKernelIdeal.Value
public import proofs.«01_k».proof.Proof.Gen.AdaReferenceIdeal.Run
public import proofs.«01_k».proof.Proof.Gen.AdaReferenceIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.Ada

open Cert.AdaKernelIdeal Cert.AdaKernelIdeal.Gen
open Cert.AdaReferenceIdeal.Read

variable (m : (ℓ : Loc nD τ sig) → Buf (Elt Ideal) ℓ)

/-- Which block each window holds at a grid point: the point's number is the block of columns. -/
theorem idx : ∀ t : Fin cfg0.N, win0_0.index t = ![0, 0] ∧ win0_1.index t = ![0, t.val]
    ∧ win0_2.index t = ![0, t.val] ∧ win0_3.index t = ![0, t.val] :=
  (by decide +kernel : ∀ t : Fin grid0.N, _)

/-- The reference's result as a function of the kernel's arguments. -/
abbrev REF (c : Dev nD) := val_main_v6 (F := Ideal) (m ((c : Thread nD τ).loc main_arg0)) (m ((c : Thread nD τ).loc main_arg1))
  (m ((c : Thread nD τ).loc main_arg2))

/-- What a point stores at an index of its block is the reference's element there. -/
theorem point (c : Dev nD) (t : Fin cfg0.N) (y) : k0_pay1 (F := Ideal) (iblk m c 0 t) (iblk m c 1 t) (iblk m c 2 t) y
    = REF m c (((cfg0.win 3).blk t).view.emb y) := by
  pointwise [k0_pay1, val_main_v6, val_main_v5, val_main_v4, val_main_v3, val_main_v2, val_main_v1, val_main_v0, val_main_call0_v5, val_main_call0_v4, val_main_call0_cst_0, val_main_call0_v3, val_main_call0_v2, val_main_call0_cst, val_main_call0_v1, val_main_call0_v0]
  simp only [zero_sub]
  blk_point [iblk, V, idx t]

/-- The result array after the run. -/
theorem final (c : Dev nD) : (dats m 0 c).arrAt 3 (cfgs 0).N = REF m c := by
  refine (dats m 0 c).arrAt_eq_of_covers 3 _ (by decide +kernel) fun t _ y => ?_
  blk_simp
  rw [after0_3]; frame_out
  exact point m c t y

end Cert.Proof.Ada

end
-- ==== Proof.AdaClaim.lean ====
/- The conjuncts about the conditioning: the two frames' quiescent forms and the value claim. -/
module

public import proofs.«01_k».proof.Defs
public import Idealize.ShloMosaic.Lib.Claim
public import Idealize.ShloMosaic.Lib.Quiescent
public import proofs.«01_k».proof.Proof.AdaValue
public import proofs.«01_k».proof.Proof.Gen.AdaReferenceIdeal.Run

@[expose] public section

set_option maxRecDepth 16384

noncomputable section

open Idealize.ShloMosaic Idealize.ShloMosaic.TcCoe Idealize.SL.Sem

namespace Cert.Proof.Ada

/-- Every execution of the reference keeps its arguments and leaves no semaphore raised. -/
theorem frame_ref : Cert.quiescent_AdaReferenceIdeal := fun m ρ _ =>
  (θ_run _ _ _).mono (fun r h => ⟨fun c => (h c).2, sem_eq_zero_of_no_sems (by decide) r.2⟩) (Cert.AdaReferenceIdeal.Value.run m ρ)

/-- The kernel and the reference end at the same result. -/
theorem algebraic : Cert.algebraic_AdaKernelIdeal_AdaReferenceIdeal := by
  pair_intro
  · run_from Cert.AdaKernelIdeal.Value.run_blocks m g
  · run_from Cert.AdaReferenceIdeal.Value.run m' g'
    rw [Cert.Proof.Ada.final m c]
    exact Cert.AdaReferenceIdeal.Read.val_main_v6_eq _ _ _

end Cert.Proof.Ada

end
-- ==== Proof.NormValue.lean ====
/- The norm and the modulation before the input projection (`norm_mod`): at the exact values the kernel's result array is
   the reference's. Each grid point writes 512 rows of a batch entry. -/
module

public import proofs.«01_k».proof.Proof.Gen.NormKernelIdeal.Value
public import proofs.«01_k».proof.Proof.Gen.NormReferenceIdeal.Run
public import proofs.«01_k».proof.Proof.Gen.NormReferenceIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.Norm

open Cert.NormKernelIdeal Cert.NormKernelIdeal.Gen
open Cert.NormReferenceIdeal.Read

variable (m : (ℓ : Loc nD τ sig) → Buf (Elt Ideal) ℓ)

/-- Which block each window holds at a grid point: the batch entry is the point's number divided by 8, the block of rows
    its remainder; the shift is row 0 and the scale row 1 of the batch entry's six rows. -/
theorem idx : ∀ t : Fin cfg0.N, win0_0.index t = ![t.val / 8, t.val % 8, 0] ∧ win0_1.index t = ![0, 0]
    ∧ win0_2.index t = ![6 * (t.val / 8), 0, 0] ∧ win0_3.index t = ![6 * (t.val / 8) + 1, 0, 0]
    ∧ win0_4.index t = ![t.val / 8, t.val % 8, 0] :=
  (by decide +kernel : ∀ t : Fin grid0.N, _)

/-- The reference's result as a function of the kernel's arguments. -/
abbrev REF (c : Dev nD) := val_main_v24 (F := Ideal) (m ((c : Thread nD τ).loc main_arg0)) (m ((c : Thread nD τ).loc main_arg1))
  (m ((c : Thread nD τ).loc main_arg2))

/-- What a point stores at an index of its block is the reference's element there. -/
theorem point (c : Dev nD) (t : Fin cfg0.N) (y) : k0_pay1 (F := Ideal) (iblk m c 0 t) (iblk m c 1 t) (iblk m c 3 t) (iblk m c 2 t) y
    = REF m c (((cfg0.win 4).blk t).view.emb y) := by
  pointwise [k0_pay1, val_main_v24, val_main_v23, val_main_v22, val_main_v21, val_main_v20, val_main_v19, val_main_v18, val_main_v17, val_main_cst_2, val_main_v16, val_main_v15, val_main_v14, val_main_v13, val_main_v12, val_main_v11, val_main_v10, val_main_v9, val_main_v8, val_main_v7, val_main_cst_1, val_main_v6, val_main_v5, val_main_cst_0, val_main_v4, val_main_v3, val_main_cst, val_main_v2, val_main_v1, val_main_v0]
  blk_point [iblk, V, idx t]

/-- The result array after the run. -/
theorem final (c : Dev nD) : (dats m 0 c).arrAt 4 (cfgs 0).N = REF m c := by
  refine (dats m 0 c).arrAt_eq_of_covers 4 _ (by decide +kernel) fun t _ y => ?_
  blk_simp
  rw [after0_4]; frame_out
  exact point m c t y

end Cert.Proof.Norm

end
-- ==== Proof.NormClaim.lean ====
/- The conjuncts about the norm and the modulation: the two frames' quiescent forms and the value claim. -/
module

public import proofs.«01_k».proof.Defs
public import Idealize.ShloMosaic.Lib.Claim
public import Idealize.ShloMosaic.Lib.Quiescent
public import proofs.«01_k».proof.Proof.NormValue
public import proofs.«01_k».proof.Proof.Gen.NormReferenceIdeal.Run

@[expose] public section

set_option maxRecDepth 16384

noncomputable section

open Idealize.ShloMosaic Idealize.ShloMosaic.TcCoe Idealize.SL.Sem

namespace Cert.Proof.Norm

/-- Every execution of the reference keeps its arguments and leaves no semaphore raised. -/
theorem frame_ref : Cert.quiescent_NormReferenceIdeal := fun m ρ _ =>
  (θ_run _ _ _).mono (fun r h => ⟨fun c => (h c).2, sem_eq_zero_of_no_sems (by decide) r.2⟩) (Cert.NormReferenceIdeal.Value.run m ρ)

/-- The kernel and the reference end at the same result. -/
theorem algebraic : Cert.algebraic_NormKernelIdeal_NormReferenceIdeal := by
  pair_intro
  · run_from Cert.NormKernelIdeal.Value.run_blocks m g
  · run_from Cert.NormReferenceIdeal.Value.run m' g'
    rw [Cert.Proof.Norm.final m c]
    exact Cert.NormReferenceIdeal.Read.val_main_v24_eq _ _ _

end Cert.Proof.Norm

end
-- ==== Proof.AttMath.lean ====
/- The arithmetic of the attention's softmax with a sink, over the extended reals: the kernel multiplies the weighted sum by
   the reciprocal of the sum of the weights, the reference divides each weight by it. -/
module

public import Idealize.ShloMosaic.Lib.Pipeline.ValueKit
public import Idealize.ShloMosaic.Lib.Claim

@[expose] public section

noncomputable section

open Idealize.ShloMosaic

namespace Cert.Proof.AttMath

/-- Where both maxima start. -/
abbrev NI : EReal := Ideal.ofBits .f32 4286578688#32

theorem NI_eq : NI = ⊥ := by
  simp [NI, Ideal.ofBits, Ideal.ieee, -EReal.coe_mul]

/-- The maximum of the scores and the sink. -/
def mx (s : Fin 256 → EReal) (z : EReal) : EReal := max ((Finset.univ : Finset (Fin 256)).fold max NI s) z
/-- The sum of the weights. -/
def den (s : Fin 256 → EReal) (z : EReal) : EReal := (∑ k, Ideal.exp (s k - mx s z)) + Ideal.exp (z - mx s z)
/-- What the kernel makes of the scores, the sink and the values … -/
def kerO (s : Fin 256 → EReal) (z : EReal) (v : Fin 256 → EReal) : EReal := (∑ k, v k * Ideal.exp (s k - mx s z)) * Ideal.div 1 (den s z)
/-- … and what the reference does. -/
def refO (s : Fin 256 → EReal) (z : EReal) (v : Fin 256 → EReal) : EReal := ∑ k, v k * Ideal.div (Ideal.exp (s k - mx s z)) (den s z)

theorem fold_lt (s : Fin 256 → EReal) (hs : ∀ k, s k ≠ ⊤) : (Finset.univ : Finset (Fin 256)).fold max NI s < ⊤ := by
  rw [Finset.fold_max_lt]
  exact ⟨by rw [NI_eq]; exact bot_lt_top, fun k _ => lt_top_iff_ne_top.2 (hs k)⟩

theorem mx_real (s : Fin 256 → EReal) (z : EReal) (hs : ∀ k, s k ≠ ⊤) (h1 : z ≠ ⊥) (h2 : z ≠ ⊤) : ∃ r : ℝ, mx s z = r := by
  have a : mx s z ≠ ⊤ := ne_of_lt (max_lt (fold_lt s hs) (lt_top_iff_ne_top.2 h2))
  have b : mx s z ≠ ⊥ := ne_of_gt (lt_of_lt_of_le (bot_lt_iff_ne_bot.2 h1) (le_max_right _ _))
  exact ⟨(mx s z).toReal, (EReal.coe_toReal a b).symm⟩

theorem exp_real (x : EReal) (r : ℝ) (hx : x ≠ ⊤) : ∃ p : ℝ, 0 ≤ p ∧ Ideal.exp (x - r) = p := by
  induction x with
  | bot => exact ⟨0, le_refl _, by rw [EReal.bot_sub]; rfl⟩
  | top => exact absurd rfl hx
  | coe y => exact ⟨Real.exp (y - r), (Real.exp_pos _).le, by rw [← EReal.coe_sub]; rfl⟩

theorem exp_bot (x : EReal) : Ideal.exp (⊥ - x) = 0 := by
  rw [EReal.bot_sub]; rfl

theorem sum_real {ι : Type} (t : Finset ι) (f : ι → EReal) (p : ι → ℝ) (h : ∀ i, f i = p i) : ∑ i ∈ t, f i = ((∑ i ∈ t, p i : ℝ) : EReal) := by
  rw [Finset.sum_congr rfl fun i _ => h i]
  induction t using Finset.cons_induction with
  | empty => simp
  | cons a t ha ih => rw [Finset.sum_cons, Finset.sum_cons, ih, EReal.coe_add]

theorem sum_mul_real {ι : Type} (t : Finset ι) (f : ι → EReal) (c : ℝ) (hc : 0 ≤ c) : (∑ i ∈ t, f i) * (c : EReal) = ∑ i ∈ t, f i * c := by
  induction t using Finset.cons_induction with
  | empty => simp
  | cons a t ha ih =>
    rw [Finset.sum_cons, Finset.sum_cons, ← ih]
    exact EReal.right_distrib_of_nonneg_of_ne_top (by exact_mod_cast hc) (EReal.coe_ne_top c) _ _

/-- With scores below `⊤` and a finite sink the two are equal. -/
theorem ker_ref (s : Fin 256 → EReal) (z : EReal) (v : Fin 256 → EReal) (hs : ∀ k, s k ≠ ⊤) (h1 : z ≠ ⊥) (h2 : z ≠ ⊤) : kerO s z v = refO s z v := by
  obtain ⟨r, hr⟩ := mx_real s z hs h1 h2
  have hp : ∀ k, ∃ p : ℝ, 0 ≤ p ∧ Ideal.exp (s k - mx s z) = p := fun k => by rw [hr]; exact exp_real _ _ (hs k)
  choose p hp0 hp1 using hp
  obtain ⟨y, rfl⟩ : ∃ y : ℝ, z = y := ⟨z.toReal, (EReal.coe_toReal h2 h1).symm⟩
  have hd : den s y = ((∑ k, p k + Real.exp (y - r) : ℝ) : EReal) := by
    unfold den
    rw [sum_real _ _ p hp1, hr, ← EReal.coe_sub, EReal.coe_add]; rfl
  have hpos : 0 < (∑ k, p k + Real.exp (y - r) : ℝ) := add_pos_of_nonneg_of_pos (Finset.sum_nonneg fun k _ => hp0 k) (Real.exp_pos _)
  unfold kerO refO
  rw [hd]
  generalize (∑ k, p k + Real.exp (y - r) : ℝ) = D at hpos
  have hD : ((D : ℝ) : EReal) ≠ 0 := by exact_mod_cast hpos.ne'
  have hdiv : ∀ x : EReal, Ideal.div x D = x * ((D⁻¹ : ℝ) : EReal) := fun x => by
    unfold Ideal.div; rw [if_neg hD, EReal.coe_inv]
  rw [hdiv, one_mul, sum_mul_real _ _ _ (inv_nonneg.2 hpos.le)]
  refine Finset.sum_congr rfl fun k _ => ?_
  rw [hdiv, mul_assoc]

/-- Values whose score is `⊥` do not matter. -/
theorem ker_congr (s s' : Fin 256 → EReal) (z z' : EReal) (v v' : Fin 256 → EReal) (hs : ∀ k, s k = s' k) (hz : z = z') (hv : ∀ k, s k = ⊥ ∨ v k = v' k) : kerO s z v = kerO s' z' v' := by
  obtain rfl : s = s' := funext hs
  subst hz
  unfold kerO
  refine congrArg (· * _) (Finset.sum_congr rfl fun k _ => ?_)
  rcases hv k with h | h
  · rw [h, exp_bot, mul_zero, mul_zero]
  · rw [h]

end Cert.Proof.AttMath

end
-- ==== Proof.AttPay.lean ====
/- The attention's kernel on one block of queries and one head of keys, entrywise over the vectors that it has loaded. -/
module

public import proofs.«01_k».proof.Proof.Gen.AttKernelIdeal.Skeleton
public import proofs.«01_k».proof.Proof.AttMath
public import Idealize.ShloMosaic.Lib.Pipeline.ValueKit
public import Idealize.ShloMosaic.Lib.Claim

@[expose] public section
set_option maxRecDepth 16384

noncomputable section

open Idealize.ShloMosaic Idealize.ShloMosaic.TcCoe Idealize.SL.Sem

namespace Cert.Proof.Att

open Cert.AttKernelIdeal Cert.AttKernelIdeal.Gen Cert.Proof.AttMath

/-- The scores of 256 keys, their maximum with a head's sink, and what the softmax makes of them. -/
def gMx (s : FVec Ideal S256x512 .f32) (sk : FVec Ideal S1x512 .f32) : FVec Ideal S1x512 .f32 :=
  maximumf (shapeCast S1x512 (multiReduction .maximumf [0] S512 s 0xFF800000#32 reduces_S256x512_S512 (.inl rfl) rfl) shapeCasts_S512_S1x512) sk
def gPr (s : FVec Ideal S256x512 .f32) (sk : FVec Ideal S1x512 .f32) : FVec Ideal S256x512 .f32 :=
  exp (subf s (broadcastTo S256x512 (gMx s sk) broadcasts_S1x512_S256x512))
def gDen (s : FVec Ideal S256x512 .f32) (sk : FVec Ideal S1x512 .f32) : FVec Ideal S1x512 .f32 :=
  addf (shapeCast S1x512 (multiReduction .add [0] S512 (gPr s sk) 0x00000000#32 reduces_S256x512_S512 (.inl rfl) rfl) shapeCasts_S512_S1x512) (exp (subf sk (gMx s sk)))
def gO (s : FVec Ideal S256x512 .f32) (sk : FVec Ideal S1x512 .f32) (vz : FVec Ideal S256x128 .bf16) : FVec Ideal S128x512 .f32 :=
  mulf (matmul dot_S256x128_S256x512_S128x512_0_0_1_1_n_n none vz (truncf .bf16 (gPr s sk) bitsLt_bf16_f32) (constant S128x512 .f32 0x00000000#32))
    (broadcastTo S128x512 (divf (broadcast S1x512 (Scalar.ofBits .f32 0x3F800000#32)) (gDen s sk)) broadcasts_S1x512_S128x512)

theorem gO_apply (s : FVec Ideal S256x512 .f32) (sk : FVec Ideal S1x512 .f32) (vz : FVec Ideal S256x128 .bf16) (d : Fin 128) (j : Fin 512) :
    gO s sk vz (ix2 d j) = kerO (fun k => s (ix2 k j)) (sk (ix2 0 j)) (fun k => vz (ix2 k d)) := by
  pointwise [gO, gDen, gPr, gMx]
  rfl

/-- The keys (or values) of a block and of the one before it. -/
def gBand (a b : FVec Ideal S1x128x64 .bf16) : FVec Ideal S256x64 .bf16 :=
  concatenate S256x64 0 [⟨S128x64, shapeCast S128x64 a shapeCasts_S1x128x64_S128x64⟩, ⟨S128x64, shapeCast S128x64 b shapeCasts_S1x128x64_S128x64⟩] concatenates_S128x64_S128x64_S256x64_d0
def gKey (a b : FVec Ideal S1x128x64 .bf16) : FVec Ideal S256x64 .bf16 := mulf (gBand a b) (broadcast S256x64 (Scalar.ofBits .bf16 0x3E00#16))
def gZ : FVec Ideal S256x64 .bf16 := broadcast S256x64 (Scalar.ofBits .bf16 0x0000#16)
def gL (a : FVec Ideal S256x64 .bf16) : FVec Ideal S256x128 .bf16 := concatenate S256x128 1 [⟨S256x64, a⟩, ⟨S256x64, gZ⟩] concatenates_S256x64_S256x64_S256x128_d1
def gR (a : FVec Ideal S256x64 .bf16) : FVec Ideal S256x128 .bf16 := concatenate S256x128 1 [⟨S256x64, gZ⟩, ⟨S256x64, a⟩] concatenates_S256x64_S256x64_S256x128_d1
def gQ (q0 q1 q2 q3 : FVec Ideal S1x128x128 .bf16) : FVec Ideal S512x128 .bf16 :=
  concatenate S512x128 0 [⟨S128x128, shapeCast S128x128 q0 shapeCasts_S1x128x128_S128x128⟩, ⟨S128x128, shapeCast S128x128 q1 shapeCasts_S1x128x128_S128x128⟩, ⟨S128x128, shapeCast S128x128 q2 shapeCasts_S1x128x128_S128x128⟩, ⟨S128x128, shapeCast S128x128 q3 shapeCasts_S1x128x128_S128x128⟩] concatenates_S128x128_S128x128_S128x128_S128x128_S512x128_d0
def gS (kz : FVec Ideal S256x128 .bf16) (q : FVec Ideal S512x128 .bf16) (bi : FVec Ideal S1x256x512 .f32) : FVec Ideal S256x512 .f32 :=
  addf (matmul dot_S256x128_S512x128_S256x512_1_1_0_0_n_n none kz q (constant S256x512 .f32 0x00000000#32)) (shapeCast S256x512 bi shapeCasts_S1x256x512_S256x512)
/-- … of which a first block of queries masks the keys before it. -/
def gM (a1 : BitVec 32) (s : FVec Ideal S256x512 .f32) : FVec Ideal S256x512 .f32 :=
  concatenate S256x512 0 [⟨S128x512, Scalar.select (Scalar.cmpi .eq a1 0#32) (broadcast S128x512 (Named.named κ "mask" 0xF149F2CA#32)) (extractStridedSlice S128x512 ![0, 0] s slices_S256x512_o0_0_S128x512)⟩, ⟨S128x512, extractStridedSlice S128x512 ![128, 0] s slices_S256x512_o128_0_S128x512⟩] concatenates_S128x512_S128x512_S256x512_d0
def gK (v0 v1 v2 v3 : EReal) : FVec Ideal S1x512 .f32 :=
  concatenate S1x512 1 [⟨S1x128, (broadcast S1x128 v0 : FVec Ideal S1x128 .f32)⟩, ⟨S1x128, (broadcast S1x128 v1 : FVec Ideal S1x128 .f32)⟩, ⟨S1x128, (broadcast S1x128 v2 : FVec Ideal S1x128 .f32)⟩, ⟨S1x128, (broadcast S1x128 v3 : FVec Ideal S1x128 .f32)⟩] concatenates_S1x128_S1x128_S1x128_S1x128_S1x512_d1

/-- One of four. -/
def sel4 {α : Type} (p : Fin 4) (a b c d : α) : α := match p with | 0 => a | 1 => b | 2 => c | 3 => d

theorem gQ_apply (q0 q1 q2 q3 : FVec Ideal S1x128x128 .bf16) (p : Fin 4) (r x : Fin 128) :
    gQ q0 q1 q2 q3 (ix2 (⟨p.val * 128 + r.val, by omega⟩ : Fin 512) x) = sel4 p q0 q1 q2 q3 (ix3 0 r x) := by
  pointwise [gQ]
  have hr := r.isLt
  match p with
  | 0 => rw [dif_pos (by show 0 * 128 + r.val < 128; omega)]; exact congrArg q0 (by idx_ext)
  | 1 => rw [dif_neg (by show ¬ 1 * 128 + r.val < 128; omega), dif_pos (by show 1 * 128 + r.val - 128 < 128; omega)]; exact congrArg q1 (by idx_ext)
  | 2 => rw [dif_neg (by show ¬ 2 * 128 + r.val < 128; omega), dif_neg (by show ¬ 2 * 128 + r.val - 128 < 128; omega), dif_pos (by show 2 * 128 + r.val - 128 - 128 < 128; omega)]; exact congrArg q2 (by idx_ext)
  | 3 => rw [dif_neg (by show ¬ 3 * 128 + r.val < 128; omega), dif_neg (by show ¬ 3 * 128 + r.val - 128 < 128; omega), dif_neg (by show ¬ 3 * 128 + r.val - 128 - 128 < 128; omega)]; exact congrArg q3 (by idx_ext)

theorem gK_apply (v0 v1 v2 v3 : EReal) (p : Fin 4) (r : Fin 128) :
    gK v0 v1 v2 v3 (ix2 0 (⟨p.val * 128 + r.val, by omega⟩ : Fin 512)) = sel4 p v0 v1 v2 v3 := by
  pointwise [gK]
  have hr := r.isLt
  match p with
  | 0 => rw [dif_pos (by show 0 * 128 + r.val < 128; omega)]; rfl
  | 1 => rw [dif_neg (by show ¬ 1 * 128 + r.val < 128; omega), dif_pos (by show 1 * 128 + r.val - 128 < 128; omega)]; rfl
  | 2 => rw [dif_neg (by show ¬ 2 * 128 + r.val < 128; omega), dif_neg (by show ¬ 2 * 128 + r.val - 128 < 128; omega), dif_pos (by show 2 * 128 + r.val - 128 - 128 < 128; omega)]; rfl
  | 3 => rw [dif_neg (by show ¬ 3 * 128 + r.val < 128; omega), dif_neg (by show ¬ 3 * 128 + r.val - 128 < 128; omega), dif_neg (by show ¬ 3 * 128 + r.val - 128 - 128 < 128; omega)]; rfl

/-- Two blocks of 128 rows as one of 256. -/
def bnd (a b : FVec Ideal S1x128x64 .bf16) (k : Fin 256) (d : Fin 64) : EReal :=
  if h : k.val < 128 then a (ix3 0 ⟨k.val, h⟩ d) else b (ix3 0 ⟨k.val - 128, by omega⟩ d)

theorem gBand_apply (a b : FVec Ideal S1x128x64 .bf16) (k : Fin 256) (d : Fin 64) : gBand a b (ix2 k d) = bnd a b k d := by
  unfold bnd
  pointwise [gBand]

/-- A key's score, without the mask. -/
def raw (K : Fin 256 → Fin 64 → EReal) (q : Fin 64 → EReal) (b : Fin 256 → EReal) (k : Fin 256) : EReal := (∑ x : Fin 64, K k x * Ideal.ofBits .bf16 15872#16 * q x) + b k

theorem gSL_apply (a b : FVec Ideal S1x128x64 .bf16) (Q : FVec Ideal S512x128 .bf16) (bi : FVec Ideal S1x256x512 .f32) (k : Fin 256) (j : Fin 512) :
    gS (gL (gKey a b)) Q bi (ix2 k j) = raw (bnd a b) (fun x => Q (ix2 j ⟨x.val, by omega⟩)) (fun k => bi (ix3 0 k j)) k := by
  unfold raw
  pointwise [gS, gL, gZ, gKey, gBand_apply]
  simp only [zero_mul, Finset.sum_const_zero, add_zero]
theorem gSR_apply (a b : FVec Ideal S1x128x64 .bf16) (Q : FVec Ideal S512x128 .bf16) (bi : FVec Ideal S1x256x512 .f32) (k : Fin 256) (j : Fin 512) :
    gS (gR (gKey a b)) Q bi (ix2 k j) = raw (bnd a b) (fun x => Q (ix2 j ⟨64 + x.val, by omega⟩)) (fun k => bi (ix3 0 k j)) k := by
  unfold raw
  pointwise [gS, gR, gZ, gKey, gBand_apply]
  simp only [zero_mul, Finset.sum_const_zero, zero_add]

/-- What a first block of queries makes of a score. -/
def msk (a1 : BitVec 32) (s : Fin 256 → EReal) (k : Fin 256) : EReal :=
  if k.val < 128 then Scalar.select (Scalar.cmpi .eq a1 0#32) (show EReal from (Named.named κ "mask" 0xF149F2CA#32 : Ideal .f32)) (s k) else s k

theorem gM_apply (a1 : BitVec 32) (s : FVec Ideal S256x512 .f32) (k : Fin 256) (j : Fin 512) :
    gM a1 s (ix2 k j) = msk a1 (fun k => s (ix2 k j)) k := by
  unfold msk
  pointwise [gM]
  by_cases h : k.val < 128
  · rw [dif_pos h, if_pos h]
  · rw [dif_neg h, if_neg h]; exact congrArg s (by idx_ext)

theorem gL_apply (a : FVec Ideal S256x64 .bf16) (k : Fin 256) (l : Fin 128) : gL a (ix2 k l) = if h : l.val < 64 then a (ix2 k ⟨l.val, h⟩) else 0 := by
  pointwise [gL, gZ]
theorem gR_apply (a : FVec Ideal S256x64 .bf16) (k : Fin 256) (l : Fin 128) : gR a (ix2 k l) = if h : l.val < 64 then 0 else a (ix2 k ⟨l.val - 64, by omega⟩) := by
  pointwise [gR, gZ]

/-- One pair of heads' piece of the result. -/
def gOut (off : ℕ) (h : S128x512.Slices ![0, off] S128x128) (o : FVec Ideal S128x512 .f32) : FVec Ideal S1x128x128 .bf16 :=
  shapeCast S1x128x128 (truncf .bf16 (transpose S128x128 [1, 0] (extractStridedSlice S128x128 ![0, off] o h) transposes_S128x128_p1_0_S128x128) bitsLt_bf16_f32) shapeCasts_S128x128_S1x128x128

theorem gOut_apply (off : ℕ) (h : S128x512.Slices ![0, off] S128x128) (o : FVec Ideal S128x512 .f32) (hb : off + 128 ≤ 512) (r l : Fin 128) :
    gOut off h o (ix3 0 r l) = o (ix2 l ⟨off + r.val, by omega⟩) := by
  pointwise [gOut]

theorem kerO_zero (s : Fin 256 → EReal) (z : EReal) : kerO s z (fun _ => 0) = 0 := by
  unfold kerO; simp only [zero_mul, Finset.sum_const_zero]

/-- Both heads of a pair: the even one in lanes 0 to 63, the odd one in lanes 64 to 127. -/
def gE (sE sO : FVec Ideal S256x512 .f32) (kE kO : FVec Ideal S1x512 .f32) (vl vh : FVec Ideal S1x128x64 .bf16) : FVec Ideal S128x512 .f32 :=
  addf (gO sE kE (gL (gBand vl vh))) (gO sO kO (gR (gBand vl vh)))

theorem gE_apply (sE sO : FVec Ideal S256x512 .f32) (kE kO : FVec Ideal S1x512 .f32) (vl vh : FVec Ideal S1x128x64 .bf16) (l : Fin 128) (j : Fin 512) :
    gE sE sO kE kO vl vh (ix2 l j) = if h : l.val < 64 then kerO (fun k => sE (ix2 k j)) (kE (ix2 0 j)) (fun k => bnd vl vh k ⟨l.val, h⟩)
      else kerO (fun k => sO (ix2 k j)) (kO (ix2 0 j)) (fun k => bnd vl vh k ⟨l.val - 64, by omega⟩) := by
  unfold gE
  refine (congrArg₂ (· + ·) (gO_apply _ _ _ _ _) (gO_apply _ _ _ _ _)).trans ?_
  simp only [gL_apply, gR_apply, gBand_apply]
  by_cases h : l.val < 64
  · simp only [dif_pos h, kerO_zero, add_zero]
  · simp only [dif_neg h, kerO_zero, zero_add]

section
variable (a1 : BitVec 32) (kl kh vl vh : FVec Ideal S1x128x64 .bf16) (q0 q1 q2 q3 : FVec Ideal S1x128x128 .bf16) (b0 b1 : FVec Ideal S1x256x512 .f32) (s0 s1 s2 s3 t0 t1 t2 t3 : EReal)

/-- A masked piece, and one that is not. -/
def gA (off : ℕ) (h : S128x512.Slices ![0, off] S128x128) : FVec Ideal S1x128x128 .bf16 :=
  gOut off h (gE (gM a1 (gS (gL (gKey kl kh)) (gQ q0 q1 q2 q3) b0)) (gM a1 (gS (gR (gKey kl kh)) (gQ q0 q1 q2 q3) b1)) (gK s0 s1 s2 s3) (gK t0 t1 t2 t3) vl vh)
def gB (off : ℕ) (h : S128x512.Slices ![0, off] S128x128) : FVec Ideal S1x128x128 .bf16 :=
  gOut off h (gE (gS (gL (gKey kl kh)) (gQ q0 q1 q2 q3) b0) (gS (gR (gKey kl kh)) (gQ q0 q1 q2 q3) b1) (gK s0 s1 s2 s3) (gK t0 t1 t2 t3) vl vh)

theorem gA_apply (p : Fin 4) (h : S128x512.Slices ![0, p.val * 128] S128x128) (r l : Fin 128) :
    gA a1 kl kh vl vh q0 q1 q2 q3 b0 b1 s0 s1 s2 s3 t0 t1 t2 t3 (p.val * 128) h (ix3 0 r l) =
      if hl : l.val < 64 then kerO (msk a1 (raw (bnd kl kh) (fun x => sel4 p q0 q1 q2 q3 (ix3 0 r ⟨x.val, by omega⟩)) (fun k => b0 (ix3 0 k ⟨p.val * 128 + r.val, by omega⟩)))) (sel4 p s0 s1 s2 s3) (fun k => bnd vl vh k ⟨l.val, hl⟩)
      else kerO (msk a1 (raw (bnd kl kh) (fun x => sel4 p q0 q1 q2 q3 (ix3 0 r ⟨64 + x.val, by omega⟩)) (fun k => b1 (ix3 0 k ⟨p.val * 128 + r.val, by omega⟩)))) (sel4 p t0 t1 t2 t3) (fun k => bnd vl vh k ⟨l.val - 64, by omega⟩) := by
  unfold gA
  refine (gOut_apply _ _ _ (by omega) r l).trans ((gE_apply _ _ _ _ _ _ _ _).trans ?_)
  simp only [gM_apply, gSL_apply, gSR_apply, gQ_apply, gK_apply]
theorem gB_apply (p : Fin 4) (h : S128x512.Slices ![0, p.val * 128] S128x128) (r l : Fin 128) :
    gB kl kh vl vh q0 q1 q2 q3 b0 b1 s0 s1 s2 s3 t0 t1 t2 t3 (p.val * 128) h (ix3 0 r l) =
      if hl : l.val < 64 then kerO (raw (bnd kl kh) (fun x => sel4 p q0 q1 q2 q3 (ix3 0 r ⟨x.val, by omega⟩)) (fun k => b0 (ix3 0 k ⟨p.val * 128 + r.val, by omega⟩))) (sel4 p s0 s1 s2 s3) (fun k => bnd vl vh k ⟨l.val, hl⟩)
      else kerO (raw (bnd kl kh) (fun x => sel4 p q0 q1 q2 q3 (ix3 0 r ⟨64 + x.val, by omega⟩)) (fun k => b1 (ix3 0 k ⟨p.val * 128 + r.val, by omega⟩))) (sel4 p t0 t1 t2 t3) (fun k => bnd vl vh k ⟨l.val - 64, by omega⟩) := by
  unfold gB
  refine (gOut_apply _ _ _ (by omega) r l).trans ((gE_apply _ _ _ _ _ _ _ _).trans ?_)
  simp only [gSL_apply, gSR_apply, gQ_apply, gK_apply]
end

end Cert.Proof.Att

end
-- ==== Proof.AttRef.lean ====
/- The attention's reference, entrywise. -/
module

public import proofs.«01_k».proof.Proof.Gen.AttReferenceIdeal.Run
public import proofs.«01_k».proof.Proof.Gen.AttReferenceIdeal.Read
public import Idealize.ShloMosaic.Lib.Pipeline.ValueKit
public import Idealize.ShloMosaic.Lib.Claim

@[expose] public section
set_option maxRecDepth 16384

noncomputable section

open Idealize.ShloMosaic Idealize.ShloMosaic.TcCoe Idealize.SL.Sem

namespace Cert.Proof.AttRef

open Cert.AttReferenceIdeal Cert.AttReferenceIdeal.Read

variable (x0 : (⟨S4x4096x23040, .bf16⟩ : BufTy).Contents (Elt Ideal)) (x1 : (⟨S1x32, .f32⟩ : BufTy).Contents (Elt Ideal))

/-- The values of a block of 128 keys and of the block before it, zeros where there is none. -/
def bandA (o : ℕ) (ho : o + 256 ≤ 23040) (b : Fin 4) (n : Fin 32) (k : Fin 256) (h : Fin 4) (d : Fin 64) : EReal :=
  if h1 : k.val < 128 then (if h2 : (1 ≤ n.val ∧ n.val - 1 < 32) ∧ k.val < 128 then x0 (ix3 b ⟨(n.val - 1) * 128 + k.val, by omega⟩ ⟨o + (h.val * 64 + d.val), by omega⟩) else FloatOps.sitofp (F := Ideal) .f32 0#32)
  else x0 (ix3 b ⟨n.val * 128 + (k.val - 128), by omega⟩ ⟨o + (h.val * 64 + d.val), by omega⟩)

theorem v9_apply (b : Fin 4) (n : Fin 32) (k : Fin 256) (h : Fin 4) (d : Fin 64) : val_main_v9 (F := Ideal) x0 (ix5 b n k h d) = bandA x0 2048 (by omega) b n k h d := by
  unfold bandA
  pointwise [val_main_v0, val_main_v1, val_main_v2, val_main_v3, val_main_v4, val_main_v5, val_main_v6, val_main_c, val_main_call0_v0, val_main_v7, val_main_v8, val_main_v9, val_main_v10, val_main_c_0, val_main_call1_v0, val_main_v11, val_main_v12, val_main_v13]
theorem v13_apply (b : Fin 4) (n : Fin 32) (k : Fin 256) (h : Fin 4) (d : Fin 64) : val_main_v13 (F := Ideal) x0 (ix5 b n k h d) = bandA x0 2304 (by omega) b n k h d := by
  unfold bandA
  pointwise [val_main_v0, val_main_v1, val_main_v2, val_main_v3, val_main_v4, val_main_v5, val_main_v6, val_main_c, val_main_call0_v0, val_main_v7, val_main_v8, val_main_v9, val_main_v10, val_main_c_0, val_main_call1_v0, val_main_v11, val_main_v12, val_main_v13]
theorem v5_apply (b : Fin 4) (n : Fin 32) (q : Fin 128) (h : Fin 4) (g : Fin 8) (d : Fin 64) : val_main_v5 (F := Ideal) x0 (ix6 b n q h g d)
    = x0 (ix3 b ⟨n.val * 128 + q.val, by omega⟩ ⟨h.val * 512 + g.val * 64 + d.val, by omega⟩) := by
  pointwise [val_main_v0, val_main_v1, val_main_v2, val_main_v3, val_main_v4, val_main_v5]
theorem v17_apply (b : Fin 4) (n : Fin 32) (h : Fin 4) (g : Fin 8) (q : Fin 128) (k : Fin 256) : val_main_v17 (F := Ideal) x0 (ix6 b n h g q k)
    = (∑ d : Fin 64, bandA x0 2048 (by omega) b n k h d * x0 (ix3 b ⟨n.val * 128 + q.val, by omega⟩ ⟨h.val * 512 + g.val * 64 + d.val, by omega⟩)) * Ideal.ofBits .f32 1040187392#32 := by
  pointwise [val_main_v14, val_main_v15, val_main_cst, val_main_v16, val_main_v17]
  refine congrArg (· * _) (Finset.sum_congr rfl fun d _ => ?_)
  rw [v9_apply, v5_apply]

/-- A head's slope. -/
def slopeA (e : ℕ) : EReal := Ideal.exp (Ideal.ofBits .f32 1060205080#32 * Ideal.div (Ideal.ofBits .f32 3238002688#32 * (1 + FloatOps.sitofp (F := Ideal) .f32 (BitVec.ofNat 32 e))) (Ideal.ofBits .f32 1107296256#32))
/-- A query's distance from a key, as a word. -/
def dW (q k : ℕ) : BitVec 32 := IntOp.subi (IntOp.addi (BitVec.ofNat 32 q) 128#32) (BitVec.ofNat 32 k)
/-- Whether that distance is one that the window holds. -/
def okW (q k : ℕ) : BitVec 1 := IntOp.andi (IntOp.cmpi .sge (dW q k) 0#32) (IntOp.cmpi .slt (dW q k) 128#32)
/-- Whether there is such a key. -/
def inW (n k : ℕ) : BitVec 1 := IntOp.cmpi .sge (IntOp.addi (IntOp.subi (IntOp.muli (BitVec.ofNat 32 n) 128#32) 128#32) (BitVec.ofNat 32 k)) 0#32

theorem v69_apply (b : Fin 4) (n : Fin 32) (h : Fin 4) (g : Fin 8) (q : Fin 128) (k : Fin 256) : val_main_v69 (F := Ideal) x0 (ix6 b n h g q k)
    = Scalar.select (IntOp.andi (okW q.val k.val) (inW n.val k.val))
      (val_main_v17 (F := Ideal) x0 (ix6 b n h g q k) - slopeA (h.val * 8 + g.val) * FloatOps.sitofp (F := Ideal) .f32 (dW q.val k.val)) (Ideal.ofBits .f32 4286578688#32) := by
  unfold slopeA okW inW dW
  pointwise [val_main_v18, val_main_v19, val_main_v20, val_main_v21, val_main_c_1, val_main_v22, val_main_v23, val_main_v24, val_main_v25, val_main_v26, val_main_v27, val_main_v28, val_main_c_2, val_main_v29, val_main_v30, val_main_c_3, val_main_v31, val_main_v32, val_main_v33, val_main_v34, val_main_v35, val_main_v36, val_main_c_4, val_main_v37, val_main_v38, val_main_c_5, val_main_v39, val_main_v40, val_main_v41, val_main_c_6, val_main_v42, val_main_v43, val_main_v44, val_main_v45, val_main_v46, val_main_v47, val_main_v48, val_main_cst_7, val_main_v49, val_main_v50, val_main_cst_8, val_main_v51, val_main_v52, val_main_cst_9, val_main_v53, val_main_v54, val_main_cst_10, val_main_v55, val_main_v56, val_main_v57, val_main_v58, val_main_v59, val_main_v60, val_main_v61, val_main_v62, val_main_v63, val_main_v64, val_main_v65, val_main_v66, val_main_v67, val_main_v68, val_main_cst_11, val_main_call2_v0, val_main_call2_v1, val_main_call2_v2, val_main_v69]
  rfl

theorem v72_apply (b : Fin 4) (n : Fin 32) (h : Fin 4) (g : Fin 8) (q : Fin 128) : val_main_v72 (F := Ideal) x0 (ix5 b n h g q)
    = (Finset.univ : Finset (Fin 256)).fold max (Ideal.ofBits .f32 4286578688#32) (fun k => val_main_v69 (F := Ideal) x0 (ix6 b n h g q k)) := by
  unfold val_main_v72
  have hr : S4x32x4x8x128x256.Reduces [5] S4x32x4x8x128 := by decide
  refine (Host.reduce_eq_fold_single _ _ _ _ hr _ _).trans ?_
  refine congrArg (fun f => Finset.fold max _ f _) (funext fun k => ?_)
  exact congrArg (val_main_v69 (F := Ideal) x0) (funext fun a => Fin.ext (by match a with | ⟨0, _⟩ => rfl | ⟨1, _⟩ => rfl | ⟨2, _⟩ => rfl | ⟨3, _⟩ => rfl | ⟨4, _⟩ => rfl | ⟨5, _⟩ => rfl))

/-- A row's maximum, with the head's sink. -/
def mxA (b : Fin 4) (n : Fin 32) (h : Fin 4) (g : Fin 8) (q : Fin 128) : EReal := max ((Finset.univ : Finset (Fin 256)).fold max (Ideal.ofBits .f32 4286578688#32) (fun k => val_main_v69 (F := Ideal) x0 (ix6 b n h g q k))) (x1 (ix2 0 ⟨h.val * 8 + g.val, by omega⟩))

theorem v71_apply (h : Fin 4) (g : Fin 8) : val_main_v71 (F := Ideal) x1 (ix4 h g 0 0) = x1 (ix2 0 ⟨h.val * 8 + g.val, by omega⟩) := by
  pointwise [val_main_v71, val_main_v70, val_main_v4]

theorem v73_apply (b : Fin 4) (n : Fin 32) (h : Fin 4) (g : Fin 8) (q : Fin 128) : val_main_v73 (F := Ideal) x0 (ix6 b n h g q 0) = val_main_v72 (F := Ideal) x0 (ix5 b n h g q) := by
  rw [val_main_v73_apply]
  exact congrArg (val_main_v72 (F := Ideal) x0) (funext fun a => Fin.ext (by match a with | ⟨0, _⟩ => rfl | ⟨1, _⟩ => rfl | ⟨2, _⟩ => rfl | ⟨3, _⟩ => rfl | ⟨4, _⟩ => rfl))
theorem v75_apply (b : Fin 4) (n : Fin 32) (h : Fin 4) (g : Fin 8) (q : Fin 128) : val_main_v75 (F := Ideal) x1 (ix6 b n h g q 0) = x1 (ix2 0 ⟨h.val * 8 + g.val, by omega⟩) := by
  rw [val_main_v75_apply, val_main_v74_apply]
  refine Eq.trans ?_ (v71_apply x1 h g)
  exact congrArg (val_main_v71 (F := Ideal) x1) (funext fun a => Fin.ext (by match a with | ⟨0, _⟩ => rfl | ⟨1, _⟩ => rfl | ⟨2, _⟩ => rfl | ⟨3, _⟩ => rfl))
theorem v83_apply (b : Fin 4) (n : Fin 32) (h : Fin 4) (g : Fin 8) (q : Fin 128) : val_main_v83 (F := Ideal) x1 (ix6 b n h g q 0) = x1 (ix2 0 ⟨h.val * 8 + g.val, by omega⟩) := by
  rw [val_main_v83_apply, val_main_v82_apply]
  refine Eq.trans ?_ (v71_apply x1 h g)
  exact congrArg (val_main_v71 (F := Ideal) x1) (funext fun a => Fin.ext (by match a with | ⟨0, _⟩ => rfl | ⟨1, _⟩ => rfl | ⟨2, _⟩ => rfl | ⟨3, _⟩ => rfl))

theorem v76_apply (b : Fin 4) (n : Fin 32) (h : Fin 4) (g : Fin 8) (q : Fin 128) : val_main_v76 (F := Ideal) x0 x1 (ix6 b n h g q 0) = mxA x0 x1 b n h g q := by
  rw [val_main_v76_apply, v73_apply, v75_apply, v72_apply]
  rfl

theorem v79_apply (b : Fin 4) (n : Fin 32) (h : Fin 4) (g : Fin 8) (q : Fin 128) (k : Fin 256) : val_main_v79 (F := Ideal) x0 x1 (ix6 b n h g q k) = Ideal.exp (val_main_v69 (F := Ideal) x0 (ix6 b n h g q k) - mxA x0 x1 b n h g q) := by
  pointwise [val_main_v77, val_main_v78, val_main_v79]
  rw [v76_apply]

theorem v80_apply (b : Fin 4) (n : Fin 32) (h : Fin 4) (g : Fin 8) (q : Fin 128) : val_main_v80 (F := Ideal) x0 x1 (ix5 b n h g q) = ∑ k : Fin 256, Ideal.exp (val_main_v69 (F := Ideal) x0 (ix6 b n h g q k) - mxA x0 x1 b n h g q) := by
  rw [val_main_v80_apply]
  have hz : (val_main_cst_13 (F := Ideal)) (Shape.Idx.first Gen.h_S_) = 0 := by pointwise [val_main_cst_13]
  refine (congrArg (· + _) hz).trans ((zero_add _).trans (Finset.sum_congr rfl fun k _ => ?_))
  rw [← v79_apply]
  exact congrArg (val_main_v79 (F := Ideal) x0 x1) (funext fun a => Fin.ext (by match a with | ⟨0, _⟩ => rfl | ⟨1, _⟩ => rfl | ⟨2, _⟩ => rfl | ⟨3, _⟩ => rfl | ⟨4, _⟩ => rfl | ⟨5, _⟩ => rfl))

theorem v86_apply (b : Fin 4) (n : Fin 32) (h : Fin 4) (g : Fin 8) (q : Fin 128) : val_main_v86 (F := Ideal) x0 x1 (ix6 b n h g q 0)
    = (∑ k : Fin 256, Ideal.exp (val_main_v69 (F := Ideal) x0 (ix6 b n h g q k) - mxA x0 x1 b n h g q)) + Ideal.exp (x1 (ix2 0 ⟨h.val * 8 + g.val, by omega⟩) - mxA x0 x1 b n h g q) := by
  pointwise [val_main_v86, val_main_v85, val_main_v84, val_main_v81]
  rw [v80_apply, v76_apply, v83_apply]

theorem v88_apply (b : Fin 4) (n : Fin 32) (h : Fin 4) (g : Fin 8) (q : Fin 128) (k : Fin 256) : val_main_v88 (F := Ideal) x0 x1 (ix6 b n h g q k)
    = Ideal.div (Ideal.exp (val_main_v69 (F := Ideal) x0 (ix6 b n h g q k) - mxA x0 x1 b n h g q))
      ((∑ k : Fin 256, Ideal.exp (val_main_v69 (F := Ideal) x0 (ix6 b n h g q k) - mxA x0 x1 b n h g q)) + Ideal.exp (x1 (ix2 0 ⟨h.val * 8 + g.val, by omega⟩) - mxA x0 x1 b n h g q)) := by
  pointwise [val_main_v88, val_main_v87]
  rw [v79_apply, v86_apply]

theorem v89_apply (b : Fin 4) (n : Fin 32) (h : Fin 4) (g : Fin 8) (q : Fin 128) (d : Fin 64) : val_main_v89 (F := Ideal) x0 x1 (ix6 b n h d g q)
    = ∑ k : Fin 256, bandA x0 2304 (by omega) b n k h d * Ideal.div (Ideal.exp (val_main_v69 (F := Ideal) x0 (ix6 b n h g q k) - mxA x0 x1 b n h g q))
      ((∑ k : Fin 256, Ideal.exp (val_main_v69 (F := Ideal) x0 (ix6 b n h g q k) - mxA x0 x1 b n h g q)) + Ideal.exp (x1 (ix2 0 ⟨h.val * 8 + g.val, by omega⟩) - mxA x0 x1 b n h g q)) := by
  pointwise [val_main_v89]
  refine Finset.sum_congr rfl fun k _ => ?_
  rw [v13_apply, v88_apply]

theorem v92_apply (b : Fin 4) (r : Fin 4096) (l : Fin 2048) : val_main_v92 (F := Ideal) x0 x1 (ix3 b r l)
    = val_main_v89 (F := Ideal) x0 x1 (ix6 b ⟨r.val / 128, by omega⟩ ⟨l.val / 512, by omega⟩ ⟨l.val % 64, by omega⟩ ⟨l.val / 64 % 8, by omega⟩ ⟨r.val % 128, by omega⟩) := by
  pointwise [val_main_v90, val_main_v91, val_main_v92]

end Cert.Proof.AttRef

end
-- ==== Proof.AttRead.lean ====
/- The blocks that the attention's kernel reads at a grid point, entrywise. Point `t` works on batch entry `t / 16` and on
   the 256 queries from `t % 16 * 256` on. -/
module

public import proofs.«01_k».proof.Proof.Gen.AttKernelIdeal.Value
public import proofs.«01_k».proof.Proof.AttRef
public import Idealize.ShloMosaic.Lib.Pipeline.ValueKit
public import Idealize.ShloMosaic.Lib.Claim

@[expose] public section
set_option maxRecDepth 16384

noncomputable section

open Idealize.ShloMosaic Idealize.ShloMosaic.TcCoe Idealize.SL.Sem
open Idealize.ShloMosaic.Pipeline (Dat)

namespace Cert.Proof.Att

open Cert.AttKernelIdeal Cert.AttKernelIdeal.Gen
open Cert.Proof.AttRef (slopeA dW okW inW)

variable (m : (ℓ : Loc nD τ sig) → Buf (Elt Ideal) ℓ)

/-- Which block each window holds at a grid point. -/
theorem idx : ∀ t : Fin cfg0.N, win0_0.index t = ![0] ∧ win0_1.index t = ![t.val / 16, t.val % 16, 0]
    ∧ win0_2.index t = ![t.val / 16, t.val % 16, 8] ∧ win0_3.index t = ![t.val / 16, 2 * (t.val % 16) - 1, 8]
    ∧ win0_4.index t = ![t.val / 16, t.val % 16, 9] ∧ win0_5.index t = ![t.val / 16, 2 * (t.val % 16) - 1, 9]
    ∧ win0_6.index t = ![0, 0, 0] ∧ win0_7.index t = ![t.val / 16, t.val % 16, 0] :=
  (by decide +kernel : ∀ t : Fin grid0.N, _)

theorem lt64 (t : Fin cfg0.N) : t.val < 64 := t.isLt

/-- The argument arrays. -/
abbrev XA (c : Dev nD) : FVec Ideal S4x4096x23040 .bf16 := m ((c : Thread nD τ).loc main_arg0)
abbrev XS (c : Dev nD) : FVec Ideal S1x32 .f32 := m ((c : Thread nD τ).loc main_arg1)

theorem read1 (c : Dev nD) (t : Fin cfg0.N) (r : Fin 256) (l : Fin 2048) :
    X0_1 m c t (ix3 0 r l) = XA m c (ix3 (⟨t.val / 16, by have := lt64 t; omega⟩ : Fin 4) (⟨t.val % 16 * 256 + r.val, by omega⟩ : Fin 4096) (⟨l.val, by omega⟩ : Fin 23040)) := by
  unfold X0_1 Pipeline.Window.fill
  rw [dif_pos (moved0_1 t _)]
  blk_point [iblk, V, idx t]
theorem read2 (c : Dev nD) (t : Fin cfg0.N) (r : Fin 256) (l : Fin 256) :
    iblk m c 2 t (ix3 0 r l) = XA m c (ix3 (⟨t.val / 16, by have := lt64 t; omega⟩ : Fin 4) (⟨t.val % 16 * 256 + r.val, by omega⟩ : Fin 4096) (⟨2048 + l.val, by omega⟩ : Fin 23040)) := by
  blk_point [iblk, V, idx t]
theorem read3 (c : Dev nD) (t : Fin cfg0.N) (r : Fin 128) (l : Fin 256) :
    iblk m c 3 t (ix3 0 r l) = XA m c (ix3 (⟨t.val / 16, by have := lt64 t; omega⟩ : Fin 4) (⟨(2 * (t.val % 16) - 1) * 128 + r.val, by omega⟩ : Fin 4096) (⟨2048 + l.val, by omega⟩ : Fin 23040)) := by
  blk_point [iblk, V, idx t]
theorem read4 (c : Dev nD) (t : Fin cfg0.N) (r : Fin 256) (l : Fin 256) :
    iblk m c 4 t (ix3 0 r l) = XA m c (ix3 (⟨t.val / 16, by have := lt64 t; omega⟩ : Fin 4) (⟨t.val % 16 * 256 + r.val, by omega⟩ : Fin 4096) (⟨2304 + l.val, by omega⟩ : Fin 23040)) := by
  blk_point [iblk, V, idx t]
theorem read5 (c : Dev nD) (t : Fin cfg0.N) (r : Fin 128) (l : Fin 256) :
    iblk m c 5 t (ix3 0 r l) = XA m c (ix3 (⟨t.val / 16, by have := lt64 t; omega⟩ : Fin 4) (⟨(2 * (t.val % 16) - 1) * 128 + r.val, by omega⟩ : Fin 4096) (⟨2304 + l.val, by omega⟩ : Fin 23040)) := by
  blk_point [iblk, V, idx t]

/-- The sinks: the reshape of the second argument. -/
theorem V0_apply (c : Dev nD) (e : Fin 32) : V m c (Pipeline.arrRef spec0 0) (ix1 e) = XS m c (ix2 0 e) := by
  unfold V
  simp only [hostOps0, hostOps0_1, hostOps0_2, List.flatten_cons, List.flatten_nil, List.cons_append, List.nil_append, List.append_nil, StableHlo.after_cons, StableHlo.after_nil]
  after_results_simp
  pointwise []
theorem read0 (c : Dev nD) (t : Fin cfg0.N) (e : Fin 32) : iblk m c 0 t (ix1 e) = XS m c (ix2 0 e) := by
  refine Eq.trans ?_ (V0_apply m c e)
  blk_point [iblk, idx t]

/-- The biases that the host has made: minus the slope times the distance, inside the window. -/
def biasA (e : ℕ) (q k : ℕ) : EReal := Scalar.select (okW q k) (-(slopeA e) * FloatOps.sitofp (F := Ideal) .f32 (dW q k)) (Ideal.ofBits .f32 4286578688#32)

/-- … as the host makes them. -/
def DI : IVec S128x256 32 :=
  subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32))))
    (broadcastInDim S128x256 ![0, 1] bcast_S1x256_S128x256_0_1 (broadcastInDim S1x256 ![1] bcast_S256_S1x256_1 (iotaInDim S256 32 0)))
def BW (w : FVec Ideal S4x4x2 .f32) : FVec Ideal S4x4x2x128x256 .f32 :=
  select (broadcastInDim S4x4x2x128x256 ![3, 4] bcast_S128x256_S4x4x2x128x256_3_4 (andi (cmpi .sge DI (broadcastInDim S128x256 ![] bcast_S_S128x256 (constantI S_ 32 0#32))) (cmpi .slt DI (broadcastInDim S128x256 ![] bcast_S_S128x256 (constantI S_ 32 128#32)))))
    (mulf (broadcastInDim S4x4x2x128x256 ![0, 1, 2, 3, 4] bcast_S4x4x2x1x1_S4x4x2x128x256_0_1_2_3_4 (Host.negf (broadcastInDim S4x4x2x1x1 ![0, 1, 2] bcast_S4x4x2_S4x4x2x1x1_0_1_2 w)))
      (broadcastInDim S4x4x2x128x256 ![0, 1, 2, 3, 4] bcast_S1x1x1x128x256_S4x4x2x128x256_0_1_2_3_4 (broadcastInDim S1x1x1x128x256 ![3, 4] bcast_S128x256_S1x1x1x128x256_3_4 (sitofp .f32 DI))))
    (broadcastInDim S4x4x2x128x256 ![] bcast_S_S4x4x2x128x256 (constant S_ .f32 4286578688#32))
theorem BW_apply (w : FVec Ideal S4x4x2 .f32) (h p : Fin 4) (a : Fin 2) (q : Fin 128) (k : Fin 256) : BW w (ix5 h p a q k)
    = Scalar.select (okW q.val k.val) (-(w (ix3 h p a)) * FloatOps.sitofp (F := Ideal) .f32 (dW q.val k.val)) (Ideal.ofBits .f32 4286578688#32) := by
  unfold okW dW
  pointwise [BW, DI]

theorem V6_apply (c : Dev nD) (e : Fin 8) (k : Fin 256) (j : Fin 512) : V m c main_v35 (ix3 e k j) = biasA (e.val / 2 * 8 + j.val / 128 * 2 + e.val % 2) (j.val % 128) k.val := by
  unfold V
  simp only [hostOps0, hostOps0_1, hostOps0_2, List.flatten_cons, List.flatten_nil, List.cons_append, List.nil_append, List.append_nil, StableHlo.after_cons, StableHlo.after_nil]
  after_results_simp
  unfold biasA slopeA
  pointwise []
  exact BW_apply _ ⟨e.val / 2, by omega⟩ ⟨j.val / 128, by omega⟩ ⟨e.val % 2, by omega⟩ ⟨j.val % 128, by omega⟩ k

theorem read6 (c : Dev nD) (t : Fin cfg0.N) (e : Fin 8) (k : Fin 256) (j : Fin 512) : iblk m c 6 t (ix3 e k j) = biasA (e.val / 2 * 8 + j.val / 128 * 2 + e.val % 2) (j.val % 128) k.val := by
  refine Eq.trans ?_ (V6_apply m c e k j)
  blk_point [iblk, idx t]

end Cert.Proof.Att

end
-- ==== Proof.AttScore.lean ====
/- One entry of the attention's result: what the kernel makes of its scores, its sink and its values is what the reference
   makes of them, for finite queries, keys and sinks. -/
module

public import proofs.«01_k».proof.Proof.AttPay
public import proofs.«01_k».proof.Proof.AttRead

@[expose] public section
set_option maxRecDepth 16384

noncomputable section

open Idealize.ShloMosaic Idealize.ShloMosaic.TcCoe Idealize.SL.Sem

namespace Cert.Proof.Att

open Cert.AttKernelIdeal Cert.Proof.AttMath Cert.Proof.AttRef
open Cert.AttReferenceIdeal.Read (val_main_v92 val_main_v89 val_main_v69 val_main_v17)

theorem c16 : Ideal.ofBits .bf16 15872#16 = ((1 / 8 : ℝ) : EReal) := by
  simp [Ideal.ofBits, Ideal.ieee, -EReal.coe_mul]; norm_num
theorem c32 : Ideal.ofBits .f32 1040187392#32 = ((1 / 8 : ℝ) : EReal) := by
  simp [Ideal.ofBits, Ideal.ieee, -EReal.coe_mul]; norm_num
theorem cm8 : Ideal.ofBits .f32 3238002688#32 = ((-8 : ℝ) : EReal) := by
  simp [Ideal.ofBits, Ideal.ieee, -EReal.coe_mul]; norm_num
theorem cp32 : Ideal.ofBits .f32 1107296256#32 = ((32 : ℝ) : EReal) := by
  simp [Ideal.ofBits, Ideal.ieee, -EReal.coe_mul]; norm_num
theorem cln2 : ∃ r : ℝ, Ideal.ofBits .f32 1060205080#32 = (r : EReal) := by
  simp [Ideal.ofBits, Ideal.ieee, -EReal.coe_mul]
theorem word_real (w : BitVec 32) : ∃ r : ℝ, FloatOps.sitofp (F := Ideal) .f32 w = (r : EReal) := ⟨_, rfl⟩

theorem slope_real (e : ℕ) : ∃ r : ℝ, slopeA e = (r : EReal) := by
  obtain ⟨a, ha⟩ := cln2
  obtain ⟨n, hn⟩ := word_real (BitVec.ofNat 32 e)
  unfold slopeA
  rw [ha, hn, cm8, cp32]
  have hd : ∀ x : EReal, Ideal.div x ((32 : ℝ) : EReal) = x * (((32 : ℝ)⁻¹ : ℝ) : EReal) := fun x => by
    unfold Ideal.div
    rw [if_neg (by exact_mod_cast (by norm_num : (32 : ℝ) ≠ 0)), EReal.coe_inv]
  rw [hd, ← EReal.coe_one, ← EReal.coe_add, ← EReal.coe_mul, ← EReal.coe_mul, ← EReal.coe_mul]
  exact ⟨_, rfl⟩

theorem inW_eq : ∀ (n : Fin 32) (k : Fin 256), inW n.val k.val = if 1 ≤ n.val ∨ 128 ≤ k.val then 1#1 else 0#1 := by decide +kernel
theorem bit (w : BitVec 1) : w = 0#1 ∨ w = 1#1 := by
  revert w; decide

variable (X : FVec Ideal S4x4096x23040 .bf16) (S : FVec Ideal S1x32 .f32)

theorem band_real (hX : ∀ i, ∃ r : ℝ, X i = r) (o : ℕ) (ho : o + 256 ≤ 23040) (b : Fin 4) (n : Fin 32) (k : Fin 256) (h : Fin 4) (d : Fin 64) :
    ∃ r : ℝ, bandA X o ho b n k h d = (r : EReal) := by
  unfold bandA
  split_ifs
  · exact hX _
  · exact word_real _
  · exact hX _

theorem v17_real (hX : ∀ i, ∃ r : ℝ, X i = r) (b : Fin 4) (n : Fin 32) (h : Fin 4) (g : Fin 8) (q : Fin 128) (k : Fin 256) :
    ∃ r : ℝ, val_main_v17 (F := Ideal) X (ix6 b n h g q k) = (r : EReal) := by
  rw [v17_apply, c32]
  have hp : ∀ d : Fin 64, ∃ r : ℝ, bandA X 2048 (by omega) b n k h d * X (ix3 b ⟨n.val * 128 + q.val, by omega⟩ ⟨h.val * 512 + g.val * 64 + d.val, by omega⟩) = (r : EReal) := fun d => by
    obtain ⟨x, hx⟩ := band_real X hX 2048 (by omega) b n k h d
    obtain ⟨y, hy⟩ := hX (ix3 b ⟨n.val * 128 + q.val, by omega⟩ ⟨h.val * 512 + g.val * 64 + d.val, by omega⟩)
    exact ⟨x * y, by rw [hx, hy, EReal.coe_mul]⟩
  choose p hp using hp
  exact ⟨(∑ d, p d) * (1 / 8), by rw [sum_real _ _ p hp, EReal.coe_mul]⟩

/-- A reference's score is never `⊤`. -/
theorem v69_ne (hX : ∀ i, ∃ r : ℝ, X i = r) (b : Fin 4) (n : Fin 32) (h : Fin 4) (g : Fin 8) (q : Fin 128) (k : Fin 256) :
    val_main_v69 (F := Ideal) X (ix6 b n h g q k) ≠ ⊤ := by
  obtain ⟨x, hx⟩ := v17_real X hX b n h g q k
  obtain ⟨s, hs⟩ := slope_real (h.val * 8 + g.val)
  obtain ⟨w, hw⟩ := word_real (dW q.val k.val)
  rw [v69_apply, hx, hs, hw, ← EReal.coe_mul, ← EReal.coe_sub]
  rcases bit (IntOp.andi (okW q.val k.val) (inW n.val k.val)) with h0 | h0
  · rw [h0]; show NI ≠ ⊤; rw [NI_eq]; exact bot_ne_top
  · rw [h0]; exact EReal.coe_ne_top _

/-- The kernel's score is the reference's. -/
theorem score (b : Fin 4) (n : Fin 32) (h : Fin 4) (g : Fin 8) (q : Fin 128) (k : Fin 256) (K : Fin 256 → Fin 64 → EReal) (qv : Fin 64 → EReal) (bs : Fin 256 → EReal)
    (hK : ∀ (k : Fin 256) d, 1 ≤ n.val ∨ 128 ≤ k.val → K k d = bandA X 2048 (by omega) b n k h d)
    (hq : ∀ x, qv x = X (ix3 b ⟨n.val * 128 + q.val, by omega⟩ ⟨h.val * 512 + g.val * 64 + x.val, by omega⟩))
    (hb : ∀ k : Fin 256, bs k = biasA (h.val * 8 + g.val) q.val k.val) :
    (if 1 ≤ n.val ∨ 128 ≤ k.val then raw K qv bs k else ⊥) = val_main_v69 (F := Ideal) X (ix6 b n h g q k) := by
  rw [v69_apply, inW_eq n k]
  by_cases hin : 1 ≤ n.val ∨ 128 ≤ k.val
  · rw [if_pos hin, if_pos hin]
    unfold raw
    rw [hb k]
    unfold biasA
    rcases bit (okW q.val k.val) with h0 | h0
    · rw [h0]
      show _ + NI = NI
      rw [NI_eq, EReal.add_bot]
    · rw [h0]
      show _ + -(slopeA _) * _ = _ - slopeA _ * _
      rw [EReal.neg_mul, ← sub_eq_add_neg, v17_apply, c16, c32, sum_mul_real _ _ _ (by norm_num)]
      refine congrArg (· - _) (Finset.sum_congr rfl fun d _ => ?_)
      rw [hK k d hin, hq d, mul_assoc, mul_assoc, mul_comm (((1 / 8 : ℝ) : EReal))]
  · rw [if_neg hin, if_neg hin]
    rcases bit (okW q.val k.val) with h0 | h0
    · rw [h0]; exact NI_eq.symm
    · rw [h0]; exact NI_eq.symm

/-- Where an entry of the result stands. -/
theorem v92_at (b : Fin 4) (n : Fin 32) (h : Fin 4) (g : Fin 8) (q : Fin 128) (d : Fin 64) :
    val_main_v92 (F := Ideal) X S (ix3 b ⟨n.val * 128 + q.val, by omega⟩ ⟨h.val * 512 + g.val * 64 + d.val, by omega⟩) = val_main_v89 (F := Ideal) X S (ix6 b n h d g q) := by
  rw [v92_apply]
  refine congrArg (val_main_v89 (F := Ideal) X S) ?_
  have e1 : (⟨(n.val * 128 + q.val) / 128, by omega⟩ : Fin 32) = n := Fin.ext (by show (n.val * 128 + q.val) / 128 = n.val; omega)
  have e2 : (⟨(h.val * 512 + g.val * 64 + d.val) / 512, by omega⟩ : Fin 4) = h := Fin.ext (by show (h.val * 512 + g.val * 64 + d.val) / 512 = h.val; omega)
  have e3 : (⟨(h.val * 512 + g.val * 64 + d.val) % 64, by omega⟩ : Fin 64) = d := Fin.ext (by show (h.val * 512 + g.val * 64 + d.val) % 64 = d.val; omega)
  have e4 : (⟨(h.val * 512 + g.val * 64 + d.val) / 64 % 8, by omega⟩ : Fin 8) = g := Fin.ext (by show (h.val * 512 + g.val * 64 + d.val) / 64 % 8 = g.val; omega)
  have e5 : (⟨(n.val * 128 + q.val) % 128, by omega⟩ : Fin 128) = q := Fin.ext (by show (n.val * 128 + q.val) % 128 = q.val; omega)
  show ix6 b (⟨(n.val * 128 + q.val) / 128, _⟩ : Fin 32) (⟨(h.val * 512 + g.val * 64 + d.val) / 512, _⟩ : Fin 4) (⟨(h.val * 512 + g.val * 64 + d.val) % 64, _⟩ : Fin 64) (⟨(h.val * 512 + g.val * 64 + d.val) / 64 % 8, _⟩ : Fin 8) (⟨(n.val * 128 + q.val) % 128, _⟩ : Fin 128) = _
  rw [e1, e2, e3, e4, e5]

/-- The entry. -/
theorem entry (hX : ∀ i, ∃ r : ℝ, X i = r) (hS : ∀ i, ∃ r : ℝ, S i = r) (b : Fin 4) (n : Fin 32) (h : Fin 4) (g : Fin 8) (q : Fin 128) (d : Fin 64)
    (s : Fin 256 → EReal) (z : EReal) (v : Fin 256 → EReal) (K : Fin 256 → Fin 64 → EReal) (qv : Fin 64 → EReal) (bs : Fin 256 → EReal)
    (hs : ∀ k : Fin 256, s k = if 1 ≤ n.val ∨ 128 ≤ k.val then raw K qv bs k else ⊥)
    (hK : ∀ (k : Fin 256) d, 1 ≤ n.val ∨ 128 ≤ k.val → K k d = bandA X 2048 (by omega) b n k h d)
    (hq : ∀ x, qv x = X (ix3 b ⟨n.val * 128 + q.val, by omega⟩ ⟨h.val * 512 + g.val * 64 + x.val, by omega⟩))
    (hb : ∀ k : Fin 256, bs k = biasA (h.val * 8 + g.val) q.val k.val)
    (hz : z = S (ix2 0 ⟨h.val * 8 + g.val, by omega⟩))
    (hv : ∀ k : Fin 256, 1 ≤ n.val ∨ 128 ≤ k.val → v k = bandA X 2304 (by omega) b n k h d) :
    kerO s z v = val_main_v92 (F := Ideal) X S (ix3 b ⟨n.val * 128 + q.val, by omega⟩ ⟨h.val * 512 + g.val * 64 + d.val, by omega⟩) := by
  rw [v92_at, v89_apply]
  obtain ⟨y, hy⟩ := hS (ix2 0 ⟨h.val * 8 + g.val, by omega⟩)
  refine (ker_congr s (fun k => val_main_v69 (F := Ideal) X (ix6 b n h g q k)) z (S (ix2 0 ⟨h.val * 8 + g.val, by omega⟩)) v (fun k => bandA X 2304 (by omega) b n k h d)
    (fun k => (hs k).trans (score X b n h g q k K qv bs hK hq hb)) hz (fun k => ?_)).trans
    ((ker_ref _ _ _ (fun k => v69_ne X hX b n h g q k) (by rw [hy]; exact EReal.coe_ne_bot _) (by rw [hy]; exact EReal.coe_ne_top _)).trans rfl)
  by_cases hin : 1 ≤ n.val ∨ 128 ≤ k.val
  · exact Or.inr (hv k hin)
  · exact Or.inl (by rw [hs k, if_neg hin])

end Cert.Proof.Att

end
-- ==== Proof.AttClose.lean ====
/- One piece of the block that the attention's kernel stores, given what its operands hold. -/
module

public import proofs.«01_k».proof.Proof.AttScore

@[expose] public section
set_option maxRecDepth 16384

noncomputable section

open Idealize.ShloMosaic Idealize.ShloMosaic.TcCoe Idealize.SL.Sem

namespace Cert.Proof.Att

open Cert.AttKernelIdeal Cert.AttKernelIdeal.Gen Cert.Proof.AttMath Cert.Proof.AttRef
open Cert.AttReferenceIdeal.Read (val_main_v92)

theorem mask_bot : (show EReal from (Named.named κ "mask" 0xF149F2CA#32 : Ideal .f32)) = ⊥ := rfl

variable (X : FVec Ideal S4x4096x23040 .bf16) (S : FVec Ideal S1x32 .f32)

/-- The block that a grid point is to store. -/
def GG (t : Fin cfg0.N) (y : S1x256x2048.Idx) : EReal :=
  val_main_v92 (F := Ideal) X S (ix3 (⟨t.val / 16, by have := lt64 t; omega⟩ : Fin 4) (⟨t.val % 16 * 256 + (y 1).val, by have : (y 1).val < 256 := (y 1).isLt; omega⟩ : Fin 4096) (⟨(y 2).val, (y 2).isLt⟩ : Fin 2048))

theorem GG_emb (t : Fin cfg0.N) (o1 o2 : ℕ) (inb : ∀ a, (![0, o1, o2] : Fin 3 → ℕ) a + (![1, 128, 128] : Fin 3 → ℕ) a ≤ S1x256x2048.size a) (x : S1x128x128.Idx) (h1 : o1 + 128 ≤ 256) (h2 : o2 + 128 ≤ 2048) :
    val_main_v92 (F := Ideal) X S (ix3 (⟨t.val / 16, by have := lt64 t; omega⟩ : Fin 4) (⟨t.val % 16 * 256 + (o1 + (x 1).val), by have : (x 1).val < 128 := (x 1).isLt; omega⟩ : Fin 4096) (⟨o2 + (x 2).val, by have : (x 2).val < 128 := (x 2).isLt; omega⟩ : Fin 2048))
      = GG X S t ((Rect.unit (s := S1x256x2048) ![0, o1, o2] ![1, 128, 128] inb).emb x) := by
  unfold GG
  refine congrArg (val_main_v92 (F := Ideal) X S) ?_
  refine funext fun a => Fin.ext ?_
  match a with
  | ⟨0, _⟩ => rfl
  | ⟨1, _⟩ => show t.val % 16 * 256 + (o1 + (x 1).val) = t.val % 16 * 256 + (o1 + 1 * (x 1).val); omega
  | ⟨2, _⟩ => show o2 + (x 2).val = o2 + 1 * (x 2).val; omega

/-- An entry of the array of projections. -/
def at3 (t : Fin cfg0.N) (r : ℕ) (l : ℕ) (hr : r < 4096) (hl : l < 23040) : EReal := X (ix3 (⟨t.val / 16, by have := lt64 t; omega⟩ : Fin 4) (⟨r, hr⟩ : Fin 4096) (⟨l, hl⟩ : Fin 23040))

section
variable (t : Fin cfg0.N)

theorem at3_congr (r r' l l' : ℕ) (hr : r < 4096) (hr' : r' < 4096) (hl : l < 23040) (hl' : l' < 23040) (e : r = r') (f : l = l') : at3 X t r l hr hl = at3 X t r' l' hr' hl' := by
  subst e; subst f; rfl

/-- The second half of a point's queries: block `2 * (t % 16) + 1` of 128. -/
theorem bandB (h : Fin 4) (o : ℕ) (ho : o + 256 ≤ 23040) (kl kh : FVec Ideal S1x128x64 .bf16)
    (hkl : ∀ (k : Fin 128) (d : Fin 64), kl (ix3 0 k d) = at3 X t (t.val % 16 * 256 + k.val) (o + (h.val * 64 + d.val)) (by omega) (by omega))
    (hkh : ∀ (k : Fin 128) (d : Fin 64), kh (ix3 0 k d) = at3 X t (t.val % 16 * 256 + (128 + k.val)) (o + (h.val * 64 + d.val)) (by omega) (by omega))
    (k : Fin 256) (d : Fin 64) :
    bnd kl kh k d = bandA X o ho (⟨t.val / 16, by have := lt64 t; omega⟩ : Fin 4) (⟨2 * (t.val % 16) + 1, by omega⟩ : Fin 32) k h d := by
  unfold bnd bandA
  by_cases hk : k.val < 128
  · rw [dif_pos hk, dif_pos hk, dif_pos ⟨⟨by show 1 ≤ 2 * (t.val % 16) + 1; omega, by show 2 * (t.val % 16) + 1 - 1 < 32; omega⟩, hk⟩, hkl]
    exact at3_congr X t _ _ _ _ _ _ _ _ (by show t.val % 16 * 256 + k.val = (2 * (t.val % 16) + 1 - 1) * 128 + k.val; omega) rfl
  · rw [dif_neg hk, dif_neg hk, hkh]
    exact at3_congr X t _ _ _ _ _ _ _ _ (by show t.val % 16 * 256 + (128 + (k.val - 128)) = (2 * (t.val % 16) + 1) * 128 + (k.val - 128); omega) rfl

/-- The first half: block `2 * (t % 16)`, which the first point of a batch entry has no block before. -/
theorem bandF (h : Fin 4) (o : ℕ) (ho : o + 256 ≤ 23040) (kl kh : FVec Ideal S1x128x64 .bf16)
    (hkl : ∀ (k : Fin 128) (d : Fin 64), kl (ix3 0 k d) = at3 X t ((2 * (t.val % 16) - 1) * 128 + k.val) (o + (h.val * 64 + d.val)) (by omega) (by omega))
    (hkh : ∀ (k : Fin 128) (d : Fin 64), kh (ix3 0 k d) = at3 X t (t.val % 16 * 256 + k.val) (o + (h.val * 64 + d.val)) (by omega) (by omega))
    (k : Fin 256) (d : Fin 64) (hin : 1 ≤ 2 * (t.val % 16) ∨ 128 ≤ k.val) :
    bnd kl kh k d = bandA X o ho (⟨t.val / 16, by have := lt64 t; omega⟩ : Fin 4) (⟨2 * (t.val % 16), by omega⟩ : Fin 32) k h d := by
  unfold bnd bandA
  by_cases hk : k.val < 128
  · rw [dif_pos hk, dif_pos hk, dif_pos ⟨⟨by show 1 ≤ 2 * (t.val % 16); omega, by show 2 * (t.val % 16) - 1 < 32; omega⟩, hk⟩, hkl]
    rfl
  · rw [dif_neg hk, dif_neg hk, hkh]
    exact at3_congr X t _ _ _ _ _ _ _ _ (by show t.val % 16 * 256 + (k.val - 128) = 2 * (t.val % 16) * 128 + (k.val - 128); omega) rfl

variable (h p : Fin 4) (kl kh vl vh : FVec Ideal S1x128x64 .bf16) (q : FVec Ideal S1x128x128 .bf16) (b0 b1 : FVec Ideal S1x256x512 .f32) (s u : EReal) (r l : Fin 128)

/-- A piece of the second half. -/
theorem closeB (hX : ∀ i, ∃ r : ℝ, X i = r) (hS : ∀ i, ∃ r : ℝ, S i = r)
    (hkl : ∀ (k : Fin 128) (d : Fin 64), kl (ix3 0 k d) = at3 X t (t.val % 16 * 256 + k.val) (2048 + (h.val * 64 + d.val)) (by omega) (by omega))
    (hkh : ∀ (k : Fin 128) (d : Fin 64), kh (ix3 0 k d) = at3 X t (t.val % 16 * 256 + (128 + k.val)) (2048 + (h.val * 64 + d.val)) (by omega) (by omega))
    (hvl : ∀ (k : Fin 128) (d : Fin 64), vl (ix3 0 k d) = at3 X t (t.val % 16 * 256 + k.val) (2304 + (h.val * 64 + d.val)) (by omega) (by omega))
    (hvh : ∀ (k : Fin 128) (d : Fin 64), vh (ix3 0 k d) = at3 X t (t.val % 16 * 256 + (128 + k.val)) (2304 + (h.val * 64 + d.val)) (by omega) (by omega))
    (hq : ∀ x : Fin 128, q (ix3 0 r x) = at3 X t (t.val % 16 * 256 + (128 + r.val)) (h.val * 512 + p.val * 128 + x.val) (by omega) (by omega))
    (hb0 : ∀ k : Fin 256, b0 (ix3 0 k ⟨p.val * 128 + r.val, by omega⟩) = biasA (h.val * 8 + 2 * p.val) r.val k.val)
    (hb1 : ∀ k : Fin 256, b1 (ix3 0 k ⟨p.val * 128 + r.val, by omega⟩) = biasA (h.val * 8 + (2 * p.val + 1)) r.val k.val)
    (hs : s = S (ix2 0 ⟨h.val * 8 + 2 * p.val, by omega⟩)) (hu : u = S (ix2 0 ⟨h.val * 8 + (2 * p.val + 1), by omega⟩)) :
    (if hl : l.val < 64 then kerO (raw (bnd kl kh) (fun x => q (ix3 0 r ⟨x.val, by omega⟩)) (fun k => b0 (ix3 0 k ⟨p.val * 128 + r.val, by omega⟩))) s (fun k => bnd vl vh k ⟨l.val, hl⟩)
      else kerO (raw (bnd kl kh) (fun x => q (ix3 0 r ⟨64 + x.val, by omega⟩)) (fun k => b1 (ix3 0 k ⟨p.val * 128 + r.val, by omega⟩))) u (fun k => bnd vl vh k ⟨l.val - 64, by omega⟩))
    = val_main_v92 (F := Ideal) X S (ix3 (⟨t.val / 16, by have := lt64 t; omega⟩ : Fin 4) (⟨t.val % 16 * 256 + (128 + r.val), by omega⟩ : Fin 4096) (⟨h.val * 512 + p.val * 128 + l.val, by omega⟩ : Fin 2048)) := by
  by_cases hl : l.val < 64
  · rw [dif_pos hl]
    refine (entry X S hX hS (⟨t.val / 16, by have := lt64 t; omega⟩ : Fin 4) (⟨2 * (t.val % 16) + 1, by omega⟩ : Fin 32) h (⟨2 * p.val, by omega⟩ : Fin 8) r ⟨l.val, hl⟩ _ _ _ (bnd kl kh) _ _
      (fun k => (if_pos (Or.inl (by show 1 ≤ 2 * (t.val % 16) + 1; omega))).symm) (fun k d _ => bandB X t h 2048 (by omega) kl kh hkl hkh k d) ?_ hb0 hs
      (fun k _ => bandB X t h 2304 (by omega) vl vh hvl hvh k _)).trans ?_
    · intro x
      refine (hq _).trans (at3_congr X t _ _ _ _ _ _ _ _ ?_ ?_)
      · show t.val % 16 * 256 + (128 + r.val) = (2 * (t.val % 16) + 1) * 128 + r.val; omega
      · show h.val * 512 + p.val * 128 + x.val = h.val * 512 + 2 * p.val * 64 + x.val; omega
    · refine congrArg (val_main_v92 (F := Ideal) X S) (funext fun a => Fin.ext ?_)
      match a with
      | ⟨0, _⟩ => rfl
      | ⟨1, _⟩ => show (2 * (t.val % 16) + 1) * 128 + r.val = t.val % 16 * 256 + (128 + r.val); omega
      | ⟨2, _⟩ => show h.val * 512 + 2 * p.val * 64 + l.val = h.val * 512 + p.val * 128 + l.val; omega
  · rw [dif_neg hl]
    refine (entry X S hX hS (⟨t.val / 16, by have := lt64 t; omega⟩ : Fin 4) (⟨2 * (t.val % 16) + 1, by omega⟩ : Fin 32) h (⟨2 * p.val + 1, by omega⟩ : Fin 8) r ⟨l.val - 64, by omega⟩ _ _ _ (bnd kl kh) _ _
      (fun k => (if_pos (Or.inl (by show 1 ≤ 2 * (t.val % 16) + 1; omega))).symm) (fun k d _ => bandB X t h 2048 (by omega) kl kh hkl hkh k d) ?_ hb1 hu
      (fun k _ => bandB X t h 2304 (by omega) vl vh hvl hvh k _)).trans ?_
    · intro x
      refine (hq _).trans (at3_congr X t _ _ _ _ _ _ _ _ ?_ ?_)
      · show t.val % 16 * 256 + (128 + r.val) = (2 * (t.val % 16) + 1) * 128 + r.val; omega
      · show h.val * 512 + p.val * 128 + (64 + x.val) = h.val * 512 + (2 * p.val + 1) * 64 + x.val; omega
    · refine congrArg (val_main_v92 (F := Ideal) X S) (funext fun a => Fin.ext ?_)
      match a with
      | ⟨0, _⟩ => rfl
      | ⟨1, _⟩ => show (2 * (t.val % 16) + 1) * 128 + r.val = t.val % 16 * 256 + (128 + r.val); omega
      | ⟨2, _⟩ => show h.val * 512 + (2 * p.val + 1) * 64 + (l.val - 64) = h.val * 512 + p.val * 128 + l.val; omega

/-- What the mask makes of a score in the first half. -/
theorem msk_eq (a1 : BitVec 32) (ha : Scalar.cmpi .eq a1 0#32 = if t.val % 16 = 0 then 1#1 else 0#1) (f : Fin 256 → EReal) (k : Fin 256) :
    msk a1 f k = if 1 ≤ 2 * (t.val % 16) ∨ 128 ≤ k.val then f k else ⊥ := by
  unfold msk
  rw [ha, mask_bot]
  by_cases hk : k.val < 128
  · rw [if_pos hk]
    by_cases h0 : t.val % 16 = 0
    · rw [if_pos h0, if_neg (by omega)]; rfl
    · rw [if_neg h0, if_pos (by omega)]; rfl
  · rw [if_neg hk, if_pos (by omega)]

/-- A piece of the first half. -/
theorem closeF (hX : ∀ i, ∃ r : ℝ, X i = r) (hS : ∀ i, ∃ r : ℝ, S i = r) (a1 : BitVec 32) (ha : Scalar.cmpi .eq a1 0#32 = if t.val % 16 = 0 then 1#1 else 0#1)
    (hkl : ∀ (k : Fin 128) (d : Fin 64), kl (ix3 0 k d) = at3 X t ((2 * (t.val % 16) - 1) * 128 + k.val) (2048 + (h.val * 64 + d.val)) (by omega) (by omega))
    (hkh : ∀ (k : Fin 128) (d : Fin 64), kh (ix3 0 k d) = at3 X t (t.val % 16 * 256 + k.val) (2048 + (h.val * 64 + d.val)) (by omega) (by omega))
    (hvl : ∀ (k : Fin 128) (d : Fin 64), vl (ix3 0 k d) = at3 X t ((2 * (t.val % 16) - 1) * 128 + k.val) (2304 + (h.val * 64 + d.val)) (by omega) (by omega))
    (hvh : ∀ (k : Fin 128) (d : Fin 64), vh (ix3 0 k d) = at3 X t (t.val % 16 * 256 + k.val) (2304 + (h.val * 64 + d.val)) (by omega) (by omega))
    (hq : ∀ x : Fin 128, q (ix3 0 r x) = at3 X t (t.val % 16 * 256 + r.val) (h.val * 512 + p.val * 128 + x.val) (by omega) (by omega))
    (hb0 : ∀ k : Fin 256, b0 (ix3 0 k ⟨p.val * 128 + r.val, by omega⟩) = biasA (h.val * 8 + 2 * p.val) r.val k.val)
    (hb1 : ∀ k : Fin 256, b1 (ix3 0 k ⟨p.val * 128 + r.val, by omega⟩) = biasA (h.val * 8 + (2 * p.val + 1)) r.val k.val)
    (hs : s = S (ix2 0 ⟨h.val * 8 + 2 * p.val, by omega⟩)) (hu : u = S (ix2 0 ⟨h.val * 8 + (2 * p.val + 1), by omega⟩)) :
    (if hl : l.val < 64 then kerO (msk a1 (raw (bnd kl kh) (fun x => q (ix3 0 r ⟨x.val, by omega⟩)) (fun k => b0 (ix3 0 k ⟨p.val * 128 + r.val, by omega⟩)))) s (fun k => bnd vl vh k ⟨l.val, hl⟩)
      else kerO (msk a1 (raw (bnd kl kh) (fun x => q (ix3 0 r ⟨64 + x.val, by omega⟩)) (fun k => b1 (ix3 0 k ⟨p.val * 128 + r.val, by omega⟩)))) u (fun k => bnd vl vh k ⟨l.val - 64, by omega⟩))
    = val_main_v92 (F := Ideal) X S (ix3 (⟨t.val / 16, by have := lt64 t; omega⟩ : Fin 4) (⟨t.val % 16 * 256 + (0 + r.val), by omega⟩ : Fin 4096) (⟨h.val * 512 + p.val * 128 + l.val, by omega⟩ : Fin 2048)) := by
  by_cases hl : l.val < 64
  · rw [dif_pos hl]
    refine (entry X S hX hS (⟨t.val / 16, by have := lt64 t; omega⟩ : Fin 4) (⟨2 * (t.val % 16), by omega⟩ : Fin 32) h (⟨2 * p.val, by omega⟩ : Fin 8) r ⟨l.val, hl⟩ _ _ _ (bnd kl kh) _ _
      (msk_eq t a1 ha _) (fun k d hin => bandF X t h 2048 (by omega) kl kh hkl hkh k d hin) ?_ hb0 hs
      (fun k hin => bandF X t h 2304 (by omega) vl vh hvl hvh k _ hin)).trans ?_
    · intro x
      refine (hq _).trans (at3_congr X t _ _ _ _ _ _ _ _ ?_ ?_)
      · show t.val % 16 * 256 + r.val = 2 * (t.val % 16) * 128 + r.val; omega
      · show h.val * 512 + p.val * 128 + x.val = h.val * 512 + 2 * p.val * 64 + x.val; omega
    · refine congrArg (val_main_v92 (F := Ideal) X S) (funext fun a => Fin.ext ?_)
      match a with
      | ⟨0, _⟩ => rfl
      | ⟨1, _⟩ => show 2 * (t.val % 16) * 128 + r.val = t.val % 16 * 256 + (0 + r.val); omega
      | ⟨2, _⟩ => show h.val * 512 + 2 * p.val * 64 + l.val = h.val * 512 + p.val * 128 + l.val; omega
  · rw [dif_neg hl]
    refine (entry X S hX hS (⟨t.val / 16, by have := lt64 t; omega⟩ : Fin 4) (⟨2 * (t.val % 16), by omega⟩ : Fin 32) h (⟨2 * p.val + 1, by omega⟩ : Fin 8) r ⟨l.val - 64, by omega⟩ _ _ _ (bnd kl kh) _ _
      (msk_eq t a1 ha _) (fun k d hin => bandF X t h 2048 (by omega) kl kh hkl hkh k d hin) ?_ hb1 hu
      (fun k hin => bandF X t h 2304 (by omega) vl vh hvl hvh k _ hin)).trans ?_
    · intro x
      refine (hq _).trans (at3_congr X t _ _ _ _ _ _ _ _ ?_ ?_)
      · show t.val % 16 * 256 + r.val = 2 * (t.val % 16) * 128 + r.val; omega
      · show h.val * 512 + p.val * 128 + (64 + x.val) = h.val * 512 + (2 * p.val + 1) * 64 + x.val; omega
    · refine congrArg (val_main_v92 (F := Ideal) X S) (funext fun a => Fin.ext ?_)
      match a with
      | ⟨0, _⟩ => rfl
      | ⟨1, _⟩ => show 2 * (t.val % 16) * 128 + r.val = t.val % 16 * 256 + (0 + r.val); omega
      | ⟨2, _⟩ => show h.val * 512 + (2 * p.val + 1) * 64 + (l.val - 64) = h.val * 512 + p.val * 128 + l.val; omega
end

end Cert.Proof.Att

end
-- ==== Proof.AttValue.lean ====
/- The block that the attention's kernel leaves at a grid point, and the result after the whole run. -/
module

public import proofs.«01_k».proof.Proof.Gen.AttKernelIdeal.Value
public import Idealize.ShloMosaic.Lib.Pipeline.ValueKit
public import proofs.«01_k».proof.Proof.AttClose
public import Idealize.ShloMosaic.Lib.Claim

@[expose] public section
set_option maxRecDepth 16384

noncomputable section

open Idealize.ShloMosaic Idealize.ShloMosaic.TcCoe Idealize.SL.Sem
open Idealize.ShloMosaic.Pipeline (Dat)

namespace Cert.Proof.Att

open Cert.AttKernelIdeal Cert.AttKernelIdeal.Gen
open Cert.AttReferenceIdeal.Read (val_main_v92)

variable (m : (ℓ : Loc nD τ sig) → Buf (Elt Ideal) ℓ)

theorem ix_out (x : S1x128x128.Idx) : x = ix3 0 (x 1) (x 2) :=
  (eq_ix3 x).trans (congrArg (fun a => ix3 a (x 1) (x 2)) (Fin.ext (Nat.lt_one_iff.mp (x 0).isLt)))

theorem coord (t : Fin cfg0.N) : Scalar.cmpi .eq (BitVec.ofNat 32 (grid0.coords t 1).val) 0#32 = if t.val % 16 = 0 then 1#1 else 0#1 := by
  revert t; decide +kernel

section
variable (c : Dev nD) (t : Fin cfg0.N)

theorem rc1 (r : Fin 256) (l : Fin 2048) (a b : ℕ) (ha : a < 4096) (hb : b < 23040) (e : a = t.val % 16 * 256 + r.val) (f : b = l.val) : X0_1 m c t (ix3 0 r l) = at3 (XA m c) t a b ha hb := by
  subst e; subst f; exact read1 m c t r l
theorem rc2 (r l : Fin 256) (a b : ℕ) (ha : a < 4096) (hb : b < 23040) (e : a = t.val % 16 * 256 + r.val) (f : b = 2048 + l.val) : iblk m c 2 t (ix3 0 r l) = at3 (XA m c) t a b ha hb := by
  subst e; subst f; exact read2 m c t r l
theorem rc3 (r : Fin 128) (l : Fin 256) (a b : ℕ) (ha : a < 4096) (hb : b < 23040) (e : a = (2 * (t.val % 16) - 1) * 128 + r.val) (f : b = 2048 + l.val) : iblk m c 3 t (ix3 0 r l) = at3 (XA m c) t a b ha hb := by
  subst e; subst f; exact read3 m c t r l
theorem rc4 (r l : Fin 256) (a b : ℕ) (ha : a < 4096) (hb : b < 23040) (e : a = t.val % 16 * 256 + r.val) (f : b = 2304 + l.val) : iblk m c 4 t (ix3 0 r l) = at3 (XA m c) t a b ha hb := by
  subst e; subst f; exact read4 m c t r l
theorem rc5 (r : Fin 128) (l : Fin 256) (a b : ℕ) (ha : a < 4096) (hb : b < 23040) (e : a = (2 * (t.val % 16) - 1) * 128 + r.val) (f : b = 2304 + l.val) : iblk m c 5 t (ix3 0 r l) = at3 (XA m c) t a b ha hb := by
  subst e; subst f; exact read5 m c t r l
theorem rc6 (e : Fin 8) (k : Fin 256) (j : Fin 512) (a r : ℕ) (ha : a = e.val / 2 * 8 + j.val / 128 * 2 + e.val % 2) (hr : r = j.val % 128) : iblk m c 6 t (ix3 e k j) = biasA a r k.val := by
  subst ha; subst hr; exact read6 m c t e k j
end

set_option maxHeartbeats 4000000 in
/-- The block is the target's. -/
theorem out_all (c : Dev nD) (hX : ∀ i, ∃ r : ℝ, XA m c i = r) (hS : ∀ i, ∃ r : ℝ, XS m c i = r) (t : Fin cfg0.N) (y : S1x256x2048.Idx) : outsAt0 m c t y = GG (XA m c) (XS m c) t y := by
  unfold outsAt0
  frame_out
  refine View.canon_apply_of_pieces (Val := Elt Ideal) (e := .bf16) (GG (XA m c) (XS m c) t) _ ?_ y ?_
  · intro p hp
    simp only [List.mem_cons, List.mem_append, List.not_mem_nil, or_false] at hp
    rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    · intro (x : S1x128x128.Idx)
      have h1 : (x 1).val < 128 := (x 1).isLt
      refine (congrArg _ (ix_out x)).trans ?_
      repeat rw [Memref.IsWhole.read_unread]
      refine (gB_apply _ _ _ _ _ _ _ _ _ _ _ _ _ _ _ _ _ _ 3 _ (x 1) (x 2)).trans ?_
      refine (closeB (XA m c) (XS m c) t 3 3 _ _ _ _ _ _ _ _ _ (x 1) (x 2) hX hS ?_ ?_ ?_ ?_ ?_ ?_ ?_ ?_ ?_).trans ?_
      · intro k d; pointwise []; exact rc2 m c t _ _ _ _ _ _ (by simp) (by simp)
      · intro k d; pointwise []; exact rc2 m c t _ _ _ _ _ _ (by simp) (by simp)
      · intro k d; pointwise []; exact rc4 m c t _ _ _ _ _ _ (by simp) (by simp)
      · intro k d; pointwise []; exact rc4 m c t _ _ _ _ _ _ (by simp) (by simp)
      · intro k; show View.ld (X0_1 m c t) (Rect.unit ![0, 128, 1920] ![1, 128, 128] inb_S1x256x2048_S1x128x128_0_128_1920) (ix3 0 (x 1) k) = _
        pointwise []; exact rc1 m c t _ _ _ _ _ _ (by simp) (by simp)
      · intro k; pointwise []; refine rc6 m c t 6 k ⟨384 + (x 1).val, by omega⟩ _ _ ?_ ?_
        · show 30 = 6 / 2 * 8 + (384 + (x 1).val) / 128 * 2 + 6 % 2; omega
        · show (x 1).val = (384 + (x 1).val) % 128; omega
      · intro k; pointwise []; refine rc6 m c t 7 k ⟨384 + (x 1).val, by omega⟩ _ _ ?_ ?_
        · show 31 = 7 / 2 * 8 + (384 + (x 1).val) / 128 * 2 + 7 % 2; omega
        · show (x 1).val = (384 + (x 1).val) % 128; omega
      · pointwise []; exact read0 m c t 30
      · pointwise []; exact read0 m c t 31
      · exact GG_emb (XA m c) (XS m c) t 128 1920 inb_S1x256x2048_S1x128x128_0_128_1920 x (by decide) (by decide)
    · intro (x : S1x128x128.Idx)
      have h1 : (x 1).val < 128 := (x 1).isLt
      refine (congrArg _ (ix_out x)).trans ?_
      repeat rw [Memref.IsWhole.read_unread]
      refine (gB_apply _ _ _ _ _ _ _ _ _ _ _ _ _ _ _ _ _ _ 2 _ (x 1) (x 2)).trans ?_
      refine (closeB (XA m c) (XS m c) t 3 2 _ _ _ _ _ _ _ _ _ (x 1) (x 2) hX hS ?_ ?_ ?_ ?_ ?_ ?_ ?_ ?_ ?_).trans ?_
      · intro k d; pointwise []; exact rc2 m c t _ _ _ _ _ _ (by simp) (by simp)
      · intro k d; pointwise []; exact rc2 m c t _ _ _ _ _ _ (by simp) (by simp)
      · intro k d; pointwise []; exact rc4 m c t _ _ _ _ _ _ (by simp) (by simp)
      · intro k d; pointwise []; exact rc4 m c t _ _ _ _ _ _ (by simp) (by simp)
      · intro k; show View.ld (X0_1 m c t) (Rect.unit ![0, 128, 1792] ![1, 128, 128] inb_S1x256x2048_S1x128x128_0_128_1792) (ix3 0 (x 1) k) = _
        pointwise []; exact rc1 m c t _ _ _ _ _ _ (by simp) (by simp)
      · intro k; pointwise []; refine rc6 m c t 6 k ⟨256 + (x 1).val, by omega⟩ _ _ ?_ ?_
        · show 28 = 6 / 2 * 8 + (256 + (x 1).val) / 128 * 2 + 6 % 2; omega
        · show (x 1).val = (256 + (x 1).val) % 128; omega
      · intro k; pointwise []; refine rc6 m c t 7 k ⟨256 + (x 1).val, by omega⟩ _ _ ?_ ?_
        · show 29 = 7 / 2 * 8 + (256 + (x 1).val) / 128 * 2 + 7 % 2; omega
        · show (x 1).val = (256 + (x 1).val) % 128; omega
      · pointwise []; exact read0 m c t 28
      · pointwise []; exact read0 m c t 29
      · exact GG_emb (XA m c) (XS m c) t 128 1792 inb_S1x256x2048_S1x128x128_0_128_1792 x (by decide) (by decide)
    · intro (x : S1x128x128.Idx)
      have h1 : (x 1).val < 128 := (x 1).isLt
      refine (congrArg _ (ix_out x)).trans ?_
      repeat rw [Memref.IsWhole.read_unread]
      refine (gB_apply _ _ _ _ _ _ _ _ _ _ _ _ _ _ _ _ _ _ 1 _ (x 1) (x 2)).trans ?_
      refine (closeB (XA m c) (XS m c) t 3 1 _ _ _ _ _ _ _ _ _ (x 1) (x 2) hX hS ?_ ?_ ?_ ?_ ?_ ?_ ?_ ?_ ?_).trans ?_
      · intro k d; pointwise []; exact rc2 m c t _ _ _ _ _ _ (by simp) (by simp)
      · intro k d; pointwise []; exact rc2 m c t _ _ _ _ _ _ (by simp) (by simp)
      · intro k d; pointwise []; exact rc4 m c t _ _ _ _ _ _ (by simp) (by simp)
      · intro k d; pointwise []; exact rc4 m c t _ _ _ _ _ _ (by simp) (by simp)
      · intro k; show View.ld (X0_1 m c t) (Rect.unit ![0, 128, 1664] ![1, 128, 128] inb_S1x256x2048_S1x128x128_0_128_1664) (ix3 0 (x 1) k) = _
        pointwise []; exact rc1 m c t _ _ _ _ _ _ (by simp) (by simp)
      · intro k; pointwise []; refine rc6 m c t 6 k ⟨128 + (x 1).val, by omega⟩ _ _ ?_ ?_
        · show 26 = 6 / 2 * 8 + (128 + (x 1).val) / 128 * 2 + 6 % 2; omega
        · show (x 1).val = (128 + (x 1).val) % 128; omega
      · intro k; pointwise []; refine rc6 m c t 7 k ⟨128 + (x 1).val, by omega⟩ _ _ ?_ ?_
        · show 27 = 7 / 2 * 8 + (128 + (x 1).val) / 128 * 2 + 7 % 2; omega
        · show (x 1).val = (128 + (x 1).val) % 128; omega
      · pointwise []; exact read0 m c t 26
      · pointwise []; exact read0 m c t 27
      · exact GG_emb (XA m c) (XS m c) t 128 1664 inb_S1x256x2048_S1x128x128_0_128_1664 x (by decide) (by decide)
    · intro (x : S1x128x128.Idx)
      have h1 : (x 1).val < 128 := (x 1).isLt
      refine (congrArg _ (ix_out x)).trans ?_
      repeat rw [Memref.IsWhole.read_unread]
      refine (gB_apply _ _ _ _ _ _ _ _ _ _ _ _ _ _ _ _ _ _ 0 _ (x 1) (x 2)).trans ?_
      refine (closeB (XA m c) (XS m c) t 3 0 _ _ _ _ _ _ _ _ _ (x 1) (x 2) hX hS ?_ ?_ ?_ ?_ ?_ ?_ ?_ ?_ ?_).trans ?_
      · intro k d; pointwise []; exact rc2 m c t _ _ _ _ _ _ (by simp) (by simp)
      · intro k d; pointwise []; exact rc2 m c t _ _ _ _ _ _ (by simp) (by simp)
      · intro k d; pointwise []; exact rc4 m c t _ _ _ _ _ _ (by simp) (by simp)
      · intro k d; pointwise []; exact rc4 m c t _ _ _ _ _ _ (by simp) (by simp)
      · intro k; show View.ld (X0_1 m c t) (Rect.unit ![0, 128, 1536] ![1, 128, 128] inb_S1x256x2048_S1x128x128_0_128_1536) (ix3 0 (x 1) k) = _
        pointwise []; exact rc1 m c t _ _ _ _ _ _ (by simp) (by simp)
      · intro k; pointwise []; refine rc6 m c t 6 k ⟨(x 1).val, by omega⟩ _ _ ?_ ?_
        · show 24 = 6 / 2 * 8 + ((x 1).val) / 128 * 2 + 6 % 2; omega
        · show (x 1).val = ((x 1).val) % 128; omega
      · intro k; pointwise []; refine rc6 m c t 7 k ⟨(x 1).val, by omega⟩ _ _ ?_ ?_
        · show 25 = 7 / 2 * 8 + ((x 1).val) / 128 * 2 + 7 % 2; omega
        · show (x 1).val = ((x 1).val) % 128; omega
      · pointwise []; exact read0 m c t 24
      · pointwise []; exact read0 m c t 25
      · exact GG_emb (XA m c) (XS m c) t 128 1536 inb_S1x256x2048_S1x128x128_0_128_1536 x (by decide) (by decide)
    · intro (x : S1x128x128.Idx)
      have h1 : (x 1).val < 128 := (x 1).isLt
      refine (congrArg _ (ix_out x)).trans ?_
      repeat rw [Memref.IsWhole.read_unread]
      refine (gB_apply _ _ _ _ _ _ _ _ _ _ _ _ _ _ _ _ _ _ 3 _ (x 1) (x 2)).trans ?_
      refine (closeB (XA m c) (XS m c) t 2 3 _ _ _ _ _ _ _ _ _ (x 1) (x 2) hX hS ?_ ?_ ?_ ?_ ?_ ?_ ?_ ?_ ?_).trans ?_
      · intro k d; pointwise []; exact rc2 m c t _ _ _ _ _ _ (by simp) (by simp)
      · intro k d; pointwise []; exact rc2 m c t _ _ _ _ _ _ (by simp) (by simp)
      · intro k d; pointwise []; exact rc4 m c t _ _ _ _ _ _ (by simp) (by simp)
      · intro k d; pointwise []; exact rc4 m c t _ _ _ _ _ _ (by simp) (by simp)
      · intro k; show View.ld (X0_1 m c t) (Rect.unit ![0, 128, 1408] ![1, 128, 128] inb_S1x256x2048_S1x128x128_0_128_1408) (ix3 0 (x 1) k) = _
        pointwise []; exact rc1 m c t _ _ _ _ _ _ (by simp) (by simp)
      · intro k; pointwise []; refine rc6 m c t 4 k ⟨384 + (x 1).val, by omega⟩ _ _ ?_ ?_
        · show 22 = 4 / 2 * 8 + (384 + (x 1).val) / 128 * 2 + 4 % 2; omega
        · show (x 1).val = (384 + (x 1).val) % 128; omega
      · intro k; pointwise []; refine rc6 m c t 5 k ⟨384 + (x 1).val, by omega⟩ _ _ ?_ ?_
        · show 23 = 5 / 2 * 8 + (384 + (x 1).val) / 128 * 2 + 5 % 2; omega
        · show (x 1).val = (384 + (x 1).val) % 128; omega
      · pointwise []; exact read0 m c t 22
      · pointwise []; exact read0 m c t 23
      · exact GG_emb (XA m c) (XS m c) t 128 1408 inb_S1x256x2048_S1x128x128_0_128_1408 x (by decide) (by decide)
    · intro (x : S1x128x128.Idx)
      have h1 : (x 1).val < 128 := (x 1).isLt
      refine (congrArg _ (ix_out x)).trans ?_
      repeat rw [Memref.IsWhole.read_unread]
      refine (gB_apply _ _ _ _ _ _ _ _ _ _ _ _ _ _ _ _ _ _ 2 _ (x 1) (x 2)).trans ?_
      refine (closeB (XA m c) (XS m c) t 2 2 _ _ _ _ _ _ _ _ _ (x 1) (x 2) hX hS ?_ ?_ ?_ ?_ ?_ ?_ ?_ ?_ ?_).trans ?_
      · intro k d; pointwise []; exact rc2 m c t _ _ _ _ _ _ (by simp) (by simp)
      · intro k d; pointwise []; exact rc2 m c t _ _ _ _ _ _ (by simp) (by simp)
      · intro k d; pointwise []; exact rc4 m c t _ _ _ _ _ _ (by simp) (by simp)
      · intro k d; pointwise []; exact rc4 m c t _ _ _ _ _ _ (by simp) (by simp)
      · intro k; show View.ld (X0_1 m c t) (Rect.unit ![0, 128, 1280] ![1, 128, 128] inb_S1x256x2048_S1x128x128_0_128_1280) (ix3 0 (x 1) k) = _
        pointwise []; exact rc1 m c t _ _ _ _ _ _ (by simp) (by simp)
      · intro k; pointwise []; refine rc6 m c t 4 k ⟨256 + (x 1).val, by omega⟩ _ _ ?_ ?_
        · show 20 = 4 / 2 * 8 + (256 + (x 1).val) / 128 * 2 + 4 % 2; omega
        · show (x 1).val = (256 + (x 1).val) % 128; omega
      · intro k; pointwise []; refine rc6 m c t 5 k ⟨256 + (x 1).val, by omega⟩ _ _ ?_ ?_
        · show 21 = 5 / 2 * 8 + (256 + (x 1).val) / 128 * 2 + 5 % 2; omega
        · show (x 1).val = (256 + (x 1).val) % 128; omega
      · pointwise []; exact read0 m c t 20
      · pointwise []; exact read0 m c t 21
      · exact GG_emb (XA m c) (XS m c) t 128 1280 inb_S1x256x2048_S1x128x128_0_128_1280 x (by decide) (by decide)
    · intro (x : S1x128x128.Idx)
      have h1 : (x 1).val < 128 := (x 1).isLt
      refine (congrArg _ (ix_out x)).trans ?_
      repeat rw [Memref.IsWhole.read_unread]
      refine (gB_apply _ _ _ _ _ _ _ _ _ _ _ _ _ _ _ _ _ _ 1 _ (x 1) (x 2)).trans ?_
      refine (closeB (XA m c) (XS m c) t 2 1 _ _ _ _ _ _ _ _ _ (x 1) (x 2) hX hS ?_ ?_ ?_ ?_ ?_ ?_ ?_ ?_ ?_).trans ?_
      · intro k d; pointwise []; exact rc2 m c t _ _ _ _ _ _ (by simp) (by simp)
      · intro k d; pointwise []; exact rc2 m c t _ _ _ _ _ _ (by simp) (by simp)
      · intro k d; pointwise []; exact rc4 m c t _ _ _ _ _ _ (by simp) (by simp)
      · intro k d; pointwise []; exact rc4 m c t _ _ _ _ _ _ (by simp) (by simp)
      · intro k; show View.ld (X0_1 m c t) (Rect.unit ![0, 128, 1152] ![1, 128, 128] inb_S1x256x2048_S1x128x128_0_128_1152) (ix3 0 (x 1) k) = _
        pointwise []; exact rc1 m c t _ _ _ _ _ _ (by simp) (by simp)
      · intro k; pointwise []; refine rc6 m c t 4 k ⟨128 + (x 1).val, by omega⟩ _ _ ?_ ?_
        · show 18 = 4 / 2 * 8 + (128 + (x 1).val) / 128 * 2 + 4 % 2; omega
        · show (x 1).val = (128 + (x 1).val) % 128; omega
      · intro k; pointwise []; refine rc6 m c t 5 k ⟨128 + (x 1).val, by omega⟩ _ _ ?_ ?_
        · show 19 = 5 / 2 * 8 + (128 + (x 1).val) / 128 * 2 + 5 % 2; omega
        · show (x 1).val = (128 + (x 1).val) % 128; omega
      · pointwise []; exact read0 m c t 18
      · pointwise []; exact read0 m c t 19
      · exact GG_emb (XA m c) (XS m c) t 128 1152 inb_S1x256x2048_S1x128x128_0_128_1152 x (by decide) (by decide)
    · intro (x : S1x128x128.Idx)
      have h1 : (x 1).val < 128 := (x 1).isLt
      refine (congrArg _ (ix_out x)).trans ?_
      repeat rw [Memref.IsWhole.read_unread]
      refine (gB_apply _ _ _ _ _ _ _ _ _ _ _ _ _ _ _ _ _ _ 0 _ (x 1) (x 2)).trans ?_
      refine (closeB (XA m c) (XS m c) t 2 0 _ _ _ _ _ _ _ _ _ (x 1) (x 2) hX hS ?_ ?_ ?_ ?_ ?_ ?_ ?_ ?_ ?_).trans ?_
      · intro k d; pointwise []; exact rc2 m c t _ _ _ _ _ _ (by simp) (by simp)
      · intro k d; pointwise []; exact rc2 m c t _ _ _ _ _ _ (by simp) (by simp)
      · intro k d; pointwise []; exact rc4 m c t _ _ _ _ _ _ (by simp) (by simp)
      · intro k d; pointwise []; exact rc4 m c t _ _ _ _ _ _ (by simp) (by simp)
      · intro k; show View.ld (X0_1 m c t) (Rect.unit ![0, 128, 1024] ![1, 128, 128] inb_S1x256x2048_S1x128x128_0_128_1024) (ix3 0 (x 1) k) = _
        pointwise []; exact rc1 m c t _ _ _ _ _ _ (by simp) (by simp)
      · intro k; pointwise []; refine rc6 m c t 4 k ⟨(x 1).val, by omega⟩ _ _ ?_ ?_
        · show 16 = 4 / 2 * 8 + ((x 1).val) / 128 * 2 + 4 % 2; omega
        · show (x 1).val = ((x 1).val) % 128; omega
      · intro k; pointwise []; refine rc6 m c t 5 k ⟨(x 1).val, by omega⟩ _ _ ?_ ?_
        · show 17 = 5 / 2 * 8 + ((x 1).val) / 128 * 2 + 5 % 2; omega
        · show (x 1).val = ((x 1).val) % 128; omega
      · pointwise []; exact read0 m c t 16
      · pointwise []; exact read0 m c t 17
      · exact GG_emb (XA m c) (XS m c) t 128 1024 inb_S1x256x2048_S1x128x128_0_128_1024 x (by decide) (by decide)
    · intro (x : S1x128x128.Idx)
      have h1 : (x 1).val < 128 := (x 1).isLt
      refine (congrArg _ (ix_out x)).trans ?_
      repeat rw [Memref.IsWhole.read_unread]
      refine (gB_apply _ _ _ _ _ _ _ _ _ _ _ _ _ _ _ _ _ _ 3 _ (x 1) (x 2)).trans ?_
      refine (closeB (XA m c) (XS m c) t 1 3 _ _ _ _ _ _ _ _ _ (x 1) (x 2) hX hS ?_ ?_ ?_ ?_ ?_ ?_ ?_ ?_ ?_).trans ?_
      · intro k d; pointwise []; exact rc2 m c t _ _ _ _ _ _ (by simp) (by simp)
      · intro k d; pointwise []; exact rc2 m c t _ _ _ _ _ _ (by simp) (by simp)
      · intro k d; pointwise []; exact rc4 m c t _ _ _ _ _ _ (by simp) (by simp)
      · intro k d; pointwise []; exact rc4 m c t _ _ _ _ _ _ (by simp) (by simp)
      · intro k; show View.ld (X0_1 m c t) (Rect.unit ![0, 128, 896] ![1, 128, 128] inb_S1x256x2048_S1x128x128_0_128_896) (ix3 0 (x 1) k) = _
        pointwise []; exact rc1 m c t _ _ _ _ _ _ (by simp) (by simp)
      · intro k; pointwise []; refine rc6 m c t 2 k ⟨384 + (x 1).val, by omega⟩ _ _ ?_ ?_
        · show 14 = 2 / 2 * 8 + (384 + (x 1).val) / 128 * 2 + 2 % 2; omega
        · show (x 1).val = (384 + (x 1).val) % 128; omega
      · intro k; pointwise []; refine rc6 m c t 3 k ⟨384 + (x 1).val, by omega⟩ _ _ ?_ ?_
        · show 15 = 3 / 2 * 8 + (384 + (x 1).val) / 128 * 2 + 3 % 2; omega
        · show (x 1).val = (384 + (x 1).val) % 128; omega
      · pointwise []; exact read0 m c t 14
      · pointwise []; exact read0 m c t 15
      · exact GG_emb (XA m c) (XS m c) t 128 896 inb_S1x256x2048_S1x128x128_0_128_896 x (by decide) (by decide)
    · intro (x : S1x128x128.Idx)
      have h1 : (x 1).val < 128 := (x 1).isLt
      refine (congrArg _ (ix_out x)).trans ?_
      repeat rw [Memref.IsWhole.read_unread]
      refine (gB_apply _ _ _ _ _ _ _ _ _ _ _ _ _ _ _ _ _ _ 2 _ (x 1) (x 2)).trans ?_
      refine (closeB (XA m c) (XS m c) t 1 2 _ _ _ _ _ _ _ _ _ (x 1) (x 2) hX hS ?_ ?_ ?_ ?_ ?_ ?_ ?_ ?_ ?_).trans ?_
      · intro k d; pointwise []; exact rc2 m c t _ _ _ _ _ _ (by simp) (by simp)
      · intro k d; pointwise []; exact rc2 m c t _ _ _ _ _ _ (by simp) (by simp)
      · intro k d; pointwise []; exact rc4 m c t _ _ _ _ _ _ (by simp) (by simp)
      · intro k d; pointwise []; exact rc4 m c t _ _ _ _ _ _ (by simp) (by simp)
      · intro k; show View.ld (X0_1 m c t) (Rect.unit ![0, 128, 768] ![1, 128, 128] inb_S1x256x2048_S1x128x128_0_128_768) (ix3 0 (x 1) k) = _
        pointwise []; exact rc1 m c t _ _ _ _ _ _ (by simp) (by simp)
      · intro k; pointwise []; refine rc6 m c t 2 k ⟨256 + (x 1).val, by omega⟩ _ _ ?_ ?_
        · show 12 = 2 / 2 * 8 + (256 + (x 1).val) / 128 * 2 + 2 % 2; omega
        · show (x 1).val = (256 + (x 1).val) % 128; omega
      · intro k; pointwise []; refine rc6 m c t 3 k ⟨256 + (x 1).val, by omega⟩ _ _ ?_ ?_
        · show 13 = 3 / 2 * 8 + (256 + (x 1).val) / 128 * 2 + 3 % 2; omega
        · show (x 1).val = (256 + (x 1).val) % 128; omega
      · pointwise []; exact read0 m c t 12
      · pointwise []; exact read0 m c t 13
      · exact GG_emb (XA m c) (XS m c) t 128 768 inb_S1x256x2048_S1x128x128_0_128_768 x (by decide) (by decide)
    · intro (x : S1x128x128.Idx)
      have h1 : (x 1).val < 128 := (x 1).isLt
      refine (congrArg _ (ix_out x)).trans ?_
      repeat rw [Memref.IsWhole.read_unread]
      refine (gB_apply _ _ _ _ _ _ _ _ _ _ _ _ _ _ _ _ _ _ 1 _ (x 1) (x 2)).trans ?_
      refine (closeB (XA m c) (XS m c) t 1 1 _ _ _ _ _ _ _ _ _ (x 1) (x 2) hX hS ?_ ?_ ?_ ?_ ?_ ?_ ?_ ?_ ?_).trans ?_
      · intro k d; pointwise []; exact rc2 m c t _ _ _ _ _ _ (by simp) (by simp)
      · intro k d; pointwise []; exact rc2 m c t _ _ _ _ _ _ (by simp) (by simp)
      · intro k d; pointwise []; exact rc4 m c t _ _ _ _ _ _ (by simp) (by simp)
      · intro k d; pointwise []; exact rc4 m c t _ _ _ _ _ _ (by simp) (by simp)
      · intro k; show View.ld (X0_1 m c t) (Rect.unit ![0, 128, 640] ![1, 128, 128] inb_S1x256x2048_S1x128x128_0_128_640) (ix3 0 (x 1) k) = _
        pointwise []; exact rc1 m c t _ _ _ _ _ _ (by simp) (by simp)
      · intro k; pointwise []; refine rc6 m c t 2 k ⟨128 + (x 1).val, by omega⟩ _ _ ?_ ?_
        · show 10 = 2 / 2 * 8 + (128 + (x 1).val) / 128 * 2 + 2 % 2; omega
        · show (x 1).val = (128 + (x 1).val) % 128; omega
      · intro k; pointwise []; refine rc6 m c t 3 k ⟨128 + (x 1).val, by omega⟩ _ _ ?_ ?_
        · show 11 = 3 / 2 * 8 + (128 + (x 1).val) / 128 * 2 + 3 % 2; omega
        · show (x 1).val = (128 + (x 1).val) % 128; omega
      · pointwise []; exact read0 m c t 10
      · pointwise []; exact read0 m c t 11
      · exact GG_emb (XA m c) (XS m c) t 128 640 inb_S1x256x2048_S1x128x128_0_128_640 x (by decide) (by decide)
    · intro (x : S1x128x128.Idx)
      have h1 : (x 1).val < 128 := (x 1).isLt
      refine (congrArg _ (ix_out x)).trans ?_
      repeat rw [Memref.IsWhole.read_unread]
      refine (gB_apply _ _ _ _ _ _ _ _ _ _ _ _ _ _ _ _ _ _ 0 _ (x 1) (x 2)).trans ?_
      refine (closeB (XA m c) (XS m c) t 1 0 _ _ _ _ _ _ _ _ _ (x 1) (x 2) hX hS ?_ ?_ ?_ ?_ ?_ ?_ ?_ ?_ ?_).trans ?_
      · intro k d; pointwise []; exact rc2 m c t _ _ _ _ _ _ (by simp) (by simp)
      · intro k d; pointwise []; exact rc2 m c t _ _ _ _ _ _ (by simp) (by simp)
      · intro k d; pointwise []; exact rc4 m c t _ _ _ _ _ _ (by simp) (by simp)
      · intro k d; pointwise []; exact rc4 m c t _ _ _ _ _ _ (by simp) (by simp)
      · intro k; show View.ld (X0_1 m c t) (Rect.unit ![0, 128, 512] ![1, 128, 128] inb_S1x256x2048_S1x128x128_0_128_512) (ix3 0 (x 1) k) = _
        pointwise []; exact rc1 m c t _ _ _ _ _ _ (by simp) (by simp)
      · intro k; pointwise []; refine rc6 m c t 2 k ⟨(x 1).val, by omega⟩ _ _ ?_ ?_
        · show 8 = 2 / 2 * 8 + ((x 1).val) / 128 * 2 + 2 % 2; omega
        · show (x 1).val = ((x 1).val) % 128; omega
      · intro k; pointwise []; refine rc6 m c t 3 k ⟨(x 1).val, by omega⟩ _ _ ?_ ?_
        · show 9 = 3 / 2 * 8 + ((x 1).val) / 128 * 2 + 3 % 2; omega
        · show (x 1).val = ((x 1).val) % 128; omega
      · pointwise []; exact read0 m c t 8
      · pointwise []; exact read0 m c t 9
      · exact GG_emb (XA m c) (XS m c) t 128 512 inb_S1x256x2048_S1x128x128_0_128_512 x (by decide) (by decide)
    · intro (x : S1x128x128.Idx)
      have h1 : (x 1).val < 128 := (x 1).isLt
      refine (congrArg _ (ix_out x)).trans ?_
      repeat rw [Memref.IsWhole.read_unread]
      refine (gB_apply _ _ _ _ _ _ _ _ _ _ _ _ _ _ _ _ _ _ 3 _ (x 1) (x 2)).trans ?_
      refine (closeB (XA m c) (XS m c) t 0 3 _ _ _ _ _ _ _ _ _ (x 1) (x 2) hX hS ?_ ?_ ?_ ?_ ?_ ?_ ?_ ?_ ?_).trans ?_
      · intro k d; pointwise []; exact rc2 m c t _ _ _ _ _ _ (by simp) (by simp)
      · intro k d; pointwise []; exact rc2 m c t _ _ _ _ _ _ (by simp) (by simp)
      · intro k d; pointwise []; exact rc4 m c t _ _ _ _ _ _ (by simp) (by simp)
      · intro k d; pointwise []; exact rc4 m c t _ _ _ _ _ _ (by simp) (by simp)
      · intro k; show View.ld (X0_1 m c t) (Rect.unit ![0, 128, 384] ![1, 128, 128] inb_S1x256x2048_S1x128x128_0_128_384) (ix3 0 (x 1) k) = _
        pointwise []; exact rc1 m c t _ _ _ _ _ _ (by simp) (by simp)
      · intro k; pointwise []; refine rc6 m c t 0 k ⟨384 + (x 1).val, by omega⟩ _ _ ?_ ?_
        · show 6 = 0 / 2 * 8 + (384 + (x 1).val) / 128 * 2 + 0 % 2; omega
        · show (x 1).val = (384 + (x 1).val) % 128; omega
      · intro k; pointwise []; refine rc6 m c t 1 k ⟨384 + (x 1).val, by omega⟩ _ _ ?_ ?_
        · show 7 = 1 / 2 * 8 + (384 + (x 1).val) / 128 * 2 + 1 % 2; omega
        · show (x 1).val = (384 + (x 1).val) % 128; omega
      · pointwise []; exact read0 m c t 6
      · pointwise []; exact read0 m c t 7
      · exact GG_emb (XA m c) (XS m c) t 128 384 inb_S1x256x2048_S1x128x128_0_128_384 x (by decide) (by decide)
    · intro (x : S1x128x128.Idx)
      have h1 : (x 1).val < 128 := (x 1).isLt
      refine (congrArg _ (ix_out x)).trans ?_
      repeat rw [Memref.IsWhole.read_unread]
      refine (gB_apply _ _ _ _ _ _ _ _ _ _ _ _ _ _ _ _ _ _ 2 _ (x 1) (x 2)).trans ?_
      refine (closeB (XA m c) (XS m c) t 0 2 _ _ _ _ _ _ _ _ _ (x 1) (x 2) hX hS ?_ ?_ ?_ ?_ ?_ ?_ ?_ ?_ ?_).trans ?_
      · intro k d; pointwise []; exact rc2 m c t _ _ _ _ _ _ (by simp) (by simp)
      · intro k d; pointwise []; exact rc2 m c t _ _ _ _ _ _ (by simp) (by simp)
      · intro k d; pointwise []; exact rc4 m c t _ _ _ _ _ _ (by simp) (by simp)
      · intro k d; pointwise []; exact rc4 m c t _ _ _ _ _ _ (by simp) (by simp)
      · intro k; show View.ld (X0_1 m c t) (Rect.unit ![0, 128, 256] ![1, 128, 128] inb_S1x256x2048_S1x128x128_0_128_256) (ix3 0 (x 1) k) = _
        pointwise []; exact rc1 m c t _ _ _ _ _ _ (by simp) (by simp)
      · intro k; pointwise []; refine rc6 m c t 0 k ⟨256 + (x 1).val, by omega⟩ _ _ ?_ ?_
        · show 4 = 0 / 2 * 8 + (256 + (x 1).val) / 128 * 2 + 0 % 2; omega
        · show (x 1).val = (256 + (x 1).val) % 128; omega
      · intro k; pointwise []; refine rc6 m c t 1 k ⟨256 + (x 1).val, by omega⟩ _ _ ?_ ?_
        · show 5 = 1 / 2 * 8 + (256 + (x 1).val) / 128 * 2 + 1 % 2; omega
        · show (x 1).val = (256 + (x 1).val) % 128; omega
      · pointwise []; exact read0 m c t 4
      · pointwise []; exact read0 m c t 5
      · exact GG_emb (XA m c) (XS m c) t 128 256 inb_S1x256x2048_S1x128x128_0_128_256 x (by decide) (by decide)
    · intro (x : S1x128x128.Idx)
      have h1 : (x 1).val < 128 := (x 1).isLt
      refine (congrArg _ (ix_out x)).trans ?_
      repeat rw [Memref.IsWhole.read_unread]
      refine (gB_apply _ _ _ _ _ _ _ _ _ _ _ _ _ _ _ _ _ _ 1 _ (x 1) (x 2)).trans ?_
      refine (closeB (XA m c) (XS m c) t 0 1 _ _ _ _ _ _ _ _ _ (x 1) (x 2) hX hS ?_ ?_ ?_ ?_ ?_ ?_ ?_ ?_ ?_).trans ?_
      · intro k d; pointwise []; exact rc2 m c t _ _ _ _ _ _ (by simp) (by simp)
      · intro k d; pointwise []; exact rc2 m c t _ _ _ _ _ _ (by simp) (by simp)
      · intro k d; pointwise []; exact rc4 m c t _ _ _ _ _ _ (by simp) (by simp)
      · intro k d; pointwise []; exact rc4 m c t _ _ _ _ _ _ (by simp) (by simp)
      · intro k; show View.ld (X0_1 m c t) (Rect.unit ![0, 128, 128] ![1, 128, 128] inb_S1x256x2048_S1x128x128_0_128_128) (ix3 0 (x 1) k) = _
        pointwise []; exact rc1 m c t _ _ _ _ _ _ (by simp) (by simp)
      · intro k; pointwise []; refine rc6 m c t 0 k ⟨128 + (x 1).val, by omega⟩ _ _ ?_ ?_
        · show 2 = 0 / 2 * 8 + (128 + (x 1).val) / 128 * 2 + 0 % 2; omega
        · show (x 1).val = (128 + (x 1).val) % 128; omega
      · intro k; pointwise []; refine rc6 m c t 1 k ⟨128 + (x 1).val, by omega⟩ _ _ ?_ ?_
        · show 3 = 1 / 2 * 8 + (128 + (x 1).val) / 128 * 2 + 1 % 2; omega
        · show (x 1).val = (128 + (x 1).val) % 128; omega
      · pointwise []; exact read0 m c t 2
      · pointwise []; exact read0 m c t 3
      · exact GG_emb (XA m c) (XS m c) t 128 128 inb_S1x256x2048_S1x128x128_0_128_128 x (by decide) (by decide)
    · intro (x : S1x128x128.Idx)
      have h1 : (x 1).val < 128 := (x 1).isLt
      refine (congrArg _ (ix_out x)).trans ?_
      repeat rw [Memref.IsWhole.read_unread]
      refine (gB_apply _ _ _ _ _ _ _ _ _ _ _ _ _ _ _ _ _ _ 0 _ (x 1) (x 2)).trans ?_
      refine (closeB (XA m c) (XS m c) t 0 0 _ _ _ _ _ _ _ _ _ (x 1) (x 2) hX hS ?_ ?_ ?_ ?_ ?_ ?_ ?_ ?_ ?_).trans ?_
      · intro k d; pointwise []; exact rc2 m c t _ _ _ _ _ _ (by simp) (by simp)
      · intro k d; pointwise []; exact rc2 m c t _ _ _ _ _ _ (by simp) (by simp)
      · intro k d; pointwise []; exact rc4 m c t _ _ _ _ _ _ (by simp) (by simp)
      · intro k d; pointwise []; exact rc4 m c t _ _ _ _ _ _ (by simp) (by simp)
      · intro k; show View.ld (X0_1 m c t) (Rect.unit ![0, 128, 0] ![1, 128, 128] inb_S1x256x2048_S1x128x128_0_128_0) (ix3 0 (x 1) k) = _
        pointwise []; exact rc1 m c t _ _ _ _ _ _ (by simp) (by simp)
      · intro k; pointwise []; refine rc6 m c t 0 k ⟨(x 1).val, by omega⟩ _ _ ?_ ?_
        · show 0 = 0 / 2 * 8 + ((x 1).val) / 128 * 2 + 0 % 2; omega
        · show (x 1).val = ((x 1).val) % 128; omega
      · intro k; pointwise []; refine rc6 m c t 1 k ⟨(x 1).val, by omega⟩ _ _ ?_ ?_
        · show 1 = 1 / 2 * 8 + ((x 1).val) / 128 * 2 + 1 % 2; omega
        · show (x 1).val = ((x 1).val) % 128; omega
      · pointwise []; exact read0 m c t 0
      · pointwise []; exact read0 m c t 1
      · exact GG_emb (XA m c) (XS m c) t 128 0 inb_S1x256x2048_S1x128x128_0_128_0 x (by decide) (by decide)
    · intro (x : S1x128x128.Idx)
      have h1 : (x 1).val < 128 := (x 1).isLt
      refine (congrArg _ (ix_out x)).trans ?_
      simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195]
      repeat rw [Memref.IsWhole.read_unread]
      refine (gA_apply _ _ _ _ _ _ _ _ _ _ _ _ _ _ _ _ _ _ _ 3 _ (x 1) (x 2)).trans ?_
      refine (closeF (XA m c) (XS m c) t 3 3 _ _ _ _ _ _ _ _ _ (x 1) (x 2) hX hS _ (coord t) ?_ ?_ ?_ ?_ ?_ ?_ ?_ ?_ ?_).trans ?_
      · intro k d; pointwise []; exact rc3 m c t _ _ _ _ _ _ (by simp) (by simp)
      · intro k d; pointwise []; exact rc2 m c t _ _ _ _ _ _ (by simp) (by simp)
      · intro k d; pointwise []; exact rc5 m c t _ _ _ _ _ _ (by simp) (by simp)
      · intro k d; pointwise []; exact rc4 m c t _ _ _ _ _ _ (by simp) (by simp)
      · intro k; show View.ld (X0_1 m c t) (Rect.unit ![0, 0, 1920] ![1, 128, 128] inb_S1x256x2048_S1x128x128_0_0_1920) (ix3 0 (x 1) k) = _
        pointwise []; exact rc1 m c t _ _ _ _ _ _ (by simp) (by simp)
      · intro k; pointwise []; refine rc6 m c t 6 k ⟨384 + (x 1).val, by omega⟩ _ _ ?_ ?_
        · show 30 = 6 / 2 * 8 + (384 + (x 1).val) / 128 * 2 + 6 % 2; omega
        · show (x 1).val = (384 + (x 1).val) % 128; omega
      · intro k; pointwise []; refine rc6 m c t 7 k ⟨384 + (x 1).val, by omega⟩ _ _ ?_ ?_
        · show 31 = 7 / 2 * 8 + (384 + (x 1).val) / 128 * 2 + 7 % 2; omega
        · show (x 1).val = (384 + (x 1).val) % 128; omega
      · pointwise []; exact read0 m c t 30
      · pointwise []; exact read0 m c t 31
      · exact GG_emb (XA m c) (XS m c) t 0 1920 inb_S1x256x2048_S1x128x128_0_0_1920 x (by decide) (by decide)
    · intro (x : S1x128x128.Idx)
      have h1 : (x 1).val < 128 := (x 1).isLt
      refine (congrArg _ (ix_out x)).trans ?_
      simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195]
      repeat rw [Memref.IsWhole.read_unread]
      refine (gA_apply _ _ _ _ _ _ _ _ _ _ _ _ _ _ _ _ _ _ _ 2 _ (x 1) (x 2)).trans ?_
      refine (closeF (XA m c) (XS m c) t 3 2 _ _ _ _ _ _ _ _ _ (x 1) (x 2) hX hS _ (coord t) ?_ ?_ ?_ ?_ ?_ ?_ ?_ ?_ ?_).trans ?_
      · intro k d; pointwise []; exact rc3 m c t _ _ _ _ _ _ (by simp) (by simp)
      · intro k d; pointwise []; exact rc2 m c t _ _ _ _ _ _ (by simp) (by simp)
      · intro k d; pointwise []; exact rc5 m c t _ _ _ _ _ _ (by simp) (by simp)
      · intro k d; pointwise []; exact rc4 m c t _ _ _ _ _ _ (by simp) (by simp)
      · intro k; show View.ld (X0_1 m c t) (Rect.unit ![0, 0, 1792] ![1, 128, 128] inb_S1x256x2048_S1x128x128_0_0_1792) (ix3 0 (x 1) k) = _
        pointwise []; exact rc1 m c t _ _ _ _ _ _ (by simp) (by simp)
      · intro k; pointwise []; refine rc6 m c t 6 k ⟨256 + (x 1).val, by omega⟩ _ _ ?_ ?_
        · show 28 = 6 / 2 * 8 + (256 + (x 1).val) / 128 * 2 + 6 % 2; omega
        · show (x 1).val = (256 + (x 1).val) % 128; omega
      · intro k; pointwise []; refine rc6 m c t 7 k ⟨256 + (x 1).val, by omega⟩ _ _ ?_ ?_
        · show 29 = 7 / 2 * 8 + (256 + (x 1).val) / 128 * 2 + 7 % 2; omega
        · show (x 1).val = (256 + (x 1).val) % 128; omega
      · pointwise []; exact read0 m c t 28
      · pointwise []; exact read0 m c t 29
      · exact GG_emb (XA m c) (XS m c) t 0 1792 inb_S1x256x2048_S1x128x128_0_0_1792 x (by decide) (by decide)
    · intro (x : S1x128x128.Idx)
      have h1 : (x 1).val < 128 := (x 1).isLt
      refine (congrArg _ (ix_out x)).trans ?_
      simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195]
      repeat rw [Memref.IsWhole.read_unread]
      refine (gA_apply _ _ _ _ _ _ _ _ _ _ _ _ _ _ _ _ _ _ _ 1 _ (x 1) (x 2)).trans ?_
      refine (closeF (XA m c) (XS m c) t 3 1 _ _ _ _ _ _ _ _ _ (x 1) (x 2) hX hS _ (coord t) ?_ ?_ ?_ ?_ ?_ ?_ ?_ ?_ ?_).trans ?_
      · intro k d; pointwise []; exact rc3 m c t _ _ _ _ _ _ (by simp) (by simp)
      · intro k d; pointwise []; exact rc2 m c t _ _ _ _ _ _ (by simp) (by simp)
      · intro k d; pointwise []; exact rc5 m c t _ _ _ _ _ _ (by simp) (by simp)
      · intro k d; pointwise []; exact rc4 m c t _ _ _ _ _ _ (by simp) (by simp)
      · intro k; show View.ld (X0_1 m c t) (Rect.unit ![0, 0, 1664] ![1, 128, 128] inb_S1x256x2048_S1x128x128_0_0_1664) (ix3 0 (x 1) k) = _
        pointwise []; exact rc1 m c t _ _ _ _ _ _ (by simp) (by simp)
      · intro k; pointwise []; refine rc6 m c t 6 k ⟨128 + (x 1).val, by omega⟩ _ _ ?_ ?_
        · show 26 = 6 / 2 * 8 + (128 + (x 1).val) / 128 * 2 + 6 % 2; omega
        · show (x 1).val = (128 + (x 1).val) % 128; omega
      · intro k; pointwise []; refine rc6 m c t 7 k ⟨128 + (x 1).val, by omega⟩ _ _ ?_ ?_
        · show 27 = 7 / 2 * 8 + (128 + (x 1).val) / 128 * 2 + 7 % 2; omega
        · show (x 1).val = (128 + (x 1).val) % 128; omega
      · pointwise []; exact read0 m c t 26
      · pointwise []; exact read0 m c t 27
      · exact GG_emb (XA m c) (XS m c) t 0 1664 inb_S1x256x2048_S1x128x128_0_0_1664 x (by decide) (by decide)
    · intro (x : S1x128x128.Idx)
      have h1 : (x 1).val < 128 := (x 1).isLt
      refine (congrArg _ (ix_out x)).trans ?_
      simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195]
      repeat rw [Memref.IsWhole.read_unread]
      refine (gA_apply _ _ _ _ _ _ _ _ _ _ _ _ _ _ _ _ _ _ _ 0 _ (x 1) (x 2)).trans ?_
      refine (closeF (XA m c) (XS m c) t 3 0 _ _ _ _ _ _ _ _ _ (x 1) (x 2) hX hS _ (coord t) ?_ ?_ ?_ ?_ ?_ ?_ ?_ ?_ ?_).trans ?_
      · intro k d; pointwise []; exact rc3 m c t _ _ _ _ _ _ (by simp) (by simp)
      · intro k d; pointwise []; exact rc2 m c t _ _ _ _ _ _ (by simp) (by simp)
      · intro k d; pointwise []; exact rc5 m c t _ _ _ _ _ _ (by simp) (by simp)
      · intro k d; pointwise []; exact rc4 m c t _ _ _ _ _ _ (by simp) (by simp)
      · intro k; show View.ld (X0_1 m c t) (Rect.unit ![0, 0, 1536] ![1, 128, 128] inb_S1x256x2048_S1x128x128_0_0_1536) (ix3 0 (x 1) k) = _
        pointwise []; exact rc1 m c t _ _ _ _ _ _ (by simp) (by simp)
      · intro k; pointwise []; refine rc6 m c t 6 k ⟨(x 1).val, by omega⟩ _ _ ?_ ?_
        · show 24 = 6 / 2 * 8 + ((x 1).val) / 128 * 2 + 6 % 2; omega
        · show (x 1).val = ((x 1).val) % 128; omega
      · intro k; pointwise []; refine rc6 m c t 7 k ⟨(x 1).val, by omega⟩ _ _ ?_ ?_
        · show 25 = 7 / 2 * 8 + ((x 1).val) / 128 * 2 + 7 % 2; omega
        · show (x 1).val = ((x 1).val) % 128; omega
      · pointwise []; exact read0 m c t 24
      · pointwise []; exact read0 m c t 25
      · exact GG_emb (XA m c) (XS m c) t 0 1536 inb_S1x256x2048_S1x128x128_0_0_1536 x (by decide) (by decide)
    · intro (x : S1x128x128.Idx)
      have h1 : (x 1).val < 128 := (x 1).isLt
      refine (congrArg _ (ix_out x)).trans ?_
      simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195]
      repeat rw [Memref.IsWhole.read_unread]
      refine (gA_apply _ _ _ _ _ _ _ _ _ _ _ _ _ _ _ _ _ _ _ 3 _ (x 1) (x 2)).trans ?_
      refine (closeF (XA m c) (XS m c) t 2 3 _ _ _ _ _ _ _ _ _ (x 1) (x 2) hX hS _ (coord t) ?_ ?_ ?_ ?_ ?_ ?_ ?_ ?_ ?_).trans ?_
      · intro k d; pointwise []; exact rc3 m c t _ _ _ _ _ _ (by simp) (by simp)
      · intro k d; pointwise []; exact rc2 m c t _ _ _ _ _ _ (by simp) (by simp)
      · intro k d; pointwise []; exact rc5 m c t _ _ _ _ _ _ (by simp) (by simp)
      · intro k d; pointwise []; exact rc4 m c t _ _ _ _ _ _ (by simp) (by simp)
      · intro k; show View.ld (X0_1 m c t) (Rect.unit ![0, 0, 1408] ![1, 128, 128] inb_S1x256x2048_S1x128x128_0_0_1408) (ix3 0 (x 1) k) = _
        pointwise []; exact rc1 m c t _ _ _ _ _ _ (by simp) (by simp)
      · intro k; pointwise []; refine rc6 m c t 4 k ⟨384 + (x 1).val, by omega⟩ _ _ ?_ ?_
        · show 22 = 4 / 2 * 8 + (384 + (x 1).val) / 128 * 2 + 4 % 2; omega
        · show (x 1).val = (384 + (x 1).val) % 128; omega
      · intro k; pointwise []; refine rc6 m c t 5 k ⟨384 + (x 1).val, by omega⟩ _ _ ?_ ?_
        · show 23 = 5 / 2 * 8 + (384 + (x 1).val) / 128 * 2 + 5 % 2; omega
        · show (x 1).val = (384 + (x 1).val) % 128; omega
      · pointwise []; exact read0 m c t 22
      · pointwise []; exact read0 m c t 23
      · exact GG_emb (XA m c) (XS m c) t 0 1408 inb_S1x256x2048_S1x128x128_0_0_1408 x (by decide) (by decide)
    · intro (x : S1x128x128.Idx)
      have h1 : (x 1).val < 128 := (x 1).isLt
      refine (congrArg _ (ix_out x)).trans ?_
      simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195]
      repeat rw [Memref.IsWhole.read_unread]
      refine (gA_apply _ _ _ _ _ _ _ _ _ _ _ _ _ _ _ _ _ _ _ 2 _ (x 1) (x 2)).trans ?_
      refine (closeF (XA m c) (XS m c) t 2 2 _ _ _ _ _ _ _ _ _ (x 1) (x 2) hX hS _ (coord t) ?_ ?_ ?_ ?_ ?_ ?_ ?_ ?_ ?_).trans ?_
      · intro k d; pointwise []; exact rc3 m c t _ _ _ _ _ _ (by simp) (by simp)
      · intro k d; pointwise []; exact rc2 m c t _ _ _ _ _ _ (by simp) (by simp)
      · intro k d; pointwise []; exact rc5 m c t _ _ _ _ _ _ (by simp) (by simp)
      · intro k d; pointwise []; exact rc4 m c t _ _ _ _ _ _ (by simp) (by simp)
      · intro k; show View.ld (X0_1 m c t) (Rect.unit ![0, 0, 1280] ![1, 128, 128] inb_S1x256x2048_S1x128x128_0_0_1280) (ix3 0 (x 1) k) = _
        pointwise []; exact rc1 m c t _ _ _ _ _ _ (by simp) (by simp)
      · intro k; pointwise []; refine rc6 m c t 4 k ⟨256 + (x 1).val, by omega⟩ _ _ ?_ ?_
        · show 20 = 4 / 2 * 8 + (256 + (x 1).val) / 128 * 2 + 4 % 2; omega
        · show (x 1).val = (256 + (x 1).val) % 128; omega
      · intro k; pointwise []; refine rc6 m c t 5 k ⟨256 + (x 1).val, by omega⟩ _ _ ?_ ?_
        · show 21 = 5 / 2 * 8 + (256 + (x 1).val) / 128 * 2 + 5 % 2; omega
        · show (x 1).val = (256 + (x 1).val) % 128; omega
      · pointwise []; exact read0 m c t 20
      · pointwise []; exact read0 m c t 21
      · exact GG_emb (XA m c) (XS m c) t 0 1280 inb_S1x256x2048_S1x128x128_0_0_1280 x (by decide) (by decide)
    · intro (x : S1x128x128.Idx)
      have h1 : (x 1).val < 128 := (x 1).isLt
      refine (congrArg _ (ix_out x)).trans ?_
      simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195]
      repeat rw [Memref.IsWhole.read_unread]
      refine (gA_apply _ _ _ _ _ _ _ _ _ _ _ _ _ _ _ _ _ _ _ 1 _ (x 1) (x 2)).trans ?_
      refine (closeF (XA m c) (XS m c) t 2 1 _ _ _ _ _ _ _ _ _ (x 1) (x 2) hX hS _ (coord t) ?_ ?_ ?_ ?_ ?_ ?_ ?_ ?_ ?_).trans ?_
      · intro k d; pointwise []; exact rc3 m c t _ _ _ _ _ _ (by simp) (by simp)
      · intro k d; pointwise []; exact rc2 m c t _ _ _ _ _ _ (by simp) (by simp)
      · intro k d; pointwise []; exact rc5 m c t _ _ _ _ _ _ (by simp) (by simp)
      · intro k d; pointwise []; exact rc4 m c t _ _ _ _ _ _ (by simp) (by simp)
      · intro k; show View.ld (X0_1 m c t) (Rect.unit ![0, 0, 1152] ![1, 128, 128] inb_S1x256x2048_S1x128x128_0_0_1152) (ix3 0 (x 1) k) = _
        pointwise []; exact rc1 m c t _ _ _ _ _ _ (by simp) (by simp)
      · intro k; pointwise []; refine rc6 m c t 4 k ⟨128 + (x 1).val, by omega⟩ _ _ ?_ ?_
        · show 18 = 4 / 2 * 8 + (128 + (x 1).val) / 128 * 2 + 4 % 2; omega
        · show (x 1).val = (128 + (x 1).val) % 128; omega
      · intro k; pointwise []; refine rc6 m c t 5 k ⟨128 + (x 1).val, by omega⟩ _ _ ?_ ?_
        · show 19 = 5 / 2 * 8 + (128 + (x 1).val) / 128 * 2 + 5 % 2; omega
        · show (x 1).val = (128 + (x 1).val) % 128; omega
      · pointwise []; exact read0 m c t 18
      · pointwise []; exact read0 m c t 19
      · exact GG_emb (XA m c) (XS m c) t 0 1152 inb_S1x256x2048_S1x128x128_0_0_1152 x (by decide) (by decide)
    · intro (x : S1x128x128.Idx)
      have h1 : (x 1).val < 128 := (x 1).isLt
      refine (congrArg _ (ix_out x)).trans ?_
      simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195]
      repeat rw [Memref.IsWhole.read_unread]
      refine (gA_apply _ _ _ _ _ _ _ _ _ _ _ _ _ _ _ _ _ _ _ 0 _ (x 1) (x 2)).trans ?_
      refine (closeF (XA m c) (XS m c) t 2 0 _ _ _ _ _ _ _ _ _ (x 1) (x 2) hX hS _ (coord t) ?_ ?_ ?_ ?_ ?_ ?_ ?_ ?_ ?_).trans ?_
      · intro k d; pointwise []; exact rc3 m c t _ _ _ _ _ _ (by simp) (by simp)
      · intro k d; pointwise []; exact rc2 m c t _ _ _ _ _ _ (by simp) (by simp)
      · intro k d; pointwise []; exact rc5 m c t _ _ _ _ _ _ (by simp) (by simp)
      · intro k d; pointwise []; exact rc4 m c t _ _ _ _ _ _ (by simp) (by simp)
      · intro k; show View.ld (X0_1 m c t) (Rect.unit ![0, 0, 1024] ![1, 128, 128] inb_S1x256x2048_S1x128x128_0_0_1024) (ix3 0 (x 1) k) = _
        pointwise []; exact rc1 m c t _ _ _ _ _ _ (by simp) (by simp)
      · intro k; pointwise []; refine rc6 m c t 4 k ⟨(x 1).val, by omega⟩ _ _ ?_ ?_
        · show 16 = 4 / 2 * 8 + ((x 1).val) / 128 * 2 + 4 % 2; omega
        · show (x 1).val = ((x 1).val) % 128; omega
      · intro k; pointwise []; refine rc6 m c t 5 k ⟨(x 1).val, by omega⟩ _ _ ?_ ?_
        · show 17 = 5 / 2 * 8 + ((x 1).val) / 128 * 2 + 5 % 2; omega
        · show (x 1).val = ((x 1).val) % 128; omega
      · pointwise []; exact read0 m c t 16
      · pointwise []; exact read0 m c t 17
      · exact GG_emb (XA m c) (XS m c) t 0 1024 inb_S1x256x2048_S1x128x128_0_0_1024 x (by decide) (by decide)
    · intro (x : S1x128x128.Idx)
      have h1 : (x 1).val < 128 := (x 1).isLt
      refine (congrArg _ (ix_out x)).trans ?_
      simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195]
      repeat rw [Memref.IsWhole.read_unread]
      refine (gA_apply _ _ _ _ _ _ _ _ _ _ _ _ _ _ _ _ _ _ _ 3 _ (x 1) (x 2)).trans ?_
      refine (closeF (XA m c) (XS m c) t 1 3 _ _ _ _ _ _ _ _ _ (x 1) (x 2) hX hS _ (coord t) ?_ ?_ ?_ ?_ ?_ ?_ ?_ ?_ ?_).trans ?_
      · intro k d; pointwise []; exact rc3 m c t _ _ _ _ _ _ (by simp) (by simp)
      · intro k d; pointwise []; exact rc2 m c t _ _ _ _ _ _ (by simp) (by simp)
      · intro k d; pointwise []; exact rc5 m c t _ _ _ _ _ _ (by simp) (by simp)
      · intro k d; pointwise []; exact rc4 m c t _ _ _ _ _ _ (by simp) (by simp)
      · intro k; show View.ld (X0_1 m c t) (Rect.unit ![0, 0, 896] ![1, 128, 128] inb_S1x256x2048_S1x128x128_0_0_896) (ix3 0 (x 1) k) = _
        pointwise []; exact rc1 m c t _ _ _ _ _ _ (by simp) (by simp)
      · intro k; pointwise []; refine rc6 m c t 2 k ⟨384 + (x 1).val, by omega⟩ _ _ ?_ ?_
        · show 14 = 2 / 2 * 8 + (384 + (x 1).val) / 128 * 2 + 2 % 2; omega
        · show (x 1).val = (384 + (x 1).val) % 128; omega
      · intro k; pointwise []; refine rc6 m c t 3 k ⟨384 + (x 1).val, by omega⟩ _ _ ?_ ?_
        · show 15 = 3 / 2 * 8 + (384 + (x 1).val) / 128 * 2 + 3 % 2; omega
        · show (x 1).val = (384 + (x 1).val) % 128; omega
      · pointwise []; exact read0 m c t 14
      · pointwise []; exact read0 m c t 15
      · exact GG_emb (XA m c) (XS m c) t 0 896 inb_S1x256x2048_S1x128x128_0_0_896 x (by decide) (by decide)
    · intro (x : S1x128x128.Idx)
      have h1 : (x 1).val < 128 := (x 1).isLt
      refine (congrArg _ (ix_out x)).trans ?_
      simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195]
      repeat rw [Memref.IsWhole.read_unread]
      refine (gA_apply _ _ _ _ _ _ _ _ _ _ _ _ _ _ _ _ _ _ _ 2 _ (x 1) (x 2)).trans ?_
      refine (closeF (XA m c) (XS m c) t 1 2 _ _ _ _ _ _ _ _ _ (x 1) (x 2) hX hS _ (coord t) ?_ ?_ ?_ ?_ ?_ ?_ ?_ ?_ ?_).trans ?_
      · intro k d; pointwise []; exact rc3 m c t _ _ _ _ _ _ (by simp) (by simp)
      · intro k d; pointwise []; exact rc2 m c t _ _ _ _ _ _ (by simp) (by simp)
      · intro k d; pointwise []; exact rc5 m c t _ _ _ _ _ _ (by simp) (by simp)
      · intro k d; pointwise []; exact rc4 m c t _ _ _ _ _ _ (by simp) (by simp)
      · intro k; show View.ld (X0_1 m c t) (Rect.unit ![0, 0, 768] ![1, 128, 128] inb_S1x256x2048_S1x128x128_0_0_768) (ix3 0 (x 1) k) = _
        pointwise []; exact rc1 m c t _ _ _ _ _ _ (by simp) (by simp)
      · intro k; pointwise []; refine rc6 m c t 2 k ⟨256 + (x 1).val, by omega⟩ _ _ ?_ ?_
        · show 12 = 2 / 2 * 8 + (256 + (x 1).val) / 128 * 2 + 2 % 2; omega
        · show (x 1).val = (256 + (x 1).val) % 128; omega
      · intro k; pointwise []; refine rc6 m c t 3 k ⟨256 + (x 1).val, by omega⟩ _ _ ?_ ?_
        · show 13 = 3 / 2 * 8 + (256 + (x 1).val) / 128 * 2 + 3 % 2; omega
        · show (x 1).val = (256 + (x 1).val) % 128; omega
      · pointwise []; exact read0 m c t 12
      · pointwise []; exact read0 m c t 13
      · exact GG_emb (XA m c) (XS m c) t 0 768 inb_S1x256x2048_S1x128x128_0_0_768 x (by decide) (by decide)
    · intro (x : S1x128x128.Idx)
      have h1 : (x 1).val < 128 := (x 1).isLt
      refine (congrArg _ (ix_out x)).trans ?_
      simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195]
      repeat rw [Memref.IsWhole.read_unread]
      refine (gA_apply _ _ _ _ _ _ _ _ _ _ _ _ _ _ _ _ _ _ _ 1 _ (x 1) (x 2)).trans ?_
      refine (closeF (XA m c) (XS m c) t 1 1 _ _ _ _ _ _ _ _ _ (x 1) (x 2) hX hS _ (coord t) ?_ ?_ ?_ ?_ ?_ ?_ ?_ ?_ ?_).trans ?_
      · intro k d; pointwise []; exact rc3 m c t _ _ _ _ _ _ (by simp) (by simp)
      · intro k d; pointwise []; exact rc2 m c t _ _ _ _ _ _ (by simp) (by simp)
      · intro k d; pointwise []; exact rc5 m c t _ _ _ _ _ _ (by simp) (by simp)
      · intro k d; pointwise []; exact rc4 m c t _ _ _ _ _ _ (by simp) (by simp)
      · intro k; show View.ld (X0_1 m c t) (Rect.unit ![0, 0, 640] ![1, 128, 128] inb_S1x256x2048_S1x128x128_0_0_640) (ix3 0 (x 1) k) = _
        pointwise []; exact rc1 m c t _ _ _ _ _ _ (by simp) (by simp)
      · intro k; pointwise []; refine rc6 m c t 2 k ⟨128 + (x 1).val, by omega⟩ _ _ ?_ ?_
        · show 10 = 2 / 2 * 8 + (128 + (x 1).val) / 128 * 2 + 2 % 2; omega
        · show (x 1).val = (128 + (x 1).val) % 128; omega
      · intro k; pointwise []; refine rc6 m c t 3 k ⟨128 + (x 1).val, by omega⟩ _ _ ?_ ?_
        · show 11 = 3 / 2 * 8 + (128 + (x 1).val) / 128 * 2 + 3 % 2; omega
        · show (x 1).val = (128 + (x 1).val) % 128; omega
      · pointwise []; exact read0 m c t 10
      · pointwise []; exact read0 m c t 11
      · exact GG_emb (XA m c) (XS m c) t 0 640 inb_S1x256x2048_S1x128x128_0_0_640 x (by decide) (by decide)
    · intro (x : S1x128x128.Idx)
      have h1 : (x 1).val < 128 := (x 1).isLt
      refine (congrArg _ (ix_out x)).trans ?_
      simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195]
      repeat rw [Memref.IsWhole.read_unread]
      refine (gA_apply _ _ _ _ _ _ _ _ _ _ _ _ _ _ _ _ _ _ _ 0 _ (x 1) (x 2)).trans ?_
      refine (closeF (XA m c) (XS m c) t 1 0 _ _ _ _ _ _ _ _ _ (x 1) (x 2) hX hS _ (coord t) ?_ ?_ ?_ ?_ ?_ ?_ ?_ ?_ ?_).trans ?_
      · intro k d; pointwise []; exact rc3 m c t _ _ _ _ _ _ (by simp) (by simp)
      · intro k d; pointwise []; exact rc2 m c t _ _ _ _ _ _ (by simp) (by simp)
      · intro k d; pointwise []; exact rc5 m c t _ _ _ _ _ _ (by simp) (by simp)
      · intro k d; pointwise []; exact rc4 m c t _ _ _ _ _ _ (by simp) (by simp)
      · intro k; show View.ld (X0_1 m c t) (Rect.unit ![0, 0, 512] ![1, 128, 128] inb_S1x256x2048_S1x128x128_0_0_512) (ix3 0 (x 1) k) = _
        pointwise []; exact rc1 m c t _ _ _ _ _ _ (by simp) (by simp)
      · intro k; pointwise []; refine rc6 m c t 2 k ⟨(x 1).val, by omega⟩ _ _ ?_ ?_
        · show 8 = 2 / 2 * 8 + ((x 1).val) / 128 * 2 + 2 % 2; omega
        · show (x 1).val = ((x 1).val) % 128; omega
      · intro k; pointwise []; refine rc6 m c t 3 k ⟨(x 1).val, by omega⟩ _ _ ?_ ?_
        · show 9 = 3 / 2 * 8 + ((x 1).val) / 128 * 2 + 3 % 2; omega
        · show (x 1).val = ((x 1).val) % 128; omega
      · pointwise []; exact read0 m c t 8
      · pointwise []; exact read0 m c t 9
      · exact GG_emb (XA m c) (XS m c) t 0 512 inb_S1x256x2048_S1x128x128_0_0_512 x (by decide) (by decide)
    · intro (x : S1x128x128.Idx)
      have h1 : (x 1).val < 128 := (x 1).isLt
      refine (congrArg _ (ix_out x)).trans ?_
      simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195]
      repeat rw [Memref.IsWhole.read_unread]
      refine (gA_apply _ _ _ _ _ _ _ _ _ _ _ _ _ _ _ _ _ _ _ 3 _ (x 1) (x 2)).trans ?_
      refine (closeF (XA m c) (XS m c) t 0 3 _ _ _ _ _ _ _ _ _ (x 1) (x 2) hX hS _ (coord t) ?_ ?_ ?_ ?_ ?_ ?_ ?_ ?_ ?_).trans ?_
      · intro k d; pointwise []; exact rc3 m c t _ _ _ _ _ _ (by simp) (by simp)
      · intro k d; pointwise []; exact rc2 m c t _ _ _ _ _ _ (by simp) (by simp)
      · intro k d; pointwise []; exact rc5 m c t _ _ _ _ _ _ (by simp) (by simp)
      · intro k d; pointwise []; exact rc4 m c t _ _ _ _ _ _ (by simp) (by simp)
      · intro k; show View.ld (X0_1 m c t) (Rect.unit ![0, 0, 384] ![1, 128, 128] inb_S1x256x2048_S1x128x128_0_0_384) (ix3 0 (x 1) k) = _
        pointwise []; exact rc1 m c t _ _ _ _ _ _ (by simp) (by simp)
      · intro k; pointwise []; refine rc6 m c t 0 k ⟨384 + (x 1).val, by omega⟩ _ _ ?_ ?_
        · show 6 = 0 / 2 * 8 + (384 + (x 1).val) / 128 * 2 + 0 % 2; omega
        · show (x 1).val = (384 + (x 1).val) % 128; omega
      · intro k; pointwise []; refine rc6 m c t 1 k ⟨384 + (x 1).val, by omega⟩ _ _ ?_ ?_
        · show 7 = 1 / 2 * 8 + (384 + (x 1).val) / 128 * 2 + 1 % 2; omega
        · show (x 1).val = (384 + (x 1).val) % 128; omega
      · pointwise []; exact read0 m c t 6
      · pointwise []; exact read0 m c t 7
      · exact GG_emb (XA m c) (XS m c) t 0 384 inb_S1x256x2048_S1x128x128_0_0_384 x (by decide) (by decide)
    · intro (x : S1x128x128.Idx)
      have h1 : (x 1).val < 128 := (x 1).isLt
      refine (congrArg _ (ix_out x)).trans ?_
      simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195]
      repeat rw [Memref.IsWhole.read_unread]
      refine (gA_apply _ _ _ _ _ _ _ _ _ _ _ _ _ _ _ _ _ _ _ 2 _ (x 1) (x 2)).trans ?_
      refine (closeF (XA m c) (XS m c) t 0 2 _ _ _ _ _ _ _ _ _ (x 1) (x 2) hX hS _ (coord t) ?_ ?_ ?_ ?_ ?_ ?_ ?_ ?_ ?_).trans ?_
      · intro k d; pointwise []; exact rc3 m c t _ _ _ _ _ _ (by simp) (by simp)
      · intro k d; pointwise []; exact rc2 m c t _ _ _ _ _ _ (by simp) (by simp)
      · intro k d; pointwise []; exact rc5 m c t _ _ _ _ _ _ (by simp) (by simp)
      · intro k d; pointwise []; exact rc4 m c t _ _ _ _ _ _ (by simp) (by simp)
      · intro k; show View.ld (X0_1 m c t) (Rect.unit ![0, 0, 256] ![1, 128, 128] inb_S1x256x2048_S1x128x128_0_0_256) (ix3 0 (x 1) k) = _
        pointwise []; exact rc1 m c t _ _ _ _ _ _ (by simp) (by simp)
      · intro k; pointwise []; refine rc6 m c t 0 k ⟨256 + (x 1).val, by omega⟩ _ _ ?_ ?_
        · show 4 = 0 / 2 * 8 + (256 + (x 1).val) / 128 * 2 + 0 % 2; omega
        · show (x 1).val = (256 + (x 1).val) % 128; omega
      · intro k; pointwise []; refine rc6 m c t 1 k ⟨256 + (x 1).val, by omega⟩ _ _ ?_ ?_
        · show 5 = 1 / 2 * 8 + (256 + (x 1).val) / 128 * 2 + 1 % 2; omega
        · show (x 1).val = (256 + (x 1).val) % 128; omega
      · pointwise []; exact read0 m c t 4
      · pointwise []; exact read0 m c t 5
      · exact GG_emb (XA m c) (XS m c) t 0 256 inb_S1x256x2048_S1x128x128_0_0_256 x (by decide) (by decide)
    · intro (x : S1x128x128.Idx)
      have h1 : (x 1).val < 128 := (x 1).isLt
      refine (congrArg _ (ix_out x)).trans ?_
      simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195]
      repeat rw [Memref.IsWhole.read_unread]
      refine (gA_apply _ _ _ _ _ _ _ _ _ _ _ _ _ _ _ _ _ _ _ 1 _ (x 1) (x 2)).trans ?_
      refine (closeF (XA m c) (XS m c) t 0 1 _ _ _ _ _ _ _ _ _ (x 1) (x 2) hX hS _ (coord t) ?_ ?_ ?_ ?_ ?_ ?_ ?_ ?_ ?_).trans ?_
      · intro k d; pointwise []; exact rc3 m c t _ _ _ _ _ _ (by simp) (by simp)
      · intro k d; pointwise []; exact rc2 m c t _ _ _ _ _ _ (by simp) (by simp)
      · intro k d; pointwise []; exact rc5 m c t _ _ _ _ _ _ (by simp) (by simp)
      · intro k d; pointwise []; exact rc4 m c t _ _ _ _ _ _ (by simp) (by simp)
      · intro k; show View.ld (X0_1 m c t) (Rect.unit ![0, 0, 128] ![1, 128, 128] inb_S1x256x2048_S1x128x128_0_0_128) (ix3 0 (x 1) k) = _
        pointwise []; exact rc1 m c t _ _ _ _ _ _ (by simp) (by simp)
      · intro k; pointwise []; refine rc6 m c t 0 k ⟨128 + (x 1).val, by omega⟩ _ _ ?_ ?_
        · show 2 = 0 / 2 * 8 + (128 + (x 1).val) / 128 * 2 + 0 % 2; omega
        · show (x 1).val = (128 + (x 1).val) % 128; omega
      · intro k; pointwise []; refine rc6 m c t 1 k ⟨128 + (x 1).val, by omega⟩ _ _ ?_ ?_
        · show 3 = 1 / 2 * 8 + (128 + (x 1).val) / 128 * 2 + 1 % 2; omega
        · show (x 1).val = (128 + (x 1).val) % 128; omega
      · pointwise []; exact read0 m c t 2
      · pointwise []; exact read0 m c t 3
      · exact GG_emb (XA m c) (XS m c) t 0 128 inb_S1x256x2048_S1x128x128_0_0_128 x (by decide) (by decide)
    · intro (x : S1x128x128.Idx)
      have h1 : (x 1).val < 128 := (x 1).isLt
      refine (congrArg _ (ix_out x)).trans ?_
      simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195]
      repeat rw [Memref.IsWhole.read_unread]
      refine (gA_apply _ _ _ _ _ _ _ _ _ _ _ _ _ _ _ _ _ _ _ 0 _ (x 1) (x 2)).trans ?_
      refine (closeF (XA m c) (XS m c) t 0 0 _ _ _ _ _ _ _ _ _ (x 1) (x 2) hX hS _ (coord t) ?_ ?_ ?_ ?_ ?_ ?_ ?_ ?_ ?_).trans ?_
      · intro k d; pointwise []; exact rc3 m c t _ _ _ _ _ _ (by simp) (by simp)
      · intro k d; pointwise []; exact rc2 m c t _ _ _ _ _ _ (by simp) (by simp)
      · intro k d; pointwise []; exact rc5 m c t _ _ _ _ _ _ (by simp) (by simp)
      · intro k d; pointwise []; exact rc4 m c t _ _ _ _ _ _ (by simp) (by simp)
      · intro k; show View.ld (X0_1 m c t) (Rect.unit ![0, 0, 0] ![1, 128, 128] inb_S1x256x2048_S1x128x128_0_0_0) (ix3 0 (x 1) k) = _
        pointwise []; exact rc1 m c t _ _ _ _ _ _ (by simp) (by simp)
      · intro k; pointwise []; refine rc6 m c t 0 k ⟨(x 1).val, by omega⟩ _ _ ?_ ?_
        · show 0 = 0 / 2 * 8 + ((x 1).val) / 128 * 2 + 0 % 2; omega
        · show (x 1).val = ((x 1).val) % 128; omega
      · intro k; pointwise []; refine rc6 m c t 1 k ⟨(x 1).val, by omega⟩ _ _ ?_ ?_
        · show 1 = 1 / 2 * 8 + ((x 1).val) / 128 * 2 + 1 % 2; omega
        · show (x 1).val = ((x 1).val) % 128; omega
      · pointwise []; exact read0 m c t 0
      · pointwise []; exact read0 m c t 1
      · exact GG_emb (XA m c) (XS m c) t 0 0 inb_S1x256x2048_S1x128x128_0_0_0 x (by decide) (by decide)
  · exact View.cover_of_tiledL _ ![1, 128, 128] (by sl_kernel_rfl) _

/-- The reference's result as a function of the kernel's arguments. -/
def REF (c : Dev nD) : FVec Ideal S4x4096x2048 .bf16 := val_main_v92 (F := Ideal) (XA m c) (XS m c)

theorem REF_apply (c : Dev nD) (t : Fin cfg0.N) (y) : GG (XA m c) (XS m c) t y = REF m c (((cfg0.win 7).blk t).view.emb y) := by
  unfold GG REF
  refine congrArg (val_main_v92 (F := Ideal) (XA m c) (XS m c)) ?_
  blk_ext [idx t]

/-- The result array after the run. -/
theorem final (c : Dev nD) (hX : ∀ i, ∃ r : ℝ, XA m c i = r) (hS : ∀ i, ∃ r : ℝ, XS m c i = r) : (dats m 0 c).arrAt 7 (cfgs 0).N = REF m c := by
  refine (dats m 0 c).arrAt_eq_of_covers 7 _ (by decide +kernel) fun t _ y => ?_
  blk_simp
  rw [after0_7]
  exact (out_all m c hX hS t y).trans (REF_apply m c t y)

end Cert.Proof.Att

end
-- ==== Proof.AttClaim.lean ====
/- The conjuncts about the attention: the two frames' quiescent forms and the value claim on finite arguments. -/
module

public import proofs.«01_k».proof.Defs
public import Idealize.ShloMosaic.Lib.Claim
public import Idealize.ShloMosaic.Lib.Quiescent
public import proofs.«01_k».proof.Proof.AttValue
public import proofs.«01_k».proof.Proof.Gen.AttReferenceIdeal.Run

@[expose] public section

set_option maxRecDepth 16384

noncomputable section

open Idealize.ShloMosaic Idealize.ShloMosaic.TcCoe Idealize.SL.Sem

namespace Cert.Proof.Att

/-- The side conditions of the precondition's operations. -/
theorem facts_pre : Cert.Pre_finite.Facts where
  bcast_S_S4x4096x23040 := by decide
  bcast_S_S1x32 := by decide

theorem ninf_bf16 : Ideal.ofBits .bf16 0xFF80#16 = ⊥ := by
  simp [Ideal.ofBits, Ideal.ieee, -EReal.coe_mul]
theorem pinf_bf16 : Ideal.ofBits .bf16 0x7F80#16 = ⊤ := by
  simp [Ideal.ofBits, Ideal.ieee, -EReal.coe_mul]
theorem ninf_f32 : Ideal.ofBits .f32 0xFF800000#32 = ⊥ := by
  simp [Ideal.ofBits, Ideal.ieee, -EReal.coe_mul]
theorem pinf_f32 : Ideal.ofBits .f32 0x7F800000#32 = ⊤ := by
  simp [Ideal.ofBits, Ideal.ieee, -EReal.coe_mul]

theorem real_of (φ : FTy) (x lo hi : EReal) (hlo : lo = ⊥) (hhi : hi = ⊤)
    (h : FloatOps.cmpf (F := Ideal) (φ := φ) .ogt x lo &&& FloatOps.cmpf (F := Ideal) (φ := φ) .olt x hi = 1#1) : ∃ r : ℝ, x = r := by
  subst hlo; subst hhi
  induction x using EReal.rec with
  | bot => exact absurd h (by simp [FloatOps.cmpf, Ideal.cmp])
  | top => exact absurd h (by simp [FloatOps.cmpf, Ideal.cmp])
  | coe r => exact ⟨r, rfl⟩

attribute [local instance] facts_pre

theorem real0 (A : FVec Ideal Cert.Pre_finite.S4x4096x23040 .bf16) (B : FVec Ideal Cert.Pre_finite.S1x32 .f32)
    (h : (Cert.Pre_finite.fn (F := Ideal) A B).1 = fun _ => 1#1) (i) : ∃ r : ℝ, (A i : EReal) = r :=
  real_of .bf16 (A i) (Ideal.ofBits .bf16 0xFF80#16) (Ideal.ofBits .bf16 0x7F80#16) ninf_bf16 pinf_bf16 (congrFun h i)

theorem real1 (A : FVec Ideal Cert.Pre_finite.S4x4096x23040 .bf16) (B : FVec Ideal Cert.Pre_finite.S1x32 .f32)
    (h : (Cert.Pre_finite.fn (F := Ideal) A B).2 = fun _ => 1#1) (i) : ∃ r : ℝ, (B i : EReal) = r :=
  real_of .f32 (B i) (Ideal.ofBits .f32 0xFF800000#32) (Ideal.ofBits .f32 0x7F800000#32) ninf_f32 pinf_f32 (congrFun h i)

/-- Every execution of the reference keeps its arguments and leaves no semaphore raised. -/
theorem frame_ref : Cert.quiescent_AttReferenceIdeal := fun m ρ _ =>
  (θ_run _ _ _).mono (fun r h => ⟨fun c => (h c).2, sem_eq_zero_of_no_sems (by decide) r.2⟩) (Cert.AttReferenceIdeal.Value.run m ρ)

/-- The same under the precondition. -/
theorem frame_ref_pre : Cert.quiescent_AttReferenceIdeal_pre_finite := fun m ρ _ => frame_ref m ρ trivial

/-- The mask's literal stands for minus infinity. -/
theorem preserves : Cert.preserves_AttKernel_AttKernelIdeal :=
  IdealRules.named_const.statement Cert.AttKernelIdeal.κ "mask" .f32 0xF149F2CA#32 ⊥ rfl

/-- The kernel and the reference end at the same result. -/
theorem algebraic : Cert.algebraic_AttKernelIdeal_AttReferenceIdeal_pre_finite := by
  pair_intro
  · run_from Cert.AttKernelIdeal.Value.run_blocks m g
  · run_from Cert.AttReferenceIdeal.Value.run m' g'
    rw [Cert.Proof.Att.final m c (fun i => real0 _ _ (hpre c).1 i) (fun i => real1 _ _ (hpre c).2 i)]
    refine (Cert.AttReferenceIdeal.Read.val_main_v92_eq m' c).trans ?_
    unfold REF
    exact congr (congrArg (Cert.AttReferenceIdeal.Read.val_main_v92 (F := Ideal)) (hagree c).1) (hagree c).2

end Cert.Proof.Att

end
-- ==== Proof.lean ====
/- The claims about the layer's calls, put together: for each call the frames of the kernel, of its idealization and of the
   reference, and that the idealized kernel and the reference end at the same results. The call's own modules
   (Proof/) prove them. -/
module

public import proofs.«01_k».proof.Defs
public import proofs.«01_k».proof.Proof.Gen.RetKernel
public import proofs.«01_k».proof.Proof.Gen.RetKernel.Skeleton
public import proofs.«01_k».proof.Proof.Gen.RetKernel.Launch
public import proofs.«01_k».proof.Proof.Gen.RetKernel.Points
public import proofs.«01_k».proof.Proof.Gen.RetKernel.Frame
public import proofs.«01_k».proof.Proof.Gen.RetKernelIdeal
public import proofs.«01_k».proof.Proof.Gen.RetKernelIdeal.Skeleton
public import proofs.«01_k».proof.Proof.Gen.RetKernelIdeal.Launch
public import proofs.«01_k».proof.Proof.Gen.RetKernelIdeal.Points
public import proofs.«01_k».proof.Proof.Gen.RetKernelIdeal.Frame
public import proofs.«01_k».proof.Proof.Gen.RetReferenceIdeal
public import proofs.«01_k».proof.Proof.Gen.RetKernelIdeal.Value
public import proofs.«01_k».proof.Proof.Gen.RetReferenceIdeal.Run
public import proofs.«01_k».proof.Proof.Gen.RetReferenceIdeal.Step
public import proofs.«01_k».proof.Proof.RetClaim
public import proofs.«01_k».proof.Proof.Gen.InKernel
public import proofs.«01_k».proof.Proof.Gen.InKernel.Skeleton
public import proofs.«01_k».proof.Proof.Gen.InKernel.Launch
public import proofs.«01_k».proof.Proof.Gen.InKernel.Points
public import proofs.«01_k».proof.Proof.Gen.InKernel.Frame
public import proofs.«01_k».proof.Proof.Gen.InKernelIdeal
public import proofs.«01_k».proof.Proof.Gen.InKernelIdeal.Skeleton
public import proofs.«01_k».proof.Proof.Gen.InKernelIdeal.Launch
public import proofs.«01_k».proof.Proof.Gen.InKernelIdeal.Points
public import proofs.«01_k».proof.Proof.Gen.InKernelIdeal.Frame
public import proofs.«01_k».proof.Proof.Gen.InReferenceIdeal
public import proofs.«01_k».proof.Proof.Gen.InReferenceIdeal.Run
public import proofs.«01_k».proof.Proof.Gen.InReferenceIdeal.Read
public import proofs.«01_k».proof.Proof.InClaim
public import proofs.«01_k».proof.Proof.Gen.MixKernel
public import proofs.«01_k».proof.Proof.Gen.MixKernel.Skeleton
public import proofs.«01_k».proof.Proof.Gen.MixKernel.Launch
public import proofs.«01_k».proof.Proof.Gen.MixKernel.Points
public import proofs.«01_k».proof.Proof.Gen.MixKernel.Frame
public import proofs.«01_k».proof.Proof.Gen.MixKernelIdeal
public import proofs.«01_k».proof.Proof.Gen.MixKernelIdeal.Skeleton
public import proofs.«01_k».proof.Proof.Gen.MixKernelIdeal.Launch
public import proofs.«01_k».proof.Proof.Gen.MixKernelIdeal.Points
public import proofs.«01_k».proof.Proof.Gen.MixKernelIdeal.Frame
public import proofs.«01_k».proof.Proof.Gen.MixReferenceIdeal
public import proofs.«01_k».proof.Proof.Gen.MixKernelIdeal.Value
public import proofs.«01_k».proof.Proof.Gen.MixReferenceIdeal.Run
public import proofs.«01_k».proof.Proof.Gen.MixReferenceIdeal.Read
public import proofs.«01_k».proof.Proof.MixClaim
public import proofs.«01_k».proof.Proof.Gen.ResidKernel
public import proofs.«01_k».proof.Proof.Gen.ResidKernel.Skeleton
public import proofs.«01_k».proof.Proof.Gen.ResidKernel.Launch
public import proofs.«01_k».proof.Proof.Gen.ResidKernel.Points
public import proofs.«01_k».proof.Proof.Gen.ResidKernel.Frame
public import proofs.«01_k».proof.Proof.Gen.ResidKernelIdeal
public import proofs.«01_k».proof.Proof.Gen.ResidKernelIdeal.Skeleton
public import proofs.«01_k».proof.Proof.Gen.ResidKernelIdeal.Launch
public import proofs.«01_k».proof.Proof.Gen.ResidKernelIdeal.Points
public import proofs.«01_k».proof.Proof.Gen.ResidKernelIdeal.Frame
public import proofs.«01_k».proof.Proof.Gen.ResidReferenceIdeal
public import proofs.«01_k».proof.Proof.Gen.ResidKernelIdeal.Value
public import proofs.«01_k».proof.Proof.Gen.ResidReferenceIdeal.Run
public import proofs.«01_k».proof.Proof.Gen.ResidReferenceIdeal.Read
public import proofs.«01_k».proof.Proof.ResidClaim
public import proofs.«01_k».proof.Proof.Gen.AdaKernel
public import proofs.«01_k».proof.Proof.Gen.AdaKernel.Skeleton
public import proofs.«01_k».proof.Proof.Gen.AdaKernel.Launch
public import proofs.«01_k».proof.Proof.Gen.AdaKernel.Points
public import proofs.«01_k».proof.Proof.Gen.AdaKernel.Frame
public import proofs.«01_k».proof.Proof.Gen.AdaKernelIdeal
public import proofs.«01_k».proof.Proof.Gen.AdaKernelIdeal.Skeleton
public import proofs.«01_k».proof.Proof.Gen.AdaKernelIdeal.Launch
public import proofs.«01_k».proof.Proof.Gen.AdaKernelIdeal.Points
public import proofs.«01_k».proof.Proof.Gen.AdaKernelIdeal.Frame
public import proofs.«01_k».proof.Proof.Gen.AdaReferenceIdeal
public import proofs.«01_k».proof.Proof.Gen.AdaKernelIdeal.Value
public import proofs.«01_k».proof.Proof.Gen.AdaReferenceIdeal.Run
public import proofs.«01_k».proof.Proof.Gen.AdaReferenceIdeal.Read
public import proofs.«01_k».proof.Proof.AdaClaim
public import proofs.«01_k».proof.Proof.Gen.NormKernel
public import proofs.«01_k».proof.Proof.Gen.NormKernel.Skeleton
public import proofs.«01_k».proof.Proof.Gen.NormKernel.Launch
public import proofs.«01_k».proof.Proof.Gen.NormKernel.Points
public import proofs.«01_k».proof.Proof.Gen.NormKernel.Frame
public import proofs.«01_k».proof.Proof.Gen.NormKernelIdeal
public import proofs.«01_k».proof.Proof.Gen.NormKernelIdeal.Skeleton
public import proofs.«01_k».proof.Proof.Gen.NormKernelIdeal.Launch
public import proofs.«01_k».proof.Proof.Gen.NormKernelIdeal.Points
public import proofs.«01_k».proof.Proof.Gen.NormKernelIdeal.Frame
public import proofs.«01_k».proof.Proof.Gen.NormReferenceIdeal
public import proofs.«01_k».proof.Proof.Gen.NormKernelIdeal.Value
public import proofs.«01_k».proof.Proof.Gen.NormReferenceIdeal.Run
public import proofs.«01_k».proof.Proof.Gen.NormReferenceIdeal.Read
public import proofs.«01_k».proof.Proof.NormClaim
public import proofs.«01_k».proof.Proof.Gen.AttKernel
public import proofs.«01_k».proof.Proof.Gen.AttKernel.Skeleton
public import proofs.«01_k».proof.Proof.Gen.AttKernel.Launch
public import proofs.«01_k».proof.Proof.Gen.AttKernel.Points
public import proofs.«01_k».proof.Proof.Gen.AttKernel.Frame
public import proofs.«01_k».proof.Proof.Gen.AttKernelIdeal
public import proofs.«01_k».proof.Proof.Gen.AttKernelIdeal.Skeleton
public import proofs.«01_k».proof.Proof.Gen.AttKernelIdeal.Launch
public import proofs.«01_k».proof.Proof.Gen.AttKernelIdeal.Points
public import proofs.«01_k».proof.Proof.Gen.AttKernelIdeal.Frame
public import proofs.«01_k».proof.Proof.Gen.AttReferenceIdeal
public import proofs.«01_k».proof.Proof.Gen.AttKernelIdeal.Value
public import proofs.«01_k».proof.Proof.Gen.AttReferenceIdeal.Run
public import proofs.«01_k».proof.Proof.Gen.AttReferenceIdeal.Read
public import proofs.«01_k».proof.Proof.AttClaim
public import Idealize.ShloMosaic.Adequacy
public import Idealize.ShloMosaic.Init

@[expose] public section

noncomputable section

namespace Cert.Proof

open Idealize.ShloMosaic Idealize.SL.Sem

theorem claim : Cert.Claim :=
  ⟨Cert.RetKernel.Gen.facts,
   Cert.RetKernelIdeal.Gen.facts,
   Cert.RetReferenceIdeal.Gen.facts,
   Cert.InKernel.Gen.facts,
   Cert.InKernelIdeal.Gen.facts,
   Cert.InReferenceIdeal.Gen.facts,
   Cert.MixKernel.Gen.facts,
   Cert.MixKernelIdeal.Gen.facts,
   Cert.MixReferenceIdeal.Gen.facts,
   Cert.ResidKernel.Gen.facts,
   Cert.ResidKernelIdeal.Gen.facts,
   Cert.ResidReferenceIdeal.Gen.facts,
   Cert.AdaKernel.Gen.facts,
   Cert.AdaKernelIdeal.Gen.facts,
   Cert.AdaReferenceIdeal.Gen.facts,
   Cert.NormKernel.Gen.facts,
   Cert.NormKernelIdeal.Gen.facts,
   Cert.NormReferenceIdeal.Gen.facts,
   Cert.AttKernel.Gen.facts,
   Cert.AttKernelIdeal.Gen.facts,
   Cert.AttReferenceIdeal.Gen.facts,
   Cert.Proof.Att.facts_pre,
   fun m ρ _ => Cert.RetKernel.Gen.frame m ρ,
   fun m ρ _ => Cert.RetKernelIdeal.Gen.frame m ρ,
   Cert.Proof.Ret.frame_ref,
   Cert.Proof.In.frame_bits,
   Cert.Proof.In.frame_kernel,
   Cert.Proof.In.frame_ref,
   fun m ρ _ => Cert.MixKernel.Gen.frame m ρ,
   fun m ρ _ => Cert.MixKernelIdeal.Gen.frame m ρ,
   Cert.Proof.Mix.frame_ref,
   fun m ρ _ => Cert.ResidKernel.Gen.frame m ρ,
   fun m ρ _ => Cert.ResidKernelIdeal.Gen.frame m ρ,
   Cert.Proof.Resid.frame_ref,
   fun m ρ _ => Cert.AdaKernel.Gen.frame m ρ,
   fun m ρ _ => Cert.AdaKernelIdeal.Gen.frame m ρ,
   Cert.Proof.Ada.frame_ref,
   fun m ρ _ => Cert.NormKernel.Gen.frame m ρ,
   fun m ρ _ => Cert.NormKernelIdeal.Gen.frame m ρ,
   Cert.Proof.Norm.frame_ref,
   fun m ρ _ => Cert.AttKernel.Gen.frame m ρ,
   fun m ρ _ => Cert.AttKernelIdeal.Gen.frame m ρ,
   fun m ρ _ => Cert.AttKernelIdeal.Gen.frame m ρ,
   Cert.Proof.Att.frame_ref,
   Cert.Proof.Att.frame_ref_pre,
   trivial,
   Cert.Proof.Ret.algebraic,
   trivial,
   Cert.Proof.In.algebraic,
   trivial,
   Cert.Proof.Mix.algebraic,
   trivial,
   Cert.Proof.Resid.algebraic,
   trivial,
   Cert.Proof.Ada.algebraic,
   trivial,
   Cert.Proof.Norm.algebraic,
   Cert.Proof.Att.preserves,
   Cert.Proof.Att.algebraic⟩

end Cert.Proof

end
